-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "masked" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "q_scale" .f32 0x3E0293EE#32 (((Real.sqrt 128)⁻¹ * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)) (v1 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_v6) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v5) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v96) = v0 c
          ∧ r.2.mem ((c.tc : Thread Cert.Reference4Ideal.nD Cert.Reference4Ideal.τ).loc Cert.Reference4Ideal.main_v99) = v1 c
          ∧ r.2.mem ((c.tc : Thread Cert.Reference4Ideal.nD Cert.Reference4Ideal.τ).loc Cert.Reference4Ideal.main_v101) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S4x4096x8192 : Shape := ⟨3, ![4, 4096, 8192]⟩
abbrev S16x8192 : Shape := ⟨2, ![16, 8192]⟩
abbrev S4x16x4096 : Shape := ⟨3, ![4, 16, 4096]⟩
abbrev S16x16 : Shape := ⟨2, ![16, 16]⟩
abbrev S_ : Shape := ⟨0, ![]⟩

class Facts : Prop where
  bcast_S_S4x4096x8192 : S_.BroadcastsInDim S4x4096x8192 (![] : Fin 0 → Fin S4x4096x8192.rank)
  bcast_S_S16x8192 : S_.BroadcastsInDim S16x8192 (![] : Fin 0 → Fin S16x8192.rank)
  bcast_S_S4x16x4096 : S_.BroadcastsInDim S4x16x4096 (![] : Fin 0 → Fin S4x16x4096.rank)
  bcast_S_S16x16 : S_.BroadcastsInDim S16x16 (![] : Fin 0 → Fin S16x16.rank)

variable [Facts]

def fn {F : FTy → Type} [FloatOps F] (main_arg0 : FVec F S4x4096x8192 .f32) (main_arg1 : FVec F S16x8192 .f32) (main_arg2 : FVec F S4x16x4096 .f32) (main_arg3 : FVec F S16x16 .f32) : IVec S4x4096x8192 1 × IVec S16x8192 1 × IVec S4x16x4096 1 × IVec S16x16 1 :=
  let main_v0 : FVec F S4x4096x8192 .f32 := Host.absf main_arg0
  let main_cst : FVec F S_ .f32 := constant S_ .f32 0x7F800000#32
  let main_v1 : FVec F S4x4096x8192 .f32 := broadcastInDim S4x4096x8192 ![] bcast_S_S4x4096x8192 main_cst
  let main_v2 : IVec S4x4096x8192 1 := cmpf .olt main_v0 main_v1
  let main_v3 : FVec F S16x8192 .f32 := Host.absf main_arg1
  let main_cst_0 : FVec F S_ .f32 := constant S_ .f32 0x7F800000#32
  let main_v4 : FVec F S16x8192 .f32 := broadcastInDim S16x8192 ![] bcast_S_S16x8192 main_cst_0
  let main_v5 : IVec S16x8192 1 := cmpf .olt main_v3 main_v4
  let main_v6 : FVec F S4x16x4096 .f32 := Host.absf main_arg2
  let main_cst_1 : FVec F S_ .f32 := constant S_ .f32 0x7F800000#32
  let main_v7 : FVec F S4x16x4096 .f32 := broadcastInDim S4x16x4096 ![] bcast_S_S4x16x4096 main_cst_1
  let main_v8 : IVec S4x16x4096 1 := cmpf .olt main_v6 main_v7
  let main_v9 : FVec F S16x16 .f32 := Host.absf main_arg3
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  (main_v2, main_v5, main_v8, main_v11)
-- ==== Pre_finite4.lean ====
abbrev S4x4096x2048 : Shape := ⟨3, ![4, 4096, 2048]⟩
abbrev S2048x2048 : Shape := ⟨2, ![2048, 2048]⟩
abbrev S2048 : Shape := ⟨1, ![2048]⟩
abbrev S2048x4096 : Shape := ⟨2, ![2048, 4096]⟩
abbrev S16x2048 : Shape := ⟨2, ![16, 2048]⟩
abbrev S_ : Shape := ⟨0, ![]⟩

class Facts : Prop where
  bcast_S_S4x4096x2048 : S_.BroadcastsInDim S4x4096x2048 (![] : Fin 0 → Fin S4x4096x2048.rank)
  bcast_S_S2048x2048 : S_.BroadcastsInDim S2048x2048 (![] : Fin 0 → Fin S2048x2048.rank)
  bcast_S_S2048 : S_.BroadcastsInDim S2048 (![] : Fin 0 → Fin S2048.rank)
  bcast_S_S2048x4096 : S_.BroadcastsInDim S2048x4096 (![] : Fin 0 → Fin S2048x4096.rank)
  bcast_S_S16x2048 : S_.BroadcastsInDim S16x2048 (![] : Fin 0 → Fin S16x2048.rank)

variable [Facts]

def fn_part1 {F : FTy → Type} [FloatOps F] (main_arg6 : FVec F S16x2048 .f32) (main_v2 : IVec S4x4096x2048 1) (main_v5 : IVec S2048x2048 1) (main_v8 : IVec S4x4096x2048 1) (main_v11 : IVec S2048 1) (main_v14 : IVec S2048 1) (main_v17 : IVec S2048x4096 1) : IVec S4x4096x2048 1 × IVec S2048x2048 1 × IVec S4x4096x2048 1 × IVec S2048 1 × IVec S2048 1 × IVec S2048x4096 1 × IVec S16x2048 1 :=
  let main_v18 : FVec F S16x2048 .f32 := Host.absf main_arg6
  let main_cst_5 : FVec F S_ .f32 := constant S_ .f32 0x7F800000#32
  let main_v19 : FVec F S16x2048 .f32 := broadcastInDim S16x2048 ![] bcast_S_S16x2048 main_cst_5
  let main_v20 : IVec S16x2048 1 := cmpf .olt main_v18 main_v19
  (main_v2, main_v5, main_v8, main_v11, main_v14, main_v17, main_v20)

def fn {F : FTy → Type} [FloatOps F] (main_arg0 : FVec F S4x4096x2048 .f32) (main_arg1 : FVec F S2048x2048 .f32) (main_arg2 : FVec F S4x4096x2048 .f32) (main_arg3 : FVec F S2048 .f32) (main_arg4 : FVec F S2048 .f32) (main_arg5 : FVec F S2048x4096 .f32) (main_arg6 : FVec F S16x2048 .f32) : IVec S4x4096x2048 1 × IVec S2048x2048 1 × IVec S4x4096x2048 1 × IVec S2048 1 × IVec S2048 1 × IVec S2048x4096 1 × IVec S16x2048 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S4x4096x2048 .f32 := Host.absf main_arg2
  let main_cst_1 : FVec F S_ .f32 := constant S_ .f32 0x7F800000#32
  let main_v7 : FVec F S4x4096x2048 .f32 := broadcastInDim S4x4096x2048 ![] bcast_S_S4x4096x2048 main_cst_1
  let main_v8 : IVec S4x4096x2048 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S2048 .f32 := Host.absf main_arg4
  let main_cst_3 : FVec F S_ .f32 := constant S_ .f32 0x7F800000#32
  let main_v13 : FVec F S2048 .f32 := broadcastInDim S2048 ![] bcast_S_S2048 main_cst_3
  let main_v14 : IVec S2048 1 := cmpf .olt main_v12 main_v13
  let main_v15 : FVec F S2048x4096 .f32 := Host.absf main_arg5
  let main_cst_4 : FVec F S_ .f32 := constant S_ .f32 0x7F800000#32
  let main_v16 : FVec F S2048x4096 .f32 := broadcastInDim S2048x4096 ![] bcast_S_S2048x4096 main_cst_4
  let main_v17 : IVec S2048x4096 1 := cmpf .olt main_v15 main_v16
  fn_part1 (F := F) main_arg6 main_v2 main_v5 main_v8 main_v11 main_v14 main_v17
-- ==== Kernel.lean ====
abbrev S4x4096x8192 : Shape := ⟨3, ![4, 4096, 8192]⟩
abbrev S16x8192 : Shape := ⟨2, ![16, 8192]⟩
abbrev S4x16x4096 : Shape := ⟨3, ![4, 16, 4096]⟩
abbrev S16x16 : Shape := ⟨2, ![16, 16]⟩
abbrev S_ : Shape := ⟨0, ![]⟩
abbrev S8192 : Shape := ⟨1, ![8192]⟩
abbrev S4x16x1x4096 : Shape := ⟨4, ![4, 16, 1, 4096]⟩
abbrev S16x112 : Shape := ⟨2, ![16, 112]⟩
abbrev S16x128 : Shape := ⟨2, ![16, 128]⟩
abbrev S16x1x128 : Shape := ⟨3, ![16, 1, 128]⟩
abbrev S1x1x8192 : Shape := ⟨3, ![1, 1, 8192]⟩
abbrev S4x4096x2048 : Shape := ⟨3, ![4, 4096, 2048]⟩
abbrev S1x4096x128 : Shape := ⟨3, ![1, 4096, 128]⟩
abbrev S1x1x1x4096 : Shape := ⟨4, ![1, 1, 1, 4096]⟩
abbrev S1x1x128 : Shape := ⟨3, ![1, 1, 128]⟩
abbrev S4096x256 : Shape := ⟨2, ![4096, 256]⟩
abbrev S128x128 : Shape := ⟨2, ![128, 128]⟩
abbrev S8x256x512 : Shape := ⟨3, ![8, 256, 512]⟩
abbrev S144x4096 : Shape := ⟨2, ![144, 4096]⟩
abbrev S1x4096 : Shape := ⟨2, ![1, 4096]⟩
abbrev S128x4096 : Shape := ⟨2, ![128, 4096]⟩
abbrev S4096x128 : Shape := ⟨2, ![4096, 128]⟩
abbrev S1x128 : Shape := ⟨2, ![1, 128]⟩
abbrev S16x4096 : Shape := ⟨2, ![16, 4096]⟩
abbrev S1x1x1x512 : Shape := ⟨4, ![1, 1, 1, 512]⟩
abbrev S1x512 : Shape := ⟨2, ![1, 512]⟩
abbrev S1 : Shape := ⟨1, ![1]⟩
abbrev S1x1 : Shape := ⟨2, ![1, 1]⟩
abbrev S128x512 : Shape := ⟨2, ![128, 512]⟩
abbrev S1x128x512 : Shape := ⟨3, ![1, 128, 512]⟩
abbrev S4096 : Shape := ⟨1, ![4096]⟩
abbrev S512x256 : Shape := ⟨2, ![512, 256]⟩
abbrev S1x256x512 : Shape := ⟨3, ![1, 256, 512]⟩
abbrev S256x512 : Shape := ⟨2, ![256, 512]⟩
abbrev S512x512 : Shape := ⟨2, ![512, 512]⟩
abbrev S512 : Shape := ⟨1, ![512]⟩
abbrev S1024x256 : Shape := ⟨2, ![1024, 256]⟩
abbrev S1024x512 : Shape := ⟨2, ![1024, 512]⟩
abbrev S1536x256 : Shape := ⟨2, ![1536, 256]⟩
abbrev S1536x512 : Shape := ⟨2, ![1536, 512]⟩
abbrev S2048x256 : Shape := ⟨2, ![2048, 256]⟩
abbrev S2048x512 : Shape := ⟨2, ![2048, 512]⟩
abbrev S2560x256 : Shape := ⟨2, ![2560, 256]⟩
abbrev S2560x512 : Shape := ⟨2, ![2560, 512]⟩
abbrev S144x512 : Shape := ⟨2, ![144, 512]⟩
abbrev S512x128 : Shape := ⟨2, ![512, 128]⟩
abbrev S1x512x128 : Shape := ⟨3, ![1, 512, 128]⟩
abbrev S3072x256 : Shape := ⟨2, ![3072, 256]⟩
abbrev S3072x512 : Shape := ⟨2, ![3072, 512]⟩
abbrev S144x1024 : Shape := ⟨2, ![144, 1024]⟩
abbrev S3584x256 : Shape := ⟨2, ![3584, 256]⟩
abbrev S3584x512 : Shape := ⟨2, ![3584, 512]⟩
abbrev S144x1536 : Shape := ⟨2, ![144, 1536]⟩
abbrev S4096x512 : Shape := ⟨2, ![4096, 512]⟩
abbrev S144x2048 : Shape := ⟨2, ![144, 2048]⟩
abbrev S144x2560 : Shape := ⟨2, ![144, 2560]⟩
abbrev S144x3072 : Shape := ⟨2, ![144, 3072]⟩
abbrev S144x3584 : Shape := ⟨2, ![144, 3584]⟩

abbrev nBuf : Space → Nat
  | .hbm => 37
  | .vmem => 22
  | .smem => 0
  | _ => 0

abbrev bufTy : (tb : Table) → Fin (tcTables nBuf tb) → BufTy
  | .hbm, ⟨0, _⟩ => ⟨S4x4096x8192, .f32⟩
  | .hbm, ⟨1, _⟩ => ⟨S16x8192, .f32⟩
  | .hbm, ⟨2, _⟩ => ⟨S4x16x4096, .f32⟩
  | .hbm, ⟨3, _⟩ => ⟨S16x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S4x16x4096, .f32⟩
  | .hbm, ⟨23, _⟩ => ⟨S4x16x4096, .f32⟩
  | .hbm, ⟨24, _⟩ => ⟨S4x16x1x4096, .f32⟩
  | .hbm, ⟨25, _⟩ => ⟨S16x16, .f32⟩
  | .hbm, ⟨26, _⟩ => ⟨S16x16, .f32⟩
  | .hbm, ⟨27, _⟩ => ⟨S_, .f32⟩
  | .hbm, ⟨28, _⟩ => ⟨S16x112, .f32⟩
  | .hbm, ⟨29, _⟩ => ⟨S16x128, .f32⟩
  | .hbm, ⟨30, _⟩ => ⟨S16x1x128, .f32⟩
  | .hbm, ⟨31, _⟩ => ⟨S1x1x8192, .f32⟩
  | .hbm, ⟨32, _⟩ => ⟨S4x4096x8192, .f32⟩
  | .hbm, ⟨33, _⟩ => ⟨S4x4096x8192, .f32⟩
  | .hbm, ⟨34, _⟩ => ⟨S4x4096x8192, .bf16⟩
  | .hbm, ⟨35, _⟩ => ⟨S16x8192, .bf16⟩
  | .hbm, ⟨36, _⟩ => ⟨S4x4096x2048, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S16x128, .bf16⟩
  | .local _ .vmem, ⟨9, _⟩ => ⟨S16x128, .bf16⟩
  | .local _ .vmem, ⟨10, _⟩ => ⟨S16x128, .bf16⟩
  | .local _ .vmem, ⟨11, _⟩ => ⟨S16x128, .bf16⟩
  | .local _ .vmem, ⟨12, _⟩ => ⟨S1x1x1x4096, .f32⟩
  | .local _ .vmem, ⟨13, _⟩ => ⟨S1x1x1x4096, .f32⟩
  | .local _ .vmem, ⟨14, _⟩ => ⟨S1x1x128, .f32⟩
  | .local _ .vmem, ⟨15, _⟩ => ⟨S1x1x128, .f32⟩
  | .local _ .vmem, ⟨16, _⟩ => ⟨S1x4096x128, .bf16⟩
  | .local _ .vmem, ⟨17, _⟩ => ⟨S1x4096x128, .bf16⟩
  | .local _ .vmem, ⟨18, _⟩ => ⟨S4096x256, .bf16⟩
  | .local _ .vmem, ⟨19, _⟩ => ⟨S128x128, .f32⟩
  | .local _ .vmem, ⟨20, _⟩ => ⟨S8x256x512, .bf16⟩
  | .local _ .vmem, ⟨21, _⟩ => ⟨S144x4096, .bf16⟩
  | _, _ => ⟨S4x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S16x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "masked" => some ⊥
  | _ => none
-- ==== ReferenceIdeal.lean ====
abbrev S4x4096x8192 : Shape := ⟨3, ![4, 4096, 8192]⟩
abbrev S16x8192 : Shape := ⟨2, ![16, 8192]⟩
abbrev S4x16x4096 : Shape := ⟨3, ![4, 16, 4096]⟩
abbrev S16x16 : Shape := ⟨2, ![16, 16]⟩
abbrev S1x16x8192 : Shape := ⟨3, ![1, 16, 8192]⟩
abbrev S4x16x8192 : Shape := ⟨3, ![4, 16, 8192]⟩
abbrev S4x4112x8192 : Shape := ⟨3, ![4, 4112, 8192]⟩
abbrev S4x4112x2048 : Shape := ⟨3, ![4, 4112, 2048]⟩
abbrev S4x4112x16x128 : Shape := ⟨4, ![4, 4112, 16, 128]⟩
abbrev S4x16x4112x128 : Shape := ⟨4, ![4, 16, 4112, 128]⟩
abbrev S1x16x16 : Shape := ⟨3, ![1, 16, 16]⟩
abbrev S4x16x16 : Shape := ⟨3, ![4, 16, 16]⟩
abbrev S4x16x4112 : Shape := ⟨3, ![4, 16, 4112]⟩
abbrev S4112 : Shape := ⟨1, ![4112]⟩
abbrev S4x16x4096x128 : Shape := ⟨4, ![4, 16, 4096, 128]⟩
abbrev S4x16x4096x4112 : Shape := ⟨4, ![4, 16, 4096, 4112]⟩
abbrev S_ : Shape := ⟨0, ![]⟩
abbrev S4x16x4096x1 : Shape := ⟨4, ![4, 16, 4096, 1]⟩
abbrev S4x16x1x4112 : Shape := ⟨4, ![4, 16, 1, 4112]⟩
abbrev S1x4112 : Shape := ⟨2, ![1, 4112]⟩
abbrev S4096 : Shape := ⟨1, ![4096]⟩
abbrev S4096x1 : Shape := ⟨2, ![4096, 1]⟩
abbrev S4096x4112 : Shape := ⟨2, ![4096, 4112]⟩
abbrev S1x1x4096x4112 : Shape := ⟨4, ![1, 1, 4096, 4112]⟩
abbrev S4x4096x16x128 : Shape := ⟨4, ![4, 4096, 16, 128]⟩
abbrev S4x4096x2048 : Shape := ⟨3, ![4, 4096, 2048]⟩

abbrev nBuf : Space → Nat
  | .hbm => 75
  | .vmem => 0
  | .smem => 0
  | _ => 0

abbrev bufTy : (tb : Table) → Fin (tcTables nBuf tb) → BufTy
  | .hbm, ⟨0, _⟩ => ⟨S4x4096x8192, .f32⟩
  | .hbm, ⟨1, _⟩ => ⟨S16x8192, .f32⟩
  | .hbm, ⟨2, _⟩ => ⟨S4x16x4096, .f32⟩
  | .hbm, ⟨3, _⟩ => ⟨S16x16, .f32⟩
  | .hbm, ⟨4, _⟩ => ⟨S1x16x8192, .f32⟩
  | .hbm, ⟨5, _⟩ => ⟨S4x16x8192, .f32⟩
  | .hbm, ⟨6, _⟩ => ⟨S4x4112x8192, .f32⟩
  | .hbm, ⟨7, _⟩ => ⟨S4x4112x2048, .f32⟩
  | .hbm, ⟨8, _⟩ => ⟨S4x4112x2048, .f32⟩
  | .hbm, ⟨9, _⟩ => ⟨S4x4112x2048, .f32⟩
  | .hbm, ⟨10, _⟩ => ⟨S4x4112x2048, .f32⟩
  | .hbm, ⟨11, _⟩ => ⟨S4x4112x16x128, .f32⟩
  | .hbm, ⟨12, _⟩ => ⟨S4x16x4112x128, .f32⟩
  | .hbm, ⟨13, _⟩ => ⟨S4x4112x16x128, .f32⟩
  | .hbm, ⟨14, _⟩ => ⟨S4x16x4112x128, .f32⟩
  | .hbm, ⟨15, _⟩ => ⟨S4x4112x16x128, .f32⟩
  | .hbm, ⟨16, _⟩ => ⟨S4x16x4112x128, .f32⟩
  | .hbm, ⟨17, _⟩ => ⟨S1x16x16, .f32⟩
  | .hbm, ⟨18, _⟩ => ⟨S4x16x16, .f32⟩
  | .hbm, ⟨19, _⟩ => ⟨S4x16x4112, .f32⟩
  | .hbm, ⟨20, _⟩ => ⟨S4112, .i32⟩
  | .hbm, ⟨21, _⟩ => ⟨S4x16x4096x128, .f32⟩
  | .hbm, ⟨22, _⟩ => ⟨S4x16x4096x4112, .f32⟩
  | .hbm, ⟨23, _⟩ => ⟨S_, .f32⟩
  | .hbm, ⟨24, _⟩ => ⟨S_, .f32⟩
  | .hbm, ⟨25, _⟩ => ⟨S4x16x4096x4112, .f32⟩
  | .hbm, ⟨26, _⟩ => ⟨S4x16x4096x4112, .f32⟩
  | .hbm, ⟨27, _⟩ => ⟨S4x16x4096, .f32⟩
  | .hbm, ⟨28, _⟩ => ⟨S4x16x4096x1, .f32⟩
  | .hbm, ⟨29, _⟩ => ⟨S4x16x4096x4112, .f32⟩
  | .hbm, ⟨30, _⟩ => ⟨S4x16x4096x4112, .f32⟩
  | .hbm, ⟨31, _⟩ => ⟨S4x16x1x4112, .f32⟩
  | .hbm, ⟨32, _⟩ => ⟨S4x16x4096x4112, .f32⟩
  | .hbm, ⟨33, _⟩ => ⟨S4x16x4096x4112, .f32⟩
  | .hbm, ⟨34, _⟩ => ⟨S1x4112, .i32⟩
  | .hbm, ⟨35, _⟩ => ⟨S4096, .i32⟩
  | .hbm, ⟨36, _⟩ => ⟨S4096x1, .i32⟩
  | .hbm, ⟨37, _⟩ => ⟨S4096x4112, .i32⟩
  | .hbm, ⟨38, _⟩ => ⟨S4096x4112, .i32⟩
  | .hbm, ⟨39, _⟩ => ⟨S4096x4112, .i1⟩
  | .hbm, ⟨40, _⟩ => ⟨S1x1x4096x4112, .i1⟩
  | .hbm, ⟨41, _⟩ => ⟨S_, .f32⟩
  | .hbm, ⟨42, _⟩ => ⟨S_, .f32⟩
  | .hbm, ⟨43, _⟩ => ⟨S4x16x4096x4112, .i1⟩
  | .hbm, ⟨44, _⟩ => ⟨S4x16x4096x4112, .f32⟩
  | .hbm, ⟨45, _⟩ => ⟨S4x16x4096x4112, .f32⟩
  | .hbm, ⟨46, _⟩ => ⟨S_, .f32⟩
  | .hbm, ⟨47, _⟩ => ⟨S4x16x4096, .f32⟩
  | .hbm, ⟨48, _⟩ => ⟨S_, .f32⟩
  | .hbm, ⟨49, _⟩ => ⟨S4x16x4096, .f32⟩
  | .hbm, ⟨50, _⟩ => ⟨S4x16x4096, .f32⟩
  | .hbm, ⟨51, _⟩ => ⟨S4x16x4096x1, .f32⟩
  | .hbm, ⟨52, _⟩ => ⟨S4x16x4096x4112, .f32⟩
  | .hbm, ⟨53, _⟩ => ⟨S4x16x4096x4112, .f32⟩
  | .hbm, ⟨54, _⟩ => ⟨S4x16x4096x4112, .f32⟩
  | .hbm, ⟨55, _⟩ => ⟨S_, .f32⟩
  | .hbm, ⟨56, _⟩ => ⟨S4x16x4096, .f32⟩
  | .hbm, ⟨57, _⟩ => ⟨S4x16x4096x1, .f32⟩
  | .hbm, ⟨58, _⟩ => ⟨S4x16x4096x4112, .f32⟩
  | .hbm, ⟨59, _⟩ => ⟨S4x16x4096x4112, .f32⟩
  | .hbm, ⟨60, _⟩ => ⟨S4x16x4096x128, .f32⟩
  | .hbm, ⟨61, _⟩ => ⟨S4x4096x16x128, .f32⟩
  | .hbm, ⟨62, _⟩ => ⟨S4x4096x2048, .f32⟩
  | .hbm, ⟨63, _⟩ => ⟨S4x4096x2048, .f32⟩
  | .hbm, ⟨64, _⟩ => ⟨S4x4096x2048, .f32⟩
  | .hbm, ⟨65, _⟩ => ⟨S4x4096x2048, .f32⟩
  | .hbm, ⟨66, _⟩ => ⟨S_, .f32⟩
  | .hbm, ⟨67, _⟩ => ⟨S4x4096x2048, .f32⟩
  | .hbm, ⟨68, _⟩ => ⟨S4x4096x2048, .f32⟩
  | .hbm, ⟨69, _⟩ => ⟨S_, .f32⟩
  | .hbm, ⟨70, _⟩ => ⟨S4x4096x2048, .f32⟩
  | .hbm, ⟨71, _⟩ => ⟨S4x4096x2048, .f32⟩
  | .hbm, ⟨72, _⟩ => ⟨S4x4096x2048, .f32⟩
  | .hbm, ⟨73, _⟩ => ⟨S4x4096x2048, .f32⟩
  | .hbm, ⟨74, _⟩ => ⟨S4x4096x2048, .bf16⟩
  | _, _ => ⟨S4x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_0 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v36 : Ref sig .tc := ⟨.hbm, 45, rfl⟩
abbrev main_cst_1 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel2.lean ====
abbrev S4x4096x2048 : Shape := ⟨3, ![4, 4096, 2048]⟩
abbrev S2048x8208 : Shape := ⟨2, ![2048, 8208]⟩
abbrev S8208x2048 : Shape := ⟨2, ![8208, 2048]⟩
abbrev S16384x2048 : Shape := ⟨2, ![16384, 2048]⟩
abbrev S16384x8192 : Shape := ⟨2, ![16384, 8192]⟩
abbrev S16384x128 : Shape := ⟨2, ![16384, 128]⟩
abbrev S1024x2048 : Shape := ⟨2, ![1024, 2048]⟩
abbrev S2048x2048 : Shape := ⟨2, ![2048, 2048]⟩
abbrev S16x2048 : Shape := ⟨2, ![16, 2048]⟩
abbrev S1024x128 : Shape := ⟨2, ![1024, 128]⟩
abbrev S112x2048 : Shape := ⟨2, ![112, 2048]⟩
abbrev S128x2048 : Shape := ⟨2, ![128, 2048]⟩
abbrev S4x4096x8192 : Shape := ⟨3, ![4, 4096, 8192]⟩
abbrev S16384x16 : Shape := ⟨2, ![16384, 16]⟩
abbrev S4x4096x16 : Shape := ⟨3, ![4, 4096, 16]⟩

abbrev nBuf : Space → Nat
  | .hbm => 10
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048x8208, .f32⟩
  | .hbm, ⟨2, _⟩ => ⟨S8208x2048, .f32⟩
  | .hbm, ⟨3, _⟩ => ⟨S8208x2048, .bf16⟩
  | .hbm, ⟨4, _⟩ => ⟨S16384x2048, .f32⟩
  | .hbm, ⟨5, _⟩ => ⟨S16384x8192, .bf16⟩
  | .hbm, ⟨6, _⟩ => ⟨S16384x128, .f32⟩
  | .hbm, ⟨7, _⟩ => ⟨S4x4096x8192, .bf16⟩
  | .hbm, ⟨8, _⟩ => ⟨S16384x16, .f32⟩
  | .hbm, ⟨9, _⟩ => ⟨S4x4096x16, .f32⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S2048x2048, .bf16⟩
  | .local _ .vmem, ⟨4, _⟩ => ⟨S16x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x128, .f32⟩
  | .local _ .vmem, ⟨8, _⟩ => ⟨S1024x128, .f32⟩
  | .local _ .vmem, ⟨9, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let c0_i32 : BitVec 32 := 0#32
  let c0_i32_0 : BitVec 32 := 0#32
  ![c512_i32.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S16x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Kernel2Ideal.lean ====
variable {F : FTy → Type} [FloatOps F] [Named F]
def κ : String → Option EReal := fun
  | "q_scale" => some (((Real.sqrt 128)⁻¹ * (Real.log 2)⁻¹ : ℝ) : EReal)
  | _ => none
-- ==== Reference2Ideal.lean ====
abbrev S4x4096x2048 : Shape := ⟨3, ![4, 4096, 2048]⟩
abbrev S2048x8208 : Shape := ⟨2, ![2048, 8208]⟩
abbrev S4x4096x8208 : Shape := ⟨3, ![4, 4096, 8208]⟩
abbrev S4x4096x16 : Shape := ⟨3, ![4, 4096, 16]⟩
abbrev S_ : Shape := ⟨0, ![]⟩
abbrev S4x4096x8192 : Shape := ⟨3, ![4, 4096, 8192]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x8208, .f32⟩
  | .hbm, ⟨2, _⟩ => ⟨S4x4096x8208, .f32⟩
  | .hbm, ⟨3, _⟩ => ⟨S4x4096x2048, .f32⟩
  | .hbm, ⟨4, _⟩ => ⟨S4x4096x2048, .f32⟩
  | .hbm, ⟨5, _⟩ => ⟨S4x4096x2048, .f32⟩
  | .hbm, ⟨6, _⟩ => ⟨S4x4096x2048, .f32⟩
  | .hbm, ⟨7, _⟩ => ⟨S4x4096x16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4x4096x2048, .f32⟩
  | .hbm, ⟨18, _⟩ => ⟨S4x4096x2048, .f32⟩
  | .hbm, ⟨19, _⟩ => ⟨S4x4096x8192, .f32⟩
  | .hbm, ⟨20, _⟩ => ⟨S4x4096x8192, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S4x4096x2048 : Shape := ⟨3, ![4, 4096, 2048]⟩
abbrev S4x512x512 : Shape := ⟨3, ![4, 512, 512]⟩
abbrev S2048 : Shape := ⟨1, ![2048]⟩
abbrev S2048x2048 : Shape := ⟨2, ![2048, 2048]⟩
abbrev S16384x2048 : Shape := ⟨2, ![16384, 2048]⟩
abbrev S1x2048 : Shape := ⟨2, ![1, 2048]⟩
abbrev S512x2048 : Shape := ⟨2, ![512, 2048]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩
abbrev S256x2048 : Shape := ⟨2, ![256, 2048]⟩
abbrev S256 : Shape := ⟨1, ![256]⟩
abbrev S256x1 : Shape := ⟨2, ![256, 1]⟩

abbrev nBuf : Space → Nat
  | .hbm => 19
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S4x512x512, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S4x512x512, .bf16⟩
  | .hbm, ⟨9, _⟩ => ⟨S2048x2048, .bf16⟩
  | .hbm, ⟨10, _⟩ => ⟨S16384x2048, .f32⟩
  | .hbm, ⟨11, _⟩ => ⟨S16384x2048, .bf16⟩
  | .hbm, ⟨12, _⟩ => ⟨S16384x2048, .f32⟩
  | .hbm, ⟨13, _⟩ => ⟨S16384x2048, .bf16⟩
  | .hbm, ⟨14, _⟩ => ⟨S16384x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S4x512x512, .bf16⟩
  | .local _ .vmem, ⟨7, _⟩ => ⟨S1x2048, .f32⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4x4096x2048 : Shape := ⟨3, ![4, 4096, 2048]⟩
abbrev S4x512x512 : Shape := ⟨3, ![4, 512, 512]⟩
abbrev S2048 : Shape := ⟨1, ![2048]⟩
abbrev S2048x2048 : Shape := ⟨2, ![2048, 2048]⟩
abbrev S4x4096x4x512 : Shape := ⟨4, ![4, 4096, 4, 512]⟩
abbrev S4x512x4x4096 : Shape := ⟨4, ![4, 512, 4, 4096]⟩
abbrev S1x1x2048 : Shape := ⟨3, ![1, 1, 2048]⟩
abbrev S_ : Shape := ⟨0, ![]⟩
abbrev S4x4096 : Shape := ⟨2, ![4, 4096]⟩
abbrev S4x4096x1 : Shape := ⟨3, ![4, 4096, 1]⟩
abbrev S16384x2048 : Shape := ⟨2, ![16384, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S4x512x512, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S4x4096x4x512, .f32⟩
  | .hbm, ⟨9, _⟩ => ⟨S4x512x4x4096, .f32⟩
  | .hbm, ⟨10, _⟩ => ⟨S4x4096x4x512, .f32⟩
  | .hbm, ⟨11, _⟩ => ⟨S4x4096x2048, .f32⟩
  | .hbm, ⟨12, _⟩ => ⟨S1x1x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S_, .f32⟩
  | .hbm, ⟨18, _⟩ => ⟨S4x4096x2048, .f32⟩
  | .hbm, ⟨19, _⟩ => ⟨S4x4096x2048, .f32⟩
  | .hbm, ⟨20, _⟩ => ⟨S_, .f32⟩
  | .hbm, ⟨21, _⟩ => ⟨S4x4096x2048, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S_, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x2048, .f32⟩
  | .hbm, ⟨46, _⟩ => ⟨S4x4096x2048, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1, .f32⟩
  | .hbm, ⟨51, _⟩ => ⟨S4x4096x2048, .f32⟩
  | .hbm, ⟨52, _⟩ => ⟨S4x4096x2048, .f32⟩
  | .hbm, ⟨53, _⟩ => ⟨S1x1x2048, .f32⟩
  | .hbm, ⟨54, _⟩ => ⟨S4x4096x2048, .f32⟩
  | .hbm, ⟨55, _⟩ => ⟨S4x4096x2048, .f32⟩
  | .hbm, ⟨56, _⟩ => ⟨S1x1x2048, .f32⟩
  | .hbm, ⟨57, _⟩ => ⟨S4x4096x2048, .f32⟩
  | .hbm, ⟨58, _⟩ => ⟨S4x4096x2048, .f32⟩
  | .hbm, ⟨59, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Kernel4.lean ====
abbrev S4x4096x2048 : Shape := ⟨3, ![4, 4096, 2048]⟩
abbrev S2048x2048 : Shape := ⟨2, ![2048, 2048]⟩
abbrev S2048 : Shape := ⟨1, ![2048]⟩
abbrev S2048x4096 : Shape := ⟨2, ![2048, 4096]⟩
abbrev S16x2048 : Shape := ⟨2, ![16, 2048]⟩
abbrev S16384x2048 : Shape := ⟨2, ![16384, 2048]⟩
abbrev S1x2048 : Shape := ⟨2, ![1, 2048]⟩
abbrev S256x2048 : Shape := ⟨2, ![256, 2048]⟩
abbrev S272x2048 : Shape := ⟨2, ![272, 2048]⟩
abbrev S256 : Shape := ⟨1, ![256]⟩
abbrev S256x1 : Shape := ⟨2, ![256, 1]⟩
abbrev S272x512 : Shape := ⟨2, ![272, 512]⟩
abbrev S256x512 : Shape := ⟨2, ![256, 512]⟩

abbrev nBuf : Space → Nat
  | .hbm => 17
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S2048, .f32⟩
  | .hbm, ⟨4, _⟩ => ⟨S2048, .f32⟩
  | .hbm, ⟨5, _⟩ => ⟨S2048x4096, .f32⟩
  | .hbm, ⟨6, _⟩ => ⟨S16x2048, .f32⟩
  | .hbm, ⟨7, _⟩ => ⟨S16384x2048, .f32⟩
  | .hbm, ⟨8, _⟩ => ⟨S16384x2048, .bf16⟩
  | .hbm, ⟨9, _⟩ => ⟨S2048x2048, .bf16⟩
  | .hbm, ⟨10, _⟩ => ⟨S16384x2048, .f32⟩
  | .hbm, ⟨11, _⟩ => ⟨S1x2048, .f32⟩
  | .hbm, ⟨12, _⟩ => ⟨S1x2048, .f32⟩
  | .hbm, ⟨13, _⟩ => ⟨S2048x4096, .bf16⟩
  | .hbm, ⟨14, _⟩ => ⟨S16384x2048, .f32⟩
  | .hbm, ⟨15, _⟩ => ⟨S16384x2048, .bf16⟩
  | .hbm, ⟨16, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S2048x4096, .bf16⟩
  | .local _ .vmem, ⟨8, _⟩ => ⟨S16x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S272x2048, .f32⟩
  | .local _ .vmem, ⟨16, _⟩ => ⟨S256x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4x4096x2048 : Shape := ⟨3, ![4, 4096, 2048]⟩
abbrev S2048x2048 : Shape := ⟨2, ![2048, 2048]⟩
abbrev S2048 : Shape := ⟨1, ![2048]⟩
abbrev S2048x4096 : Shape := ⟨2, ![2048, 4096]⟩
abbrev S16x2048 : Shape := ⟨2, ![16, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x4096 : Shape := ⟨3, ![4, 4096, 4096]⟩
abbrev S1x16x2048 : Shape := ⟨3, ![1, 16, 2048]⟩
abbrev S4x16x2048 : Shape := ⟨3, ![4, 16, 2048]⟩
abbrev S4x4112x2048 : Shape := ⟨3, ![4, 4112, 2048]⟩
abbrev S4x4112x4x512 : Shape := ⟨4, ![4, 4112, 4, 512]⟩
abbrev S4112 : Shape := ⟨1, ![4112]⟩
abbrev S4x4112x1x512 : Shape := ⟨4, ![4, 4112, 1, 512]⟩
abbrev S4x4112x512 : Shape := ⟨3, ![4, 4112, 512]⟩
abbrev S4x4114x512 : Shape := ⟨3, ![4, 4114, 512]⟩
abbrev S1x4112x1 : Shape := ⟨3, ![1, 4112, 1]⟩
abbrev S4x4116x512 : Shape := ⟨3, ![4, 4116, 512]⟩
abbrev S4x4120x512 : Shape := ⟨3, ![4, 4120, 512]⟩
abbrev S4x4128x512 : Shape := ⟨3, ![4, 4128, 512]⟩
abbrev S16384x2048 : Shape := ⟨2, ![16384, 2048]⟩

abbrev nBuf : Space → Nat
  | .hbm => 136
  | .vmem => 0
  | .smem => 0
  | _ => 0

abbrev hbmTy0_0 (i : Nat) : BufTy := match i % 128 with
  | 0 => ⟨S4x4096x2048, .f32⟩
  | 1 => ⟨S2048x2048, .f32⟩
  | 2 => ⟨S4x4096x2048, .f32⟩
  | 3 => ⟨S2048, .f32⟩
  | 4 => ⟨S2048, .f32⟩
  | 5 => ⟨S2048x4096, .f32⟩
  | 6 => ⟨S16x2048, .f32⟩
  | 7 => ⟨S_, .f32⟩
  | 8 => ⟨S4x4096x2048, .f32⟩
  | 9 => ⟨S4x4096x2048, .f32⟩
  | 10 => ⟨S4x4096x2048, .f32⟩
  | 11 => ⟨S4x4096x2048, .f32⟩
  | 12 => ⟨S_, .f32⟩
  | 13 => ⟨S4x4096, .f32⟩
  | 14 => ⟨S4x4096x1, .f32⟩
  | 15 => ⟨S_, .f32⟩
  | 16 => ⟨S4x4096x1, .f32⟩
  | 17 => ⟨S4x4096x1, .f32⟩
  | 18 => ⟨S4x4096x2048, .f32⟩
  | 19 => ⟨S4x4096x2048, .f32⟩
  | 20 => ⟨S4x4096x2048, .f32⟩
  | 21 => ⟨S_, .f32⟩
  | 22 => ⟨S4x4096, .f32⟩
  | 23 => ⟨S4x4096x1, .f32⟩
  | 24 => ⟨S_, .f32⟩
  | 25 => ⟨S4x4096x1, .f32⟩
  | 26 => ⟨S4x4096x1, .f32⟩
  | 27 => ⟨S4x4096x2048, .f32⟩
  | 28 => ⟨S4x4096x2048, .f32⟩
  | 29 => ⟨S_, .f32⟩
  | 30 => ⟨S4x4096x1, .f32⟩
  | 31 => ⟨S4x4096x1, .f32⟩
  | 32 => ⟨S4x4096x1, .f32⟩
  | 33 => ⟨S4x4096x2048, .f32⟩
  | 34 => ⟨S4x4096x2048, .f32⟩
  | 35 => ⟨S1x1x2048, .f32⟩
  | 36 => ⟨S4x4096x2048, .f32⟩
  | 37 => ⟨S4x4096x2048, .f32⟩
  | 38 => ⟨S1x1x2048, .f32⟩
  | 39 => ⟨S4x4096x2048, .f32⟩
  | 40 => ⟨S4x4096x2048, .f32⟩
  | 41 => ⟨S4x4096x4096, .f32⟩
  | 42 => ⟨S4x4096x2048, .f32⟩
  | 43 => ⟨S4x4096x2048, .f32⟩
  | 44 => ⟨S1x16x2048, .f32⟩
  | 45 => ⟨S4x16x2048, .f32⟩
  | 46 => ⟨S4x4112x2048, .f32⟩
  | 47 => ⟨S4x4112x4x512, .f32⟩
  | 48 => ⟨S4112, .f32⟩
  | 49 => ⟨S_, .f32⟩
  | 50 => ⟨S4112, .f32⟩
  | 51 => ⟨S4112, .f32⟩
  | 52 => ⟨S4x4112x1x512, .f32⟩
  | 53 => ⟨S4x4112x512, .f32⟩
  | 54 => ⟨S_, .f32⟩
  | 55 => ⟨S_, .f32⟩
  | 56 => ⟨S4x4112x512, .f32⟩
  | 57 => ⟨S_, .i32⟩
  | 58 => ⟨S_, .f32⟩
  | 59 => ⟨S4x4114x512, .f32⟩
  | 60 => ⟨S4x4112x512, .f32⟩
  | 61 => ⟨S4x4112x512, .f32⟩
  | 62 => ⟨S4x4112x512, .f32⟩
  | 63 => ⟨S_, .f32⟩
  | 64 => ⟨S4112, .f32⟩
  | 65 => ⟨S4112, .f32⟩
  | 66 => ⟨S1x4112x1, .f32⟩
  | 67 => ⟨S4x4112x512, .f32⟩
  | 68 => ⟨S4x4112x512, .f32⟩
  | 69 => ⟨S4x4112x512, .f32⟩
  | 70 => ⟨S4x4112x1x512, .f32⟩
  | 71 => ⟨S4x4112x512, .f32⟩
  | 72 => ⟨S_, .f32⟩
  | 73 => ⟨S_, .f32⟩
  | 74 => ⟨S4x4112x512, .f32⟩
  | 75 => ⟨S_, .i32⟩
  | 76 => ⟨S_, .f32⟩
  | 77 => ⟨S4x4116x512, .f32⟩
  | 78 => ⟨S4x4112x512, .f32⟩
  | 79 => ⟨S4x4112x512, .f32⟩
  | 80 => ⟨S4x4112x512, .f32⟩
  | 81 => ⟨S_, .f32⟩
  | 82 => ⟨S4112, .f32⟩
  | 83 => ⟨S4112, .f32⟩
  | 84 => ⟨S1x4112x1, .f32⟩
  | 85 => ⟨S4x4112x512, .f32⟩
  | 86 => ⟨S4x4112x512, .f32⟩
  | 87 => ⟨S4x4112x512, .f32⟩
  | 88 => ⟨S4x4112x1x512, .f32⟩
  | 89 => ⟨S4x4112x512, .f32⟩
  | 90 => ⟨S_, .f32⟩
  | 91 => ⟨S_, .f32⟩
  | 92 => ⟨S4x4112x512, .f32⟩
  | 93 => ⟨S_, .i32⟩
  | 94 => ⟨S_, .f32⟩
  | 95 => ⟨S4x4120x512, .f32⟩
  | 96 => ⟨S4x4112x512, .f32⟩
  | 97 => ⟨S4x4112x512, .f32⟩
  | 98 => ⟨S4x4112x512, .f32⟩
  | 99 => ⟨S_, .f32⟩
  | 100 => ⟨S4112, .f32⟩
  | 101 => ⟨S4112, .f32⟩
  | 102 => ⟨S1x4112x1, .f32⟩
  | 103 => ⟨S4x4112x512, .f32⟩
  | 104 => ⟨S4x4112x512, .f32⟩
  | 105 => ⟨S4x4112x512, .f32⟩
  | 106 => ⟨S4x4112x1x512, .f32⟩
  | 107 => ⟨S4x4112x512, .f32⟩
  | 108 => ⟨S_, .f32⟩
  | 109 => ⟨S_, .f32⟩
  | 110 => ⟨S4x4112x512, .f32⟩
  | 111 => ⟨S_, .i32⟩
  | 112 => ⟨S_, .f32⟩
  | 113 => ⟨S4x4128x512, .f32⟩
  | 114 => ⟨S4x4112x512, .f32⟩
  | 115 => ⟨S4x4112x512, .f32⟩
  | 116 => ⟨S4x4112x512, .f32⟩
  | 117 => ⟨S_, .f32⟩
  | 118 => ⟨S4112, .f32⟩
  | 119 => ⟨S4112, .f32⟩
  | 120 => ⟨S1x4112x1, .f32⟩
  | 121 => ⟨S4x4112x512, .f32⟩
  | 122 => ⟨S4x4112x512, .f32⟩
  | 123 => ⟨S4x4112x512, .f32⟩
  | 124 => ⟨S4x4112x1x512, .f32⟩
  | 125 => ⟨S4x4112x1x512, .f32⟩
  | 126 => ⟨S4x4112x1x512, .f32⟩
  | 127 => ⟨S4x4112x1x512, .f32⟩
  | _ => ⟨S4x4096x2048, .f32⟩

abbrev hbmTy0_1 (i : Nat) : BufTy := match i % 128 with
  | 0 => ⟨S4x4112x4x512, .f32⟩
  | 1 => ⟨S4x4112x2048, .f32⟩
  | 2 => ⟨S16384x2048, .f32⟩
  | 3 => ⟨S4x4096x2048, .f32⟩
  | 4 => ⟨S4x4096x2048, .bf16⟩
  | 5 => ⟨S16384x2048, .bf16⟩
  | 6 => ⟨S4x4096x2048, .bf16⟩
  | 7 => ⟨S16384x2048, .bf16⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call0_call0_cst : Ref sig .tc := ⟨.hbm, 54, rfl⟩
abbrev main_call0_call0_v0 : Ref sig .tc := ⟨.hbm, 55, rfl⟩
abbrev main_v40 : Ref sig .tc := ⟨.hbm, 56, rfl⟩
abbrev main_c : Ref sig .tc := ⟨.hbm, 57, rfl⟩
abbrev main_call1_v0 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_call2_call0_cst : Ref sig .tc := ⟨.hbm, 72, rfl⟩
abbrev main_call2_call0_v0 : Ref sig .tc := ⟨.hbm, 73, rfl⟩
abbrev main_v53 : Ref sig .tc := ⟨.hbm, 74, rfl⟩
abbrev main_c_7 : Ref sig .tc := ⟨.hbm, 75, rfl⟩
abbrev main_call3_v0 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call4_call0_cst : Ref sig .tc := ⟨.hbm, 90, rfl⟩
abbrev main_call4_call0_v0 : Ref sig .tc := ⟨.hbm, 91, rfl⟩
abbrev main_v66 : Ref sig .tc := ⟨.hbm, 92, rfl⟩
abbrev main_c_9 : Ref sig .tc := ⟨.hbm, 93, rfl⟩
abbrev main_call5_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_10 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_call6_call0_cst : Ref sig .tc := ⟨.hbm, 108, rfl⟩
abbrev main_call6_call0_v0 : Ref sig .tc := ⟨.hbm, 109, rfl⟩
abbrev main_v79 : Ref sig .tc := ⟨.hbm, 110, rfl⟩
abbrev main_c_11 : Ref sig .tc := ⟨.hbm, 111, rfl⟩
abbrev main_call7_v0 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_12 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩

abbrev nD : Nat := 1
abbrev τ : Topo := Topo.v7x

variable {F : FTy → Type} [FloatOps F]
-- ==== Proof.Stages.lean ====
/-
  THE STAGES OF THE ATTENTION KERNEL, one definition each, for any number `K` of keys. The kernel's body runs them for
  eight tiles of 512 queries, tile `q` with the `K = 512·(q+1)` keys up to its end; `block` puts the tiles' results
  together, and `outsAt0_eq` says that what the kernel leaves in its output's buffer at a grid point is `block` of the
  point's input blocks.
-/
module
public import proofs.«01_k».proof.Proof.Gen.KernelIdeal.Value
public import Idealize.ShloMosaic.Lib.MatmulPlain
@[expose] public section
set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F] [Named F]

/-- `K` rows of 512 lanes. -/
abbrev R (K : Nat) : Shape := ⟨2, ![K, 512]⟩

/-! ## What the body stores before the tiles -/

/-- A row of decay sums for one tile of 512 queries. -/
def cTile (x6 : Vec F S1x1x1x4096 .f32) (o : Nat) (h : ∀ a, (![0, 0, 0, o] : Fin 4 → Nat) a + S1x1x1x512.size a ≤ S1x1x1x4096.size a) :
    Vec F S1x1x1x512 .f32 :=
  View.ld x6 (Rect.unit ![0, 0, 0, o] S1x1x1x512.size h)

/-- The tile's shift: the least decay sum in it. -/
def shift (ct : Vec F S1x1x1x512 .f32) : FVec F S1x1 .f32 :=
  shapeCast S1x1 (multiReduction .minimumf [1] S1 (shapeCast S1x512 ct shapeCasts_S1x1x1x512_S1x512) 0x7F800000#32 reduces_S1x512_S1 (.inl rfl) rfl) shapeCasts_S1_S1x1

/-- One number over 512 lanes. -/
def lanes (s : FVec F S1x1 .f32) : FVec F S1x512 .f32 :=
  broadcastTo S1x512 (shapeCast S1x1 s shapeCasts_S1x1_S1x1) broadcasts_S1x1_S1x512

variable {s : Shape}

/-- The three bf16 pieces of a number: the leading one, -/
def hi (x : FVec F s .f32) : FVec F s .f32 := extf .f32 (truncf .bf16 x bitsLt_bf16_f32) bitsLt_bf16_f32
/-- the next one, -/
def mid (x : FVec F s .f32) : FVec F s .f32 := extf .f32 (truncf .bf16 (subf x (hi x)) bitsLt_bf16_f32) bitsLt_bf16_f32
/-- and what is left. -/
def lo (x : FVec F s .f32) : FVec F s .f32 :=
  extf .f32 (truncf .bf16 (subf (subf x (hi x)) (mid x)) bitsLt_bf16_f32) bitsLt_bf16_f32

/-- Row `r` of 128 rows set to `row`. -/
def put {N : Nat} (hi : (⟨2, ![128, N]⟩ : Shape).Iotas .tc 32 [0]) (hs : (⟨2, ![1, N]⟩ : Shape).ShapeCasts ⟨2, ![1, N]⟩)
    (hb : (⟨2, ![1, N]⟩ : Shape).Broadcasts ⟨2, ![128, N]⟩) (r : BitVec 32) (row : FVec F ⟨2, ![1, N]⟩ .f32)
    (x : FVec F ⟨2, ![128, N]⟩ .f32) : FVec F ⟨2, ![128, N]⟩ .f32 :=
  select (cmpi .eq (iota .tc ⟨2, ![128, N]⟩ 32 [0] hi) (broadcast ⟨2, ![128, N]⟩ r))
    (broadcastTo ⟨2, ![128, N]⟩ (shapeCast ⟨2, ![1, N]⟩ row hs) hb) x

/-- Six rows over zeros. -/
def stack {N : Nat} (hi : (⟨2, ![128, N]⟩ : Shape).Iotas .tc 32 [0]) (hs : (⟨2, ![1, N]⟩ : Shape).ShapeCasts ⟨2, ![1, N]⟩)
    (hb : (⟨2, ![1, N]⟩ : Shape).Broadcasts ⟨2, ![128, N]⟩) (a b c d e f : FVec F ⟨2, ![1, N]⟩ .f32) : FVec F ⟨2, ![128, N]⟩ .f32 :=
  put hi hs hb 5#32 f (put hi hs hb 4#32 e (put hi hs hb 3#32 d (put hi hs hb 2#32 c (put hi hs hb 1#32 b (put hi hs hb 0#32 a
    (broadcast ⟨2, ![128, N]⟩ (Scalar.ofBits .f32 0x00000000#32)))))))

/-- The row of ones. -/
def ones (s : Shape) : FVec F s .f32 := broadcast s (Scalar.ofBits .f32 0x3F800000#32)

/-- The 128 extra columns of the keys: the pieces of minus the decay sums, and ones. -/
def keyTerms (x6 : Vec F S1x1x1x4096 .f32) : FVec F S4096x128 .bf16 :=
  let n : FVec F S1x4096 .f32 := subf (broadcast S1x4096 (Scalar.ofBits .f32 0x00000000#32)) (shapeCast S1x4096 (View.ld x6 (Rect.unit ![0, 0, 0, 0] S1x1x1x4096.size inb_S1x1x1x4096_S1x1x1x4096_0_0_0_0)) shapeCasts_S1x1x1x4096_S1x4096)
  shapeCast S4096x128 (transpose S4096x128 [1, 0] (truncf .bf16 (stack iota_S128x4096_d0_w32 shapeCasts_S1x4096_S1x4096 broadcasts_S1x4096_S128x4096
    (hi n) (mid n) (lo n) (ones S1x4096) (ones S1x4096) (ones S1x4096)) bitsLt_bf16_f32) transposes_S128x4096_p1_0_S4096x128) shapeCasts_S4096x128_S4096x128

/-- The keys followed by their extra columns, as stored. -/
def kaugL (x1 : Vec F S1x4096x128 .bf16) (x6 : Vec F S1x1x1x4096 .f32) : List (View.Piece (Elt F) S4096x256 .bf16) :=
  [⟨Rect.unit ![0, 128] S4096x128.size inb_S4096x256_S4096x128_0_128, keyTerms x6⟩,
   ⟨Rect.unit ![0, 0] S4096x128.size inb_S4096x256_S4096x128_0_0,
     shapeCast S4096x128 (shapeCast S4096x128 (View.ld x1 (Rect.unit ![0, 0, 0] S1x4096x128.size inb_S1x4096x128_S1x4096x128_0_0_0)) shapeCasts_S1x4096x128_S4096x128) shapeCasts_S4096x128_S4096x128⟩]

/-- The meta keys' decay sums down the rows, as stored. -/
def cmrepL (x7 : Vec F S1x1x128 .f32) : List (View.Piece (Elt F) S128x128 .f32) :=
  [⟨Rect.unit ![0, 0] S128x128.size inb_S128x128_S128x128_0_0,
    shapeCast S128x128 (transpose S128x128 [1, 0] (broadcastTo S128x128 (shapeCast S1x128 (shapeCast S1x128
      (View.ld x7 (Rect.unit ![0, 0, 0] S1x1x128.size inb_S1x1x128_S1x1x128_0_0_0)) shapeCasts_S1x1x128_S1x128) shapeCasts_S1x128_S1x128) broadcasts_S1x128_S128x128) transposes_S128x128_p1_0_S128x128) shapeCasts_S128x128_S128x128⟩]

/-- The queries, transposed. -/
def qT (x0 : Vec F S1x4096x128 .bf16) : FVec F S128x4096 .bf16 :=
  transpose S128x4096 [1, 0] (shapeCast S4096x128 (View.ld x0 (Rect.unit ![0, 0, 0] S1x4096x128.size inb_S1x4096x128_S1x4096x128_0_0_0)) shapeCasts_S1x4096x128_S4096x128) transposes_S4096x128_p1_0_S128x4096

/-- One tile of the transposed queries. -/
def qTile (x0 : Vec F S1x4096x128 .bf16) (o : Nat) (h : S128x4096.Slices ![0, o] S128x512) : FVec F S1x128x512 .bf16 :=
  shapeCast S1x128x512 (extractStridedSlice S128x512 ![0, o] (qT x0) h) shapeCasts_S128x512_S1x128x512

/-- The tile's extra rows: ones, and the pieces of the shift. -/
def qTerms (ct : Vec F S1x1x1x512 .f32) : FVec F S1x128x512 .bf16 :=
  shapeCast S1x128x512 (truncf .bf16 (stack iota_S128x512_d0_w32 shapeCasts_S1x512_S1x512 broadcasts_S1x512_S128x512
    (ones S1x512) (ones S1x512) (ones S1x512) (lanes (hi (shift ct))) (lanes (mid (shift ct))) (lanes (lo (shift ct)))) bitsLt_bf16_f32) shapeCasts_S128x512_S1x128x512

/-- The transposed queries tile by tile, each followed by its extra rows, as stored. -/
def qtL (x0 : Vec F S1x4096x128 .bf16) (x6 : Vec F S1x1x1x4096 .f32) : List (View.Piece (Elt F) S8x256x512 .bf16) :=
  [⟨Rect.unit ![7, 128, 0] S1x128x512.size inb_S8x256x512_S1x128x512_7_128_0, qTerms (cTile x6 3584 inb_S1x1x1x4096_S1x1x1x512_0_0_0_3584)⟩,
   ⟨Rect.unit ![7, 0, 0] S1x128x512.size inb_S8x256x512_S1x128x512_7_0_0, qTile x0 3584 slices_S128x4096_o0_3584_S128x512⟩,
   ⟨Rect.unit ![6, 128, 0] S1x128x512.size inb_S8x256x512_S1x128x512_6_128_0, qTerms (cTile x6 3072 inb_S1x1x1x4096_S1x1x1x512_0_0_0_3072)⟩,
   ⟨Rect.unit ![6, 0, 0] S1x128x512.size inb_S8x256x512_S1x128x512_6_0_0, qTile x0 3072 slices_S128x4096_o0_3072_S128x512⟩,
   ⟨Rect.unit ![5, 128, 0] S1x128x512.size inb_S8x256x512_S1x128x512_5_128_0, qTerms (cTile x6 2560 inb_S1x1x1x4096_S1x1x1x512_0_0_0_2560)⟩,
   ⟨Rect.unit ![5, 0, 0] S1x128x512.size inb_S8x256x512_S1x128x512_5_0_0, qTile x0 2560 slices_S128x4096_o0_2560_S128x512⟩,
   ⟨Rect.unit ![4, 128, 0] S1x128x512.size inb_S8x256x512_S1x128x512_4_128_0, qTerms (cTile x6 2048 inb_S1x1x1x4096_S1x1x1x512_0_0_0_2048)⟩,
   ⟨Rect.unit ![4, 0, 0] S1x128x512.size inb_S8x256x512_S1x128x512_4_0_0, qTile x0 2048 slices_S128x4096_o0_2048_S128x512⟩,
   ⟨Rect.unit ![3, 128, 0] S1x128x512.size inb_S8x256x512_S1x128x512_3_128_0, qTerms (cTile x6 1536 inb_S1x1x1x4096_S1x1x1x512_0_0_0_1536)⟩,
   ⟨Rect.unit ![3, 0, 0] S1x128x512.size inb_S8x256x512_S1x128x512_3_0_0, qTile x0 1536 slices_S128x4096_o0_1536_S128x512⟩,
   ⟨Rect.unit ![2, 128, 0] S1x128x512.size inb_S8x256x512_S1x128x512_2_128_0, qTerms (cTile x6 1024 inb_S1x1x1x4096_S1x1x1x512_0_0_0_1024)⟩,
   ⟨Rect.unit ![2, 0, 0] S1x128x512.size inb_S8x256x512_S1x128x512_2_0_0, qTile x0 1024 slices_S128x4096_o0_1024_S128x512⟩,
   ⟨Rect.unit ![1, 128, 0] S1x128x512.size inb_S8x256x512_S1x128x512_1_128_0, qTerms (cTile x6 512 inb_S1x1x1x4096_S1x1x1x512_0_0_0_512)⟩,
   ⟨Rect.unit ![1, 0, 0] S1x128x512.size inb_S8x256x512_S1x128x512_1_0_0, qTile x0 512 slices_S128x4096_o0_512_S128x512⟩,
   ⟨Rect.unit ![0, 128, 0] S1x128x512.size inb_S8x256x512_S1x128x512_0_128_0, qTerms (cTile x6 0 inb_S1x1x1x4096_S1x1x1x512_0_0_0_0)⟩,
   ⟨Rect.unit ![0, 0, 0] S1x128x512.size inb_S8x256x512_S1x128x512_0_0_0, qTile x0 0 slices_S128x4096_o0_0_S128x512⟩]

/-- The transposed values, followed by rows of ones, as stored. -/
def vtL (x2 : Vec F S1x4096x128 .bf16) : List (View.Piece (Elt F) S144x4096 .bf16) :=
  [⟨Rect.unit ![128, 0] S16x4096.size inb_S144x4096_S16x4096_128_0, shapeCast S16x4096 (broadcast S16x4096 (Scalar.ofBits .bf16 0x3F80#16 : F .bf16)) shapeCasts_S16x4096_S16x4096⟩,
   ⟨Rect.unit ![0, 0] S128x4096.size inb_S144x4096_S128x4096_0_0, shapeCast S128x4096 (qT x2) shapeCasts_S128x4096_S128x4096⟩]

/-! ## The meta keys' part -/

/-- The scores of the meta keys for every query. -/
def metaScores (x0 : Vec F S1x4096x128 .bf16) (x4 : Vec F S16x128 .bf16) (x6 : Vec F S1x1x1x4096 .f32) (x7 : Vec F S1x1x128 .f32) : FVec F S16x4096 .f32 :=
  let w : Vec F S16x128 .f32 := (View.whole cc0_scratch1).readCov (cmrepL x7) (Rect.unit (s := S128x128) ![0, 0] S16x128.size inb_S128x128_S16x128_0_0).toLoadRect
  addf (matmul dot_S16x128_S128x4096_S16x4096_1_0_0_1_n_n none (shapeCast S16x128 (View.ld x4 (Rect.unit ![0, 0] S16x128.size inb_S16x128_S16x128_0_0)) shapeCasts_S16x128_S16x128) (qT x0) (constant S16x4096 .f32 0x00000000#32))
    (subf (broadcastTo S16x4096 (concatenate S1x4096 1
        [⟨S1x512, lanes (shift (cTile x6 0 inb_S1x1x1x4096_S1x1x1x512_0_0_0_0))⟩, ⟨S1x512, lanes (shift (cTile x6 512 inb_S1x1x1x4096_S1x1x1x512_0_0_0_512))⟩,
         ⟨S1x512, lanes (shift (cTile x6 1024 inb_S1x1x1x4096_S1x1x1x512_0_0_0_1024))⟩, ⟨S1x512, lanes (shift (cTile x6 1536 inb_S1x1x1x4096_S1x1x1x512_0_0_0_1536))⟩,
         ⟨S1x512, lanes (shift (cTile x6 2048 inb_S1x1x1x4096_S1x1x1x512_0_0_0_2048))⟩, ⟨S1x512, lanes (shift (cTile x6 2560 inb_S1x1x1x4096_S1x1x1x512_0_0_0_2560))⟩,
         ⟨S1x512, lanes (shift (cTile x6 3072 inb_S1x1x1x4096_S1x1x1x512_0_0_0_3072))⟩, ⟨S1x512, lanes (shift (cTile x6 3584 inb_S1x1x1x4096_S1x1x1x512_0_0_0_3584))⟩]
        concatenates_S1x512_S1x512_S1x512_S1x512_S1x512_S1x512_S1x512_S1x512_S1x4096_d1) broadcasts_S1x4096_S16x4096)
      (concatenate S16x4096 1 [⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩, ⟨S16x128, w⟩]
        concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x4096_d1))

/-- Their largest, per query. -/
def metaMax (s : FVec F S16x4096 .f32) : FVec F S1x4096 .f32 :=
  shapeCast S1x4096 (multiReduction .maximumf [0] S4096 s 0xFF800000#32 reduces_S16x4096_S4096 (.inl rfl) rfl) shapeCasts_S4096_S1x4096

/-- Two to the scores less the largest. -/
def metaExp (s : FVec F S16x4096 .f32) : FVec F S16x4096 .f32 :=
  exp2 (subf s (broadcastTo S16x4096 (metaMax s) broadcasts_S1x4096_S16x4096))

/-- Their sum, per query. -/
def metaSum (s : FVec F S16x4096 .f32) : FVec F S1x4096 .f32 :=
  shapeCast S1x4096 (multiReduction .add [0] S4096 (metaExp s) 0x00000000#32 reduces_S16x4096_S4096 (.inl rfl) rfl) shapeCasts_S4096_S1x4096

/-- The values weighted by them, per query. -/
def metaAcc (x5 : Vec F S16x128 .bf16) (s : FVec F S16x4096 .f32) : FVec F S128x4096 .f32 :=
  matmul dot_S16x128_S16x4096_S128x4096_0_0_1_1_n_n none (shapeCast S16x128 (View.ld x5 (Rect.unit ![0, 0] S16x128.size inb_S16x128_S16x128_0_0)) shapeCasts_S16x128_S16x128) (truncf .bf16 (metaExp s) bitsLt_bf16_f32) (constant S128x4096 .f32 0x00000000#32)

/-! ## One tile's part -/

/-- The scores of `K` keys for a tile's queries. -/
def scores (K : Nat) (ka : FVec F ⟨2, ![K, 256]⟩ .bf16) (qt : FVec F S1x256x512 .bf16) : FVec F (R K) .f32 :=
  matmul (DotDims.plain K 256 512) none ka (shapeCast S256x512 qt shapeCasts_S1x256x512_S256x512) (constant (R K) .f32 0x00000000#32)

/-- The last 512 keys' scores, those of keys after the query set to the named number. -/
def diag (x : FVec F S512x512 .f32) : FVec F S512x512 .f32 :=
  select (cmpi .sle (iota .tc S512x512 32 [0] iota_S512x512_d0_w32) (iota .tc S512x512 32 [1] iota_S512x512_d1_w32)) x
    (broadcast S512x512 (Named.named κ "masked" 0xF149F2CA#32))

/-- The scores with the last 512 keys masked so. -/
def masked (P K : Nat) (h1 : (R K).Slices ![P, 0] S512x512) (h0 : (R K).Slices ![0, 0] (R P))
    (hc : Shape.Concatenates [R P, S512x512] (R K) 0) (s : FVec F (R K) .f32) : FVec F (R K) .f32 :=
  concatenate (R K) 0 [⟨R P, extractStridedSlice (R P) ![0, 0] s h0⟩, ⟨S512x512, diag (extractStridedSlice S512x512 ![P, 0] s h1)⟩] hc

/-- The largest score, over the meta keys too. -/
def maxAll (K : Nat) (hr : (R K).Reduces [0] S512) (o : Nat) (ho : S1x4096.Slices ![0, o] S1x512) (mm : FVec F S1x4096 .f32) (s : FVec F (R K) .f32) : FVec F S1x512 .f32 :=
  maximumf (extractStridedSlice S1x512 ![0, o] mm ho) (shapeCast S1x512 (multiReduction .maximumf [0] S512 s 0xFF800000#32 hr (.inl rfl) rfl) shapeCasts_S512_S1x512)

/-- The tile's result from its masked scores, the values, the gate and the meta keys' part. -/
def tile (K : Nat) (hr : (R K).Reduces [0] S512) (hb : S1x512.Broadcasts (R K)) (o : Nat) (ho : S1x4096.Slices ![0, o] S1x512) (hoa : S128x4096.Slices ![0, o] S128x512)
    (vt : FVec F ⟨2, ![144, K]⟩ .bf16) (z : Vec F S1x512x128 .bf16)
    (mm ml : FVec F S1x4096 .f32) (ma : FVec F S128x4096 .f32) (s : FVec F (R K) .f32) : FVec F S1x512x128 .bf16 :=
  let M : FVec F S1x512 .f32 := maxAll K hr o ho mm s
  let al : FVec F S1x512 .f32 := exp2 (subf (extractStridedSlice S1x512 ![0, o] mm ho) M)
  let pv : FVec F S144x512 .f32 := matmul (DotDims.plain 144 K 512) none vt (truncf .bf16 (exp2 (subf s (broadcastTo (R K) M hb))) bitsLt_bf16_f32) (constant S144x512 .f32 0x00000000#32)
  let acc : FVec F S128x512 .f32 := addf (mulf (broadcastTo S128x512 al broadcasts_S1x512_S128x512) (extractStridedSlice S128x512 ![0, o] ma hoa)) (extractStridedSlice S128x512 ![0, 0] pv slices_S144x512_o0_0_S128x512)
  let l : FVec F S1x512 .f32 := addf (mulf al (extractStridedSlice S1x512 ![0, o] ml ho)) (extractStridedSlice S1x512 ![128, 0] pv slices_S144x512_o128_0_S1x512)
  let zz : FVec F S512x128 .f32 := extf .f32 (shapeCast S512x128 z shapeCasts_S1x512x128_S512x128) bitsLt_bf16_f32
  shapeCast S1x512x128 (truncf .bf16 (mulf (transpose S512x128 [1, 0] (mulf acc (broadcastTo S128x512 (divf (broadcast S1x512 (Scalar.ofBits .f32 0x3F800000#32)) l) broadcasts_S1x512_S128x512)) transposes_S128x512_p1_0_S512x128)
    (mulf zz (logistic zz))) bitsLt_bf16_f32) shapeCasts_S512x128_S1x512x128

/-! ## The block -/

section

variable (x0 x1 x2 x3 : Vec F S1x4096x128 .bf16) (x4 x5 : Vec F S16x128 .bf16) (x6 : Vec F S1x1x1x4096 .f32) (x7 : Vec F S1x1x128 .f32)

/-- The first `K` keys read back. -/
def kaug (K : Nat) (h : ∀ a, (![0, 0] : Fin 2 → Nat) a + (⟨2, ![K, 256]⟩ : Shape).size a ≤ S4096x256.size a) : FVec F ⟨2, ![K, 256]⟩ .bf16 :=
  (View.whole cc0_scratch0).readCov (kaugL x1 x6) (Rect.unit (s := S4096x256) ![0, 0] (⟨2, ![K, 256]⟩ : Shape).size h).toLoadRect

/-- Tile `q` of the queries read back. -/
def qt (q : Nat) (h : ∀ a, (![q, 0, 0] : Fin 3 → Nat) a + S1x256x512.size a ≤ S8x256x512.size a) : FVec F S1x256x512 .bf16 :=
  (View.whole cc0_scratch2).readCov (qtL x0 x6) (Rect.unit (s := S8x256x512) ![q, 0, 0] S1x256x512.size h).toLoadRect

/-- The first `K` values read back. -/
def vt (K : Nat) (h : ∀ a, (![0, 0] : Fin 2 → Nat) a + (⟨2, ![144, K]⟩ : Shape).size a ≤ S144x4096.size a) : FVec F ⟨2, ![144, K]⟩ .bf16 :=
  (View.whole cc0_scratch3).readCov (vtL x2) (Rect.unit (s := S144x4096) ![0, 0] (⟨2, ![144, K]⟩ : Shape).size h).toLoadRect

/-- A tile of the gate. -/
def zTile (o : Nat) (h : ∀ a, (![0, o, 0] : Fin 3 → Nat) a + S1x512x128.size a ≤ S1x4096x128.size a) : Vec F S1x512x128 .bf16 :=
  View.ld x3 (Rect.unit ![0, o, 0] S1x512x128.size h)

/-- The first tile. -/
def tile0 : FVec F S1x512x128 .bf16 :=
  let ms := metaScores x0 x4 x6 x7
  tile 512 reduces_S512x512_S512 broadcasts_S1x512_S512x512 0 slices_S1x4096_o0_0_S1x512 slices_S128x4096_o0_0_S128x512
    (vt x2 512 inb_S144x4096_S144x512_0_0) (zTile x3 0 inb_S1x4096x128_S1x512x128_0_0_0) (metaMax ms) (metaSum ms) (metaAcc x5 ms)
    (diag (scores 512 (kaug x1 x6 512 inb_S4096x256_S512x256_0_0) (qt x0 x6 0 inb_S8x256x512_S1x256x512_0_0_0)))

/-- A later tile, of queries from `P` on, with `K` keys. -/
def tileN (q P K : Nat) (hr : (R K).Reduces [0] S512) (hb : S1x512.Broadcasts (R K)) (ho : S1x4096.Slices ![0, P] S1x512) (hoa : S128x4096.Slices ![0, P] S128x512)
    (h1 : (R K).Slices ![P, 0] S512x512) (h0 : (R K).Slices ![0, 0] (R P)) (hc : Shape.Concatenates [R P, S512x512] (R K) 0)
    (hv : ∀ a, (![0, 0] : Fin 2 → Nat) a + (⟨2, ![144, K]⟩ : Shape).size a ≤ S144x4096.size a)
    (hz : ∀ a, (![0, P, 0] : Fin 3 → Nat) a + S1x512x128.size a ≤ S1x4096x128.size a)
    (hk : ∀ a, (![0, 0] : Fin 2 → Nat) a + (⟨2, ![K, 256]⟩ : Shape).size a ≤ S4096x256.size a)
    (hq : ∀ a, (![q, 0, 0] : Fin 3 → Nat) a + S1x256x512.size a ≤ S8x256x512.size a) : FVec F S1x512x128 .bf16 :=
  let ms := metaScores x0 x4 x6 x7
  tile K hr hb P ho hoa (vt x2 K hv) (zTile x3 P hz) (metaMax ms) (metaSum ms) (metaAcc x5 ms)
    (masked P K h1 h0 hc (scores K (kaug x1 x6 K hk) (qt x0 x6 q hq)))

/-- The eight tiles. -/
def block : Vec F S1x4096x128 .bf16 :=
  View.canon
    [⟨Rect.unit ![0, 3584, 0] S1x512x128.size inb_S1x4096x128_S1x512x128_0_3584_0, tileN x0 x1 x2 x3 x4 x5 x6 x7 7 3584 4096 reduces_S4096x512_S512 broadcasts_S1x512_S4096x512 slices_S1x4096_o0_3584_S1x512 slices_S128x4096_o0_3584_S128x512 slices_S4096x512_o3584_0_S512x512 slices_S4096x512_o0_0_S3584x512 concatenates_S3584x512_S512x512_S4096x512_d0 inb_S144x4096_S144x4096_0_0 inb_S1x4096x128_S1x512x128_0_3584_0 inb_S4096x256_S4096x256_0_0 inb_S8x256x512_S1x256x512_7_0_0⟩,
     ⟨Rect.unit ![0, 3072, 0] S1x512x128.size inb_S1x4096x128_S1x512x128_0_3072_0, tileN x0 x1 x2 x3 x4 x5 x6 x7 6 3072 3584 reduces_S3584x512_S512 broadcasts_S1x512_S3584x512 slices_S1x4096_o0_3072_S1x512 slices_S128x4096_o0_3072_S128x512 slices_S3584x512_o3072_0_S512x512 slices_S3584x512_o0_0_S3072x512 concatenates_S3072x512_S512x512_S3584x512_d0 inb_S144x4096_S144x3584_0_0 inb_S1x4096x128_S1x512x128_0_3072_0 inb_S4096x256_S3584x256_0_0 inb_S8x256x512_S1x256x512_6_0_0⟩,
     ⟨Rect.unit ![0, 2560, 0] S1x512x128.size inb_S1x4096x128_S1x512x128_0_2560_0, tileN x0 x1 x2 x3 x4 x5 x6 x7 5 2560 3072 reduces_S3072x512_S512 broadcasts_S1x512_S3072x512 slices_S1x4096_o0_2560_S1x512 slices_S128x4096_o0_2560_S128x512 slices_S3072x512_o2560_0_S512x512 slices_S3072x512_o0_0_S2560x512 concatenates_S2560x512_S512x512_S3072x512_d0 inb_S144x4096_S144x3072_0_0 inb_S1x4096x128_S1x512x128_0_2560_0 inb_S4096x256_S3072x256_0_0 inb_S8x256x512_S1x256x512_5_0_0⟩,
     ⟨Rect.unit ![0, 2048, 0] S1x512x128.size inb_S1x4096x128_S1x512x128_0_2048_0, tileN x0 x1 x2 x3 x4 x5 x6 x7 4 2048 2560 reduces_S2560x512_S512 broadcasts_S1x512_S2560x512 slices_S1x4096_o0_2048_S1x512 slices_S128x4096_o0_2048_S128x512 slices_S2560x512_o2048_0_S512x512 slices_S2560x512_o0_0_S2048x512 concatenates_S2048x512_S512x512_S2560x512_d0 inb_S144x4096_S144x2560_0_0 inb_S1x4096x128_S1x512x128_0_2048_0 inb_S4096x256_S2560x256_0_0 inb_S8x256x512_S1x256x512_4_0_0⟩,
     ⟨Rect.unit ![0, 1536, 0] S1x512x128.size inb_S1x4096x128_S1x512x128_0_1536_0, tileN x0 x1 x2 x3 x4 x5 x6 x7 3 1536 2048 reduces_S2048x512_S512 broadcasts_S1x512_S2048x512 slices_S1x4096_o0_1536_S1x512 slices_S128x4096_o0_1536_S128x512 slices_S2048x512_o1536_0_S512x512 slices_S2048x512_o0_0_S1536x512 concatenates_S1536x512_S512x512_S2048x512_d0 inb_S144x4096_S144x2048_0_0 inb_S1x4096x128_S1x512x128_0_1536_0 inb_S4096x256_S2048x256_0_0 inb_S8x256x512_S1x256x512_3_0_0⟩,
     ⟨Rect.unit ![0, 1024, 0] S1x512x128.size inb_S1x4096x128_S1x512x128_0_1024_0, tileN x0 x1 x2 x3 x4 x5 x6 x7 2 1024 1536 reduces_S1536x512_S512 broadcasts_S1x512_S1536x512 slices_S1x4096_o0_1024_S1x512 slices_S128x4096_o0_1024_S128x512 slices_S1536x512_o1024_0_S512x512 slices_S1536x512_o0_0_S1024x512 concatenates_S1024x512_S512x512_S1536x512_d0 inb_S144x4096_S144x1536_0_0 inb_S1x4096x128_S1x512x128_0_1024_0 inb_S4096x256_S1536x256_0_0 inb_S8x256x512_S1x256x512_2_0_0⟩,
     ⟨Rect.unit ![0, 512, 0] S1x512x128.size inb_S1x4096x128_S1x512x128_0_512_0, tileN x0 x1 x2 x3 x4 x5 x6 x7 1 512 1024 reduces_S1024x512_S512 broadcasts_S1x512_S1024x512 slices_S1x4096_o0_512_S1x512 slices_S128x4096_o0_512_S128x512 slices_S1024x512_o512_0_S512x512 slices_S1024x512_o0_0_S512x512 concatenates_S512x512_S512x512_S1024x512_d0 inb_S144x4096_S144x1024_0_0 inb_S1x4096x128_S1x512x128_0_512_0 inb_S4096x256_S1024x256_0_0 inb_S8x256x512_S1x256x512_1_0_0⟩,
     ⟨Rect.unit ![0, 0, 0] S1x512x128.size inb_S1x4096x128_S1x512x128_0_0_0, tile0 x0 x1 x2 x3 x4 x5 x6 x7⟩]

end

variable (m : (ℓ : Loc nD τ sig) → Buf (Elt F) ℓ)

set_option maxHeartbeats 4000000 in
/-- What the kernel leaves in its output's buffer at a grid point is `block` of the point's input blocks. -/
theorem outsAt0_eq (c : Dev nD) (t : Fin cfg0.N) :
    outsAt0 m c t = block (iblk m c 0 t) (iblk m c 1 t) (iblk m c 2 t) (iblk m c 3 t) (iblk m c 4 t) (iblk m c 5 t) (iblk m c 6 t) (iblk m c 7 t) := by
  unfold outsAt0 out0_A_8
  rw [View.read_writes_eq_canon _ _ _ (cover0_A_8 c _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rfl

end Cert.KernelIdeal.Hand

end
-- ==== Proof.Reals.lean ====
/-
  NUMBERS: the ideal operations on finite numbers, folds of the least and the largest, sums over the keys up to a
  query, and why the softmax does not depend on what is subtracted in the exponents.
-/
module
public import Idealize.ShloMosaic.PureOps.Ideal
public import Idealize.ShloMosaic.PureOps.Ideal.Laws
public import Idealize.ShloMosaic.Lib.IdealHost
public import Mathlib.Analysis.SpecialFunctions.Pow.Real
@[expose] public section

noncomputable section

namespace Cert.Hand

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_sub_self (x : ℝ) : (x : EReal) - (x : EReal) = 0 := by
  rw [← EReal.coe_sub, sub_self, EReal.coe_zero]

/-- The least of finitely many finite numbers, at least one, is finite. -/
theorem fold_min_real {ι : Type*} (s : Finset ι) (hs : s.Nonempty) (f : ι → EReal) (hf : ∀ i ∈ s, ∃ r : ℝ, f i = r) :
    ∃ r : ℝ, s.fold min ⊤ f = r := by
  obtain ⟨i, hi, e⟩ := Finset.exists_mem_eq_inf s hs f
  obtain ⟨r, hr⟩ := hf i hi
  exact ⟨r, (show s.fold min ⊤ f = s.inf f from rfl).trans (e.trans hr)⟩

/-- The largest of finitely many finite numbers, at least one, is finite. -/
theorem fold_max_real {ι : Type*} (s : Finset ι) (hs : s.Nonempty) (f : ι → EReal) (hf : ∀ i ∈ s, ∃ r : ℝ, f i = r) :
    ∃ r : ℝ, s.fold max ⊥ f = r := by
  obtain ⟨i, hi, e⟩ := Finset.exists_mem_eq_sup s hs f
  obtain ⟨r, hr⟩ := hf i hi
  exact ⟨r, (show s.fold max ⊥ f = s.sup f from rfl).trans (e.trans hr)⟩

/-- The largest of finitely many numbers below `⊤` is below `⊤`. -/
theorem fold_max_lt_top {ι : Type*} (s : Finset ι) (f : ι → EReal) (hf : ∀ i ∈ s, f i < ⊤) : s.fold max ⊥ f < ⊤ :=
  (show s.fold max ⊥ f = s.sup f from rfl) ▸ (Finset.sup_lt_iff (bot_lt_top)).2 hf

theorem max_real_of_lt_top (a : ℝ) (y : EReal) (hy : y < ⊤) : ∃ r : ℝ, max (a : EReal) y = r := by
  induction y using EReal.rec with
  | bot => exact ⟨a, max_eq_left bot_le⟩
  | top => exact absurd hy (lt_irrefl _)
  | coe y => exact ⟨max a y, (EReal.coe_strictMono.monotone.map_max).symm⟩

theorem exp2_coe (x : ℝ) : Ideal.exp2 (x : EReal) = (((2 : ℝ) ^ x : ℝ) : EReal) := rfl
theorem exp2_sub (x y : ℝ) : Ideal.exp2 ((x : EReal) - (y : EReal)) = (((2 : ℝ) ^ (x - y) : ℝ) : EReal) := by
  rw [← EReal.coe_sub]; rfl
theorem exp2_bot_sub (y : EReal) : Ideal.exp2 (⊥ - y) = 0 := by
  rw [EReal.bot_sub]; rfl
theorem exp_coe (x : ℝ) : Ideal.exp (x : EReal) = ((Real.exp x : ℝ) : EReal) := rfl
theorem exp_sub (x y : ℝ) : Ideal.exp ((x : EReal) - (y : EReal)) = ((Real.exp (x - y) : ℝ) : EReal) := by
  rw [← EReal.coe_sub]; rfl
theorem exp_bot_sub (y : EReal) : Ideal.exp (⊥ - y) = 0 := by
  rw [EReal.bot_sub]; rfl

/-- A quotient of finite numbers, the divisor not zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The logistic function of a finite number. -/
theorem logistic_coe (x : ℝ) : Ideal.logistic (x : EReal) = ((1 / (1 + Real.exp (-x)) : ℝ) : EReal) := by
  unfold Ideal.logistic
  rw [← EReal.coe_neg, exp_coe, ← EReal.coe_one, ← EReal.coe_add, div_coe _ _ (by positivity)]

/-- A finite number is the one its real part gives. -/
theorem coe_toReal_of {x : EReal} (h : ∃ r : ℝ, x = r) : x = (x.toReal : EReal) := by
  obtain ⟨r, rfl⟩ := h; rw [EReal.toReal_coe]

/-- A number whose magnitude is below `⊤` is finite. -/
theorem real_of_abs_lt_top {x : EReal} (h : max x (-x) < ⊤) : ∃ r : ℝ, x = r := by
  induction x using EReal.rec with
  | bot => simp at h
  | top => simp at h
  | coe r => exact ⟨r, rfl⟩

/-! ## Sums over the keys up to a query -/

/-- The keys up to `n`, summed among the first `K > n` or among all. -/
theorem sum_upto {N K n : Nat} (hK : K ≤ N) (hn : n < K) (f : Fin N → ℝ) :
    ∑ s : Fin K, (if s.val ≤ n then f (Fin.castLE hK s) else 0) = ∑ s : Fin N, (if s.val ≤ n then f s else 0) := by
  refine Finset.sum_of_injOn (Fin.castLE hK) (fun a _ b _ e => Fin.castLE_injective hK e) (fun _ _ => Finset.mem_coe.2 (Finset.mem_univ _)) (fun s _ hs => ?_) (fun s _ => rfl)
  rw [if_neg]
  intro h
  exact hs ⟨⟨s.val, by omega⟩, Finset.mem_coe.2 (Finset.mem_univ _), rfl⟩

/-! ## The softmax of two parts, rescaled -/

theorem two_rpow_pos (x : ℝ) : 0 < (2 : ℝ) ^ x := Real.rpow_pos_of_pos (by norm_num) x

/-- What the kernel computes, a weight `2^(a - M)` on a first part taken relative to `a` and a second part relative to
    `M`, both with a shift `h` in their exponents, is the plain weighted sum times one factor. -/
theorem merge {ι κ : Type*} [Fintype ι] [Fintype κ] (u : ι → ℝ) (w : κ → ℝ) (p : κ → Prop) [DecidablePred p] (g : ι → ℝ) (v : κ → ℝ) (a h M : ℝ) :
    (2 : ℝ) ^ (a - M) * (∑ j, (2 : ℝ) ^ (u j + h - a) * g j) + ∑ s, (if p s then (2 : ℝ) ^ (w s + h - M) else 0) * v s
      = (2 : ℝ) ^ (h - M) * (∑ j, (2 : ℝ) ^ u j * g j + ∑ s, (if p s then (2 : ℝ) ^ w s * v s else 0)) := by
  have h2 : (0 : ℝ) < 2 := by norm_num
  rw [mul_add, Finset.mul_sum, Finset.mul_sum, Finset.mul_sum]
  congr 1
  · refine Finset.sum_congr rfl fun j _ => ?_
    rw [← mul_assoc, ← mul_assoc, ← Real.rpow_add h2, ← Real.rpow_add h2]
    congr 2; ring
  · refine Finset.sum_congr rfl fun s _ => ?_
    split_ifs
    · rw [← mul_assoc, ← Real.rpow_add h2]; congr 2; ring
    · simp

/-- The factor cancels in the quotient. -/
theorem quot_cancel (c n d : ℝ) (hc : c ≠ 0) : (c * n) / (c * d) = n / d := mul_div_mul_left n d hc

end Cert.Hand

end
-- ==== Proof.Pieces.lean ====
/-
  WHAT THE KERNEL STORES BEFORE ITS TILES, READ AT AN INDEX: the keys with their extra columns, the queries with their
  extra rows, the values with their rows of ones, and the meta keys' decay sums, in terms of the finite numbers the
  input blocks hold.
-/
module
public import proofs.«01_k».proof.Proof.Stages
public import proofs.«01_k».proof.Proof.Reals
public import Idealize.ShloMosaic.Lib.ValueLayout
public import Idealize.ShloMosaic.Lib.ValueIdx
public import Idealize.ShloMosaic.Lib.IdealHost
public import Idealize.ShloMosaic.Lib.Pipeline.Value
@[expose] public section
set_option maxRecDepth 16384

noncomputable section

namespace Cert.KernelIdeal.Hand

open Cert.KernelIdeal Cert.KernelIdeal.Gen Cert.Hand Idealize.ShloMosaic Idealize.ShloMosaic.TcCoe Idealize.SL.Sem Idealize.ShloMosaic.ValueIdx

/-! ## The last of the stores that reach an index -/

section Canon

variable {Val : EltTy → Type} [∀ e, Nonempty (Val e)] {S : Shape} {e : EltTy}

/-- An index the last store reaches holds what it stored there, -/
theorem canon_hit {off size : Fin S.rank → Nat} (inb : ∀ a, off a + size a ≤ S.size a) (w : (⟨S.rank, size⟩ : Shape).Idx → Val e)
    (L : List (View.Piece Val S e)) (y : S.Idx) (x : (⟨S.rank, size⟩ : Shape).Idx) (h : ∀ a, (y a).val = off a + (x a).val) :
    View.canon ((⟨Rect.unit off size inb, w⟩ : View.Piece Val S e) :: L) y = w x := by
  have hy : y = (Rect.unit off size inb).emb x := funext fun a => Fin.ext (by
    rw [Rect.emb_apply]; show (y a).val = off a + 1 * (x a).val; rw [Nat.one_mul]; exact h a)
  rw [hy]; exact View.canon_cons_emb (Rect.unit off size inb) w L x

/-- and another what the earlier ones left. -/
theorem canon_miss {off size : Fin S.rank → Nat} (inb : ∀ a, off a + size a ≤ S.size a) (w : (⟨S.rank, size⟩ : Shape).Idx → Val e)
    (L : List (View.Piece Val S e)) (y : S.Idx) (a : Fin S.rank) (h : (y a).val < off a ∨ off a + size a ≤ (y a).val) :
    View.canon ((⟨Rect.unit off size inb, w⟩ : View.Piece Val S e) :: L) y = View.canon L y :=
  View.canon_cons_of_not_mem _ _ fun hm => by
    have := (Rect.mem_set_unit (inb := inb)).1 hm a
    omega

/-- A load reads what is stored at the index moved by its offsets. -/
theorem ld_at (X : S.Idx → Val e) {off size : Fin S.rank → Nat} (inb : ∀ a, off a + size a ≤ S.size a)
    (x : (⟨S.rank, size⟩ : Shape).Idx) (y : S.Idx) (h : ∀ a, (y a).val = off a + (x a).val) :
    View.ld X (Rect.unit off size inb) x = X y :=
  congrArg X (funext fun a => Fin.ext (by
    show off a + 1 * (x a).val = (y a).val; rw [Nat.one_mul]; exact (h a).symm))

end Canon

/-! ## The finite numbers in the input blocks -/

/-- The queries, keys, values and gate of one head, the meta keys and values, and the decay sums. -/
structure Data where
  q : Fin 4096 → Fin 128 → ℝ
  k : Fin 4096 → Fin 128 → ℝ
  v : Fin 4096 → Fin 128 → ℝ
  z : Fin 4096 → Fin 128 → ℝ
  km : Fin 16 → Fin 128 → ℝ
  vm : Fin 16 → Fin 128 → ℝ
  c : Fin 4096 → ℝ
  cm : Fin 16 → ℝ

/-- The input blocks hold them. -/
structure Holds (D : Data) (x0 x1 x2 x3 : Vec Ideal S1x4096x128 .bf16) (x4 x5 : Vec Ideal S16x128 .bf16) (x6 : Vec Ideal S1x1x1x4096 .f32) (x7 : Vec Ideal S1x1x128 .f32) : Prop where
  q : ∀ t d, x0 (ix3 (0 : Fin 1) t d) = (D.q t d : EReal)
  k : ∀ t d, x1 (ix3 (0 : Fin 1) t d) = (D.k t d : EReal)
  v : ∀ t d, x2 (ix3 (0 : Fin 1) t d) = (D.v t d : EReal)
  z : ∀ t d, x3 (ix3 (0 : Fin 1) t d) = (D.z t d : EReal)
  km : ∀ j d, x4 (ix2 j d) = (D.km j d : EReal)
  vm : ∀ j d, x5 (ix2 j d) = (D.vm j d : EReal)
  c : ∀ t, x6 (ix4 (0 : Fin 1) (0 : Fin 1) (0 : Fin 1) t) = (D.c t : EReal)
  cm : ∀ j : Fin 16, x7 (ix3 (0 : Fin 1) (0 : Fin 1) (Fin.castLE (by decide) j)) = (D.cm j : EReal)

/-! ## Pieces of a number -/

theorem hi_apply {s : Shape} (x : FVec Ideal s .f32) (i : s.Idx) : hi x i = x i := rfl
theorem mid_apply {s : Shape} (x : FVec Ideal s .f32) (i : s.Idx) (h : ∃ r : ℝ, x i = r) : mid x i = 0 := by
  obtain ⟨r, hr⟩ := h
  show x i - x i = 0
  rw [hr, coe_sub_self]
theorem lo_apply {s : Shape} (x : FVec Ideal s .f32) (i : s.Idx) (h : ∃ r : ℝ, x i = r) : lo x i = 0 := by
  show (x i - x i) - mid x i = 0
  rw [mid_apply x i h]
  obtain ⟨r, hr⟩ := h
  rw [hr, coe_sub_self, sub_zero]

theorem ones_apply (s : Shape) (i : s.Idx) : (ones s : FVec Ideal s .f32) i = 1 := by
  show Ideal.ofBits .f32 0x3F800000#32 = 1
  exact Ideal.ofBits_one_f32

/-! ## The stack of six rows -/

theorem put_apply {N : Nat} (h1 : (⟨2, ![128, N]⟩ : Shape).Iotas .tc 32 [0]) (hs : (⟨2, ![1, N]⟩ : Shape).ShapeCasts ⟨2, ![1, N]⟩)
    (hb : (⟨2, ![1, N]⟩ : Shape).Broadcasts ⟨2, ![128, N]⟩) (r : Nat) (hr : r < 128) (row : FVec Ideal ⟨2, ![1, N]⟩ .f32)
    (x : FVec Ideal ⟨2, ![128, N]⟩ .f32) (i : Fin 128) (n : Fin N) :
    put h1 hs hb (BitVec.ofNat 32 r) row x (ix2 i n) = if i.val = r then row (ix2 (0 : Fin 1) n) else x (ix2 i n) := by
  unfold put
  rw [shapeCast_self, select_apply, broadcastTo_1b_ab_apply]
  have e : cmpi .eq (iota .tc ⟨2, ![128, N]⟩ 32 [0] h1) (broadcast ⟨2, ![128, N]⟩ (BitVec.ofNat 32 r)) (ix2 i n)
      = BitVec.ofBool (decide (i.val = r)) := by
    show BitVec.ofBool (iota .tc ⟨2, ![128, N]⟩ 32 [0] h1 (ix2 i n) == BitVec.ofNat 32 r) = _
    rw [iota_single_apply]
    have hi := i.isLt
    congr 1
    rw [Bool.eq_iff_iff]
    simp only [beq_iff_eq, decide_eq_true_eq]
    constructor
    · intro h
      have := congrArg BitVec.toNat h
      simp only [BitVec.toNat_ofNat] at this
      have e0 : ((ix2 i n : (⟨2, ![128, N]⟩ : Shape).Idx) 0).val = i.val := rfl
      rw [e0] at this
      omega
    · intro h
      show BitVec.ofNat 32 i.val = _
      rw [h]
  rw [e]
  by_cases h : i.val = r
  · rw [if_pos h, decide_eq_true h]; rfl
  · rw [if_neg h, decide_eq_false h]; rfl

/-- Which of six numbers row `i` holds, zero from the seventh row on. -/
def six (i : Nat) (a b c d e f : EReal) : EReal :=
  if i = 5 then f else if i = 4 then e else if i = 3 then d else if i = 2 then c else if i = 1 then b else if i = 0 then a else 0

theorem stack_apply {N : Nat} (h1 : (⟨2, ![128, N]⟩ : Shape).Iotas .tc 32 [0]) (hs : (⟨2, ![1, N]⟩ : Shape).ShapeCasts ⟨2, ![1, N]⟩)
    (hb : (⟨2, ![1, N]⟩ : Shape).Broadcasts ⟨2, ![128, N]⟩) (a b c d e f : FVec Ideal ⟨2, ![1, N]⟩ .f32) (i : Fin 128) (n : Fin N) :
    stack h1 hs hb a b c d e f (ix2 i n)
      = six i.val (a (ix2 (0 : Fin 1) n)) (b (ix2 (0 : Fin 1) n)) (c (ix2 (0 : Fin 1) n)) (d (ix2 (0 : Fin 1) n)) (e (ix2 (0 : Fin 1) n)) (f (ix2 (0 : Fin 1) n)) := by
  unfold stack six
  rw [put_apply h1 hs hb 5 (by decide), put_apply h1 hs hb 4 (by decide), put_apply h1 hs hb 3 (by decide), put_apply h1 hs hb 2 (by decide),
    put_apply h1 hs hb 1 (by decide), put_apply h1 hs hb 0 (by decide)]
  rw [show (broadcast ⟨2, ![128, N]⟩ (Scalar.ofBits .f32 0x00000000#32 : Ideal .f32)) (ix2 i n) = 0 from Ideal.ofBits_zero_f32]

/-- Six products, the first and the fourth of them not zero. -/
theorem sum_six (n h : ℝ) :
    ∑ i : Fin 128, six i.val n 0 0 1 1 1 * six i.val 1 1 1 h 0 0 = ((n + h : ℝ) : EReal) := by
  rw [show (∑ i : Fin 128, six i.val n 0 0 1 1 1 * six i.val 1 1 1 h 0 0)
    = ∑ i : Fin (6 + 122), six i.val n 0 0 1 1 1 * six i.val 1 1 1 h 0 0 from rfl, Fin.sum_univ_add, Fin.sum_univ_six]
  rw [Finset.sum_eq_zero (s := (Finset.univ : Finset (Fin 122))) (fun i _ => by
    have e : six (Fin.natAdd 6 i).val (n : EReal) 0 0 1 1 1 = 0 := by
      have : (Fin.natAdd 6 i).val = 6 + i.val := rfl
      unfold six
      rw [if_neg (by omega), if_neg (by omega), if_neg (by omega), if_neg (by omega), if_neg (by omega), if_neg (by omega)]
    rw [e, zero_mul])]
  simp [six, EReal.coe_add]

/-! ## The shifts -/

theorem hcT (q : Fin 8) : ∀ a, (![0, 0, 0, 512 * q.val] : Fin 4 → Nat) a + S1x1x1x512.size a ≤ S1x1x1x4096.size a := by
  revert q; decide

/-- The least of a row. -/
theorem min_single {s t : Shape} {a : Fin s.rank} (src : FVec Ideal s .f32) (acc : BitVec FTy.f32.bits)
    (h : s.Reduces [a] t) (hφ : FKind.Formats .f32) (hacc : acc = FKind.minimumf.neutral .f32 hφ) (j : t.Idx) :
    multiReduction .minimumf [a] t src acc h hφ hacc j
      = (Finset.univ : Finset (Fin (s.size a))).fold min (FloatOps.ofBits .f32 acc) (src ∘ h.lift j) := by
  rw [multiReduction_minimumf_eq_fold]; exact h.fold_filter_drop_single _ _ src j

/-- The shift of tile `q`. -/
def sq (x6 : Vec Ideal S1x1x1x4096 .f32) (q : Fin 8) : FVec Ideal S1x1 .f32 := shift (cTile x6 (512 * q.val) (hcT q))

/-- The shift of tile `q`, as a finite number. -/
def sh (x6 : Vec Ideal S1x1x1x4096 .f32) (q : Fin 8) : ℝ := (sq x6 q (ix2 (0 : Fin 1) (0 : Fin 1))).toReal

section

variable {D : Data} {x0 x1 x2 x3 : Vec Ideal S1x4096x128 .bf16} {x4 x5 : Vec Ideal S16x128 .bf16} {x6 : Vec Ideal S1x1x1x4096 .f32} {x7 : Vec Ideal S1x1x128 .f32}

theorem cAll (H : Holds D x0 x1 x2 x3 x4 x5 x6 x7) (y : S1x1x1x4096.Idx) : ∃ r : ℝ, x6 y = r := by
  have e : y = ix4 (0 : Fin 1) (0 : Fin 1) (0 : Fin 1) (y 3 : Fin 4096) := by
    funext a
    match a with
    | ⟨0, _⟩ => exact Fin.ext (by have : (y 0).val < 1 := (y 0).isLt; show (y 0).val = 0; omega)
    | ⟨1, _⟩ => exact Fin.ext (by have : (y 1).val < 1 := (y 1).isLt; show (y 1).val = 0; omega)
    | ⟨2, _⟩ => exact Fin.ext (by have : (y 2).val < 1 := (y 2).isLt; show (y 2).val = 0; omega)
    | ⟨3, _⟩ => rfl
  exact ⟨D.c (y 3), (congrArg x6 e).trans (H.c (y 3))⟩

theorem sq_eq (H : Holds D x0 x1 x2 x3 x4 x5 x6 x7) (q : Fin 8) (i : S1x1.Idx) : sq x6 q i = (sh x6 q : EReal) := by
  have hi : i = ix2 (0 : Fin 1) (0 : Fin 1) := by
    funext a
    match a with
    | ⟨0, _⟩ => exact Fin.ext (by have : (i 0).val < 1 := (i 0).isLt; show (i 0).val = 0; omega)
    | ⟨1, _⟩ => exact Fin.ext (by have : (i 1).val < 1 := (i 1).isLt; show (i 1).val = 0; omega)
  rw [hi]
  refine coe_toReal_of ?_
  unfold sq shift
  rw [shapeCast_a_1a_apply]
  obtain ⟨r, hr⟩ := fold_min_real (Finset.univ : Finset (Fin (S1x512.size (1 : Fin 2)))) ⟨⟨0, by decide⟩, Finset.mem_univ _⟩
    ((shapeCast S1x512 (cTile x6 (512 * q.val) (hcT q)) shapeCasts_S1x1x1x512_S1x512) ∘ reduces_S1x512_S1.lift (ix1 (0 : Fin 1)))
    (fun i _ => cAll H _)
  have e : (FloatOps.ofBits .f32 0x7F800000#32 : Ideal .f32) = (⊤ : EReal) := by
    show Ideal.ofBits .f32 0x7F800000#32 = ⊤
    simp [Ideal.ofBits, Ideal.ieee]
  refine ⟨r, (min_single _ _ _ _ _ _).trans ?_⟩
  rw [e]
  exact hr

theorem lanes_apply (s : FVec Ideal S1x1 .f32) (i : S1x512.Idx) : lanes s i = s (ix2 (0 : Fin 1) (0 : Fin 1)) := by
  unfold lanes
  rw [shapeCast_self]
  exact broadcastTo_apply s broadcasts_S1x1_S1x512 i (ix2 (0 : Fin 1) (0 : Fin 1)) fun a => by
    match a with
    | ⟨0, _⟩ => rfl
    | ⟨1, _⟩ => rfl

/-! ## The extra columns of the keys and the extra rows of the queries -/

theorem keyTerms_apply (H : Holds D x0 x1 x2 x3 x4 x5 x6 x7) (s : Fin 4096) (r : Fin 128) :
    keyTerms x6 (ix2 s r) = six r.val ((-D.c s : ℝ) : EReal) 0 0 1 1 1 := by
  have hn : (subf (broadcast S1x4096 (Scalar.ofBits .f32 0x00000000#32 : Ideal .f32)) (shapeCast S1x4096 (View.ld x6 (Rect.unit ![0, 0, 0, 0] S1x1x1x4096.size inb_S1x1x1x4096_S1x1x1x4096_0_0_0_0)) shapeCasts_S1x1x1x4096_S1x4096) : FVec Ideal S1x4096 .f32) (ix2 (0 : Fin 1) s)
      = ((-D.c s : ℝ) : EReal) := by
    rw [subf_apply, show (broadcast S1x4096 (Scalar.ofBits .f32 0x00000000#32 : Ideal .f32)) (ix2 (0 : Fin 1) s) = 0 from Ideal.ofBits_zero_f32]
    rw [shapeCast_apply _ shapeCasts_S1x1x1x4096_S1x4096 (ix2 (0 : Fin 1) s) (ix4 (0 : Fin 1) (0 : Fin 1) (0 : Fin 1) s) (by
      rw [Shape.rowMajor_val_four, Shape.rowMajor_val_two]; rfl)]
    rw [ld_at x6 inb_S1x1x1x4096_S1x1x1x4096_0_0_0_0 _ (ix4 (0 : Fin 1) (0 : Fin 1) (0 : Fin 1) s) (fun a => by
      match a with
      | ⟨0, _⟩ => rfl
      | ⟨1, _⟩ => rfl
      | ⟨2, _⟩ => rfl
      | ⟨3, _⟩ => exact (Nat.zero_add _).symm), H.c, zero_sub, EReal.coe_neg]
  unfold keyTerms
  rw [shapeCast_self, transpose_ix2_apply, truncf_apply, stack_apply, hi_apply, mid_apply _ _ ⟨_, hn⟩, lo_apply _ _ ⟨_, hn⟩, hn, ones_apply]

theorem qTerms_apply (H : Holds D x0 x1 x2 x3 x4 x5 x6 x7) (q : Fin 8) (u : Fin 1) (r : Fin 128) (t : Fin 512) :
    qTerms (cTile x6 (512 * q.val) (hcT q)) (ix3 u r t) = six r.val 1 1 1 (sh x6 q : EReal) 0 0 := by
  unfold qTerms
  have h := sq_eq H q (ix2 (0 : Fin 1) (0 : Fin 1))
  unfold sq at h
  rw [shapeCast_ab_1ab_apply, truncf_apply, stack_apply, lanes_apply, lanes_apply, lanes_apply, hi_apply, mid_apply _ _ ⟨_, h⟩, lo_apply _ _ ⟨_, h⟩, h, ones_apply]

/-! ## The keys, the queries and the values read back -/

/-- Membership in the box of a store of two axes. -/
theorem mem2 {n0 n1 a b p q : Nat} (inb : ∀ i, (![a, b] : Fin 2 → Nat) i + (⟨2, ![p, q]⟩ : Shape).size i ≤ (⟨2, ![n0, n1]⟩ : Shape).size i) (y : (⟨2, ![n0, n1]⟩ : Shape).Idx)
    (h0 : a ≤ (y 0).val ∧ (y 0).val < a + p) (h1 : b ≤ (y 1).val ∧ (y 1).val < b + q) :
    y ∈ (Rect.unit (s := ⟨2, ![n0, n1]⟩) ![a, b] (⟨2, ![p, q]⟩ : Shape).size inb).set :=
  Rect.mem_set_unit.2 fun i => match i with
    | ⟨0, _⟩ => h0
    | ⟨1, _⟩ => h1

theorem kaug_cover (y : S4096x256.Idx) : ∃ p ∈ kaugL x1 x6, y ∈ p.1.set := by
  have h0 : (y 0).val < 4096 := (y 0).isLt
  have h1 : (y 1).val < 256 := (y 1).isLt
  unfold kaugL
  simp only [List.mem_cons, List.not_mem_nil, or_false, exists_eq_or_imp, exists_eq_left]
  by_cases hy : (y 1).val < 128
  · refine .inr (mem2 _ y ?_ ?_) <;> omega
  · refine .inl (mem2 _ y ?_ ?_) <;> omega

theorem kaug_eq (K : Nat) (hk : ∀ a, (![0, 0] : Fin 2 → Nat) a + (⟨2, ![K, 256]⟩ : Shape).size a ≤ S4096x256.size a) (s : Fin K) (e : Fin 256) (s' : Fin 4096) (hs : s'.val = s.val) :
    kaug x1 x6 K hk (ix2 s e) = View.canon (kaugL x1 x6) (ix2 s' e) := by
  unfold kaug
  rw [View.readCov_eq_canon_ld _ _ _ kaug_cover]
  exact ld_at _ hk _ _ fun a => by
    match a with
    | ⟨0, _⟩ => show s'.val = 0 + s.val; omega
    | ⟨1, _⟩ => exact (Nat.zero_add _).symm

theorem kaug_lo (H : Holds D x0 x1 x2 x3 x4 x5 x6 x7) (K : Nat) (hk : ∀ a, (![0, 0] : Fin 2 → Nat) a + (⟨2, ![K, 256]⟩ : Shape).size a ≤ S4096x256.size a) (s : Fin K) (d : Fin 128) (s' : Fin 4096) (hs : s'.val = s.val) :
    kaug x1 x6 K hk (ix2 s (Fin.castAdd 128 d)) = (D.k s' d : EReal) := by
  rw [kaug_eq K hk s _ s' hs]
  unfold kaugL
  rw [canon_miss _ _ _ _ (1 : Fin 2) (.inl (show d.val < 128 from d.isLt))]
  rw [canon_hit _ _ _ _ (ix2 s' d) (fun a => by
    match a with
    | ⟨0, _⟩ => exact (Nat.zero_add _).symm
    | ⟨1, _⟩ => exact (Nat.zero_add _).symm)]
  rw [shapeCast_self, shapeCast_1ab_ab_apply, ld_at x1 inb_S1x4096x128_S1x4096x128_0_0_0 _ (ix3 (0 : Fin 1) s' d) (fun a => by
    match a with
    | ⟨0, _⟩ => rfl
    | ⟨1, _⟩ => exact (Nat.zero_add _).symm
    | ⟨2, _⟩ => exact (Nat.zero_add _).symm), H.k]

theorem kaug_hi (H : Holds D x0 x1 x2 x3 x4 x5 x6 x7) (K : Nat) (hk : ∀ a, (![0, 0] : Fin 2 → Nat) a + (⟨2, ![K, 256]⟩ : Shape).size a ≤ S4096x256.size a) (s : Fin K) (r : Fin 128) (s' : Fin 4096) (hs : s'.val = s.val) :
    kaug x1 x6 K hk (ix2 s (Fin.natAdd 128 r)) = six r.val ((-D.c s' : ℝ) : EReal) 0 0 1 1 1 := by
  rw [kaug_eq K hk s _ s' hs]
  unfold kaugL
  rw [canon_hit _ _ _ _ (ix2 s' r) (fun a => by
    match a with
    | ⟨0, _⟩ => exact (Nat.zero_add _).symm
    | ⟨1, _⟩ => rfl), keyTerms_apply H]

theorem qT_apply (x : Vec Ideal S1x4096x128 .bf16) (d : Fin 128) (t : Fin 4096) : qT x (ix2 d t) = x (ix3 (0 : Fin 1) t d) := by
  unfold qT
  rw [transpose_ix2_apply, shapeCast_1ab_ab_apply, ld_at x inb_S1x4096x128_S1x4096x128_0_0_0 _ (ix3 (0 : Fin 1) t d) (fun a => by
    match a with
    | ⟨0, _⟩ => rfl
    | ⟨1, _⟩ => exact (Nat.zero_add _).symm
    | ⟨2, _⟩ => exact (Nat.zero_add _).symm)]

theorem qTile_apply (o : Nat) (h : S128x4096.Slices ![0, o] S128x512) (u : Fin 1) (d : Fin 128) (t : Fin 512) (t' : Fin 4096) (ht : t'.val = o + t.val) :
    qTile x0 o h (ix3 u d t) = x0 (ix3 (0 : Fin 1) t' d) := by
  unfold qTile
  rw [shapeCast_ab_1ab_apply, slice2_axis1_apply o _ h d t t' ht, qT_apply]

/-- What the store of the queries holds at an index: the query, or one of the extra rows. -/
def qtAt (D : Data) (x6 : Vec Ideal S1x1x1x4096 .f32) (y : S8x256x512.Idx) : EReal :=
  if h : (y 1).val < 128 then (D.q ⟨512 * (y 0).val + (y 2).val, by have h0 : (y 0).val < 8 := (y 0).isLt; have h2 : (y 2).val < 512 := (y 2).isLt; omega⟩ ⟨(y 1).val, h⟩ : EReal)
  else six ((y 1).val - 128) 1 1 1 (sh x6 (y 0) : EReal) 0 0

theorem qtAt_lo (q : Fin 8) (d : Fin 128) (t : Fin 512) (t' : Fin 4096) (ht : t'.val = 512 * q.val + t.val) (y : S8x256x512.Idx)
    (h0 : (y 0).val = q.val) (h1 : (y 1).val = d.val) (h2 : (y 2).val = t.val) : qtAt D x6 y = (D.q t' d : EReal) := by
  unfold qtAt
  rw [dif_pos (by have := d.isLt; omega)]
  congr 2
  · exact Fin.ext (by show 512 * (y 0).val + (y 2).val = _; omega)
  · exact Fin.ext h1

theorem qtAt_hi (q : Fin 8) (r : Fin 128) (y : S8x256x512.Idx)
    (h0 : (y 0).val = q.val) (h1 : (y 1).val = 128 + r.val) : qtAt D x6 y = six r.val 1 1 1 (sh x6 q : EReal) 0 0 := by
  unfold qtAt
  rw [dif_neg (by omega), show (y 0 : Fin 8) = q from Fin.ext h0, show (y 1).val - 128 = r.val by omega]

theorem piece_lo (H : Holds D x0 x1 x2 x3 x4 x5 x6 x7) (q : Fin 8) (h : S128x4096.Slices ![0, 512 * q.val] S128x512)
    (inb : ∀ a, (![q.val, 0, 0] : Fin 3 → Nat) a + S1x128x512.size a ≤ S8x256x512.size a) (x : S1x128x512.Idx) :
    qTile x0 (512 * q.val) h x = qtAt D x6 ((Rect.unit (s := S8x256x512) ![q.val, 0, 0] S1x128x512.size inb).emb x) := by
  have hq := q.isLt
  have h0 : (x 0).val < 1 := (x 0).isLt
  have h2 : (x 2).val < 512 := (x 2).isLt
  rw [qtAt_lo q (x 1) (x 2) ⟨512 * q.val + (x 2).val, by omega⟩ rfl]
  · conv_lhs => rw [eq_ix3 x]
    exact (qTile_apply (512 * q.val) h (x 0) (x 1) (x 2) ⟨512 * q.val + (x 2).val, by omega⟩ rfl).trans (H.q _ _)
  · show q.val + 1 * (x 0).val = q.val; omega
  · show 0 + 1 * (x 1).val = (x 1).val; omega
  · show 0 + 1 * (x 2).val = (x 2).val; omega

theorem piece_hi (H : Holds D x0 x1 x2 x3 x4 x5 x6 x7) (q : Fin 8)
    (inb : ∀ a, (![q.val, 128, 0] : Fin 3 → Nat) a + S1x128x512.size a ≤ S8x256x512.size a) (x : S1x128x512.Idx) :
    qTerms (cTile x6 (512 * q.val) (hcT q)) x = qtAt D x6 ((Rect.unit (s := S8x256x512) ![q.val, 128, 0] S1x128x512.size inb).emb x) := by
  have h0 : (x 0).val < 1 := (x 0).isLt
  rw [qtAt_hi q (x 1)]
  · conv_lhs => rw [eq_ix3 x]
    exact qTerms_apply H q (x 0) (x 1) (x 2)
  · show q.val + 1 * (x 0).val = q.val; omega
  · show 128 + 1 * (x 1).val = 128 + (x 1).val; omega

/-- Membership in a store's box, by coordinates. -/
theorem mem3 {n0 n1 n2 a b c p q r : Nat} (inb : ∀ i, (![a, b, c] : Fin 3 → Nat) i + (⟨3, ![p, q, r]⟩ : Shape).size i ≤ (⟨3, ![n0, n1, n2]⟩ : Shape).size i) (y : (⟨3, ![n0, n1, n2]⟩ : Shape).Idx)
    (h0 : a ≤ (y 0).val ∧ (y 0).val < a + p) (h1 : b ≤ (y 1).val ∧ (y 1).val < b + q) (h2 : c ≤ (y 2).val ∧ (y 2).val < c + r) :
    y ∈ (Rect.unit (s := ⟨3, ![n0, n1, n2]⟩) ![a, b, c] (⟨3, ![p, q, r]⟩ : Shape).size inb).set :=
  Rect.mem_set_unit.2 fun i => match i with
    | ⟨0, _⟩ => h0
    | ⟨1, _⟩ => h1
    | ⟨2, _⟩ => h2

theorem qt_cover (y : S8x256x512.Idx) : ∃ p ∈ qtL x0 x6, y ∈ p.1.set := by
  have h0 : (y 0).val < 8 := (y 0).isLt
  have h1 : (y 1).val < 256 := (y 1).isLt
  have h2 : (y 2).val < 512 := (y 2).isLt
  have key : ∀ n : Nat, n < 8 → (y 0).val = n → ∃ p ∈ qtL x0 x6, y ∈ p.1.set := by
    intro n hn e
    unfold qtL
    simp only [List.mem_cons, List.not_mem_nil, or_false, exists_eq_or_imp, exists_eq_left]
    by_cases hy : (y 1).val < 128 <;> interval_cases n <;>
      repeat (first | (refine .inl (mem3 _ y ?_ ?_ ?_) <;> omega) | (refine mem3 _ y ?_ ?_ ?_ <;> omega) | apply Or.inr)
  exact key _ h0 rfl

theorem qt_canon (H : Holds D x0 x1 x2 x3 x4 x5 x6 x7) (y : S8x256x512.Idx) : View.canon (qtL x0 x6) y = qtAt D x6 y := by
  refine View.canon_apply_of_pieces (Val := Elt Ideal) (e := .bf16) (qtAt D x6) (qtL x0 x6) ?_ y (qt_cover y)
  unfold qtL
  simp only [List.mem_cons, List.not_mem_nil, or_false, forall_eq_or_imp, forall_eq]
  exact ⟨piece_hi H 7 _, piece_lo H 7 _ _, piece_hi H 6 _, piece_lo H 6 _ _, piece_hi H 5 _, piece_lo H 5 _ _, piece_hi H 4 _, piece_lo H 4 _ _,
    piece_hi H 3 _, piece_lo H 3 _ _, piece_hi H 2 _, piece_lo H 2 _ _, piece_hi H 1 _, piece_lo H 1 _ _, piece_hi H 0 _, piece_lo H 0 _ _⟩

theorem qt_eq (H : Holds D x0 x1 x2 x3 x4 x5 x6 x7) (q : Fin 8) (h : ∀ a, (![q.val, 0, 0] : Fin 3 → Nat) a + S1x256x512.size a ≤ S8x256x512.size a) (e : Fin 256) (t : Fin 512) :
    qt x0 x6 q.val h (ix3 (0 : Fin 1) e t) = qtAt D x6 (ix3 q e t) := by
  unfold qt
  rw [View.readCov_eq_canon_ld _ _ _ qt_cover, ld_at _ h _ (ix3 q e t) (fun a => by
    match a with
    | ⟨0, _⟩ => rfl
    | ⟨1, _⟩ => exact (Nat.zero_add _).symm
    | ⟨2, _⟩ => exact (Nat.zero_add _).symm), qt_canon H]

theorem vt_cover (y : S144x4096.Idx) : ∃ p ∈ vtL x2, y ∈ p.1.set := by
  have h0 : (y 0).val < 144 := (y 0).isLt
  have h1 : (y 1).val < 4096 := (y 1).isLt
  unfold vtL
  simp only [List.mem_cons, List.not_mem_nil, or_false, exists_eq_or_imp, exists_eq_left]
  by_cases hy : (y 0).val < 128
  · refine .inr (mem2 _ y ?_ ?_) <;> omega
  · refine .inl (mem2 _ y ?_ ?_) <;> omega

theorem cmrep_cover (y : S128x128.Idx) : ∃ p ∈ cmrepL x7, y ∈ p.1.set := by
  have h0 : (y 0).val < 128 := (y 0).isLt
  have h1 : (y 1).val < 128 := (y 1).isLt
  unfold cmrepL
  simp only [List.mem_cons, List.not_mem_nil, or_false, exists_eq_left]
  refine mem2 _ y ?_ ?_ <;> omega

theorem vt_eq (K : Nat) (hv : ∀ a, (![0, 0] : Fin 2 → Nat) a + (⟨2, ![144, K]⟩ : Shape).size a ≤ S144x4096.size a) (r : Fin 144) (s : Fin K) (s' : Fin 4096) (hs : s'.val = s.val) :
    vt x2 K hv (ix2 r s) = View.canon (vtL x2) (ix2 r s') := by
  unfold vt
  rw [View.readCov_eq_canon_ld _ _ _ vt_cover]
  exact ld_at _ hv _ _ fun a => by
    match a with
    | ⟨0, _⟩ => exact (Nat.zero_add _).symm
    | ⟨1, _⟩ => show s'.val = 0 + s.val; omega

theorem vt_lo (H : Holds D x0 x1 x2 x3 x4 x5 x6 x7) (K : Nat) (hv : ∀ a, (![0, 0] : Fin 2 → Nat) a + (⟨2, ![144, K]⟩ : Shape).size a ≤ S144x4096.size a) (d : Fin 128) (s : Fin K) (s' : Fin 4096) (hs : s'.val = s.val) :
    vt x2 K hv (ix2 (Fin.castAdd 16 d) s) = (D.v s' d : EReal) := by
  rw [vt_eq K hv _ s s' hs]
  unfold vtL
  rw [canon_miss _ _ _ _ (0 : Fin 2) (.inl (show d.val < 128 from d.isLt))]
  rw [canon_hit _ _ _ _ (ix2 d s') (fun a => by
    match a with
    | ⟨0, _⟩ => exact (Nat.zero_add _).symm
    | ⟨1, _⟩ => exact (Nat.zero_add _).symm), shapeCast_self, qT_apply, H.v]

theorem vt_one (K : Nat) (hv : ∀ a, (![0, 0] : Fin 2 → Nat) a + (⟨2, ![144, K]⟩ : Shape).size a ≤ S144x4096.size a) (s : Fin K) (s' : Fin 4096) (hs : s'.val = s.val) :
    vt x2 K hv (ix2 (⟨128, by decide⟩ : Fin 144) s) = (1 : EReal) := by
  rw [vt_eq K hv _ s s' hs]
  unfold vtL
  rw [canon_hit _ _ _ _ (ix2 (0 : Fin 16) s') (fun a => by
    match a with
    | ⟨0, _⟩ => rfl
    | ⟨1, _⟩ => exact (Nat.zero_add _).symm), shapeCast_self]
  exact Ideal.ofBits_one_bf16

theorem cmrep_apply (H : Holds D x0 x1 x2 x3 x4 x5 x6 x7) (j : Fin 16) (n : Fin 128) :
    ((View.whole cc0_scratch1).readCov (cmrepL x7) (Rect.unit (s := S128x128) ![0, 0] S16x128.size inb_S128x128_S16x128_0_0).toLoadRect : Vec Ideal S16x128 .f32) (ix2 j n) = (D.cm j : EReal) := by
  rw [View.readCov_eq_canon_ld _ _ _ cmrep_cover]
  rw [ld_at _ inb_S128x128_S16x128_0_0 _ (ix2 (Fin.castLE (by decide) j : Fin 128) n) (fun a => by
    match a with
    | ⟨0, _⟩ => exact (Nat.zero_add _).symm
    | ⟨1, _⟩ => exact (Nat.zero_add _).symm)]
  unfold cmrepL
  rw [canon_hit _ _ _ _ (ix2 (Fin.castLE (by decide) j : Fin 128) n) (fun a => by
    match a with
    | ⟨0, _⟩ => exact (Nat.zero_add _).symm
    | ⟨1, _⟩ => exact (Nat.zero_add _).symm)]
  rw [shapeCast_self, transpose_ix2_apply, broadcastTo_1b_ab_apply, shapeCast_self, shapeCast_1ab_ab_apply,
    ld_at x7 inb_S1x1x128_S1x1x128_0_0_0 _ (ix3 (0 : Fin 1) (0 : Fin 1) (Fin.castLE (by decide) j : Fin 128)) (fun a => by
    match a with
    | ⟨0, _⟩ => rfl
    | ⟨1, _⟩ => rfl
    | ⟨2, _⟩ => exact (Nat.zero_add _).symm), H.cm]

end

end Cert.KernelIdeal.Hand

end
-- ==== Proof.Tiles.lean ====
/-
  THE TILES READ AT AN INDEX: the scores, the meta keys' part, and a tile's result, which is the softmax-weighted mean of
  the values over the meta keys and the keys up to the query, times the gate.
-/
module
public import proofs.«01_k».proof.Proof.Pieces
public import Idealize.ShloMosaic.Lib.Pointwise.Contract
@[expose] public section
set_option maxRecDepth 16384

noncomputable section

namespace Cert.KernelIdeal.Hand

open Idealize.ShloMosaic hiding ix0 ix1 ix2 ix3 ix4
open Cert.KernelIdeal Cert.KernelIdeal.Gen Cert.Hand Idealize.ShloMosaic.TcCoe Idealize.SL.Sem Idealize.ShloMosaic.ValueIdx

/-! ## The attention of one head, in numbers -/

namespace Data

variable (D : Data)

/-- The score of key `s` for query `t`, in powers of two, less what all scores of `t` share. -/
def score (t s : Fin 4096) : ℝ := (∑ d, D.k s d * D.q t d) - D.c s
/-- The score of meta key `j`. -/
def mscore (t : Fin 4096) (j : Fin 16) : ℝ := (∑ d, D.km j d * D.q t d) - D.cm j
/-- The values weighted by the scores, over the meta keys and the keys up to `t`. -/
def num (t : Fin 4096) (d : Fin 128) : ℝ :=
  ∑ j, (2 : ℝ) ^ D.mscore t j * D.vm j d + ∑ s : Fin 4096, (if s.val ≤ t.val then (2 : ℝ) ^ D.score t s * D.v s d else 0)
/-- The weights' sum. -/
def den (t : Fin 4096) : ℝ :=
  ∑ j, (2 : ℝ) ^ D.mscore t j * 1 + ∑ s : Fin 4096, (if s.val ≤ t.val then (2 : ℝ) ^ D.score t s * 1 else 0)
/-- The gated mean. -/
def out (t : Fin 4096) (d : Fin 128) : ℝ := D.num t d / D.den t * (D.z t d * (1 / (1 + Real.exp (-D.z t d))))

theorem den_pos (t : Fin 4096) : 0 < D.den t := by
  refine add_pos_of_pos_of_nonneg ?_ (Finset.sum_nonneg fun s _ => ?_)
  · exact Finset.sum_pos (fun j _ => by rw [mul_one]; exact two_rpow_pos _) ⟨0, Finset.mem_univ _⟩
  · split_ifs
    · rw [mul_one]; exact (two_rpow_pos _).le
    · exact le_rfl

end Data

/-! ## Ideal products -/

theorem plain_zero {M K N : Nat} {φ₁ φ₂ : FTy} (lhs : FVec Ideal ⟨2, ![M, K]⟩ φ₁) (rhs : FVec Ideal ⟨2, ![K, N]⟩ φ₂) (r : Fin M) (c : Fin N) :
    matmul (DotDims.plain M K N) none lhs rhs (constant ⟨2, ![M, N]⟩ .f32 0x00000000#32) (ix2 r c) = ∑ k : Fin K, lhs (ix2 r k) * rhs (ix2 k c) := by
  refine (Ideal.matmul_plain_apply none lhs rhs _ r c).trans ?_
  rw [constant_apply, Ideal.ofBits_zero_f32, zero_add]

section

variable {D : Data} {x0 x1 x2 x3 : Vec Ideal S1x4096x128 .bf16} {x4 x5 : Vec Ideal S16x128 .bf16} {x6 : Vec Ideal S1x1x1x4096 .f32} {x7 : Vec Ideal S1x1x128 .f32}

/-! ## The scores -/

theorem scores_apply (H : Holds D x0 x1 x2 x3 x4 x5 x6 x7) (q : Fin 8) (K : Nat)
    (hk : ∀ a, (![0, 0] : Fin 2 → Nat) a + (⟨2, ![K, 256]⟩ : Shape).size a ≤ S4096x256.size a)
    (hq : ∀ a, (![q.val, 0, 0] : Fin 3 → Nat) a + S1x256x512.size a ≤ S8x256x512.size a)
    (s : Fin K) (t : Fin 512) (s' t' : Fin 4096) (hs : s'.val = s.val) (ht : t'.val = 512 * q.val + t.val) :
    scores K (kaug x1 x6 K hk) (qt x0 x6 q.val hq) (ix2 s t) = ((D.score t' s' + sh x6 q : ℝ) : EReal) := by
  unfold scores
  rw [plain_zero]
  rw [show (∑ k : Fin 256, kaug x1 x6 K hk (ix2 s k) * shapeCast S256x512 (qt x0 x6 q.val hq) shapeCasts_S1x256x512_S256x512 (ix2 k t))
    = ∑ k : Fin (128 + 128), kaug x1 x6 K hk (ix2 s k) * shapeCast S256x512 (qt x0 x6 q.val hq) shapeCasts_S1x256x512_S256x512 (ix2 k t) from rfl,
    Fin.sum_univ_add]
  have e1 : ∀ d : Fin 128, kaug x1 x6 K hk (ix2 s (Fin.castAdd 128 d)) * shapeCast S256x512 (qt x0 x6 q.val hq) shapeCasts_S1x256x512_S256x512 (ix2 (Fin.castAdd 128 d) t)
      = ((D.k s' d * D.q t' d : ℝ) : EReal) := fun d => by
    rw [kaug_lo H K hk s d s' hs, shapeCast_1ab_ab_apply, qt_eq H, qtAt_lo q d t t' ht _ rfl rfl rfl, EReal.coe_mul]
  have e2 : ∀ r : Fin 128, kaug x1 x6 K hk (ix2 s (Fin.natAdd 128 r)) * shapeCast S256x512 (qt x0 x6 q.val hq) shapeCasts_S1x256x512_S256x512 (ix2 (Fin.natAdd 128 r) t)
      = six r.val ((-D.c s' : ℝ) : EReal) 0 0 1 1 1 * six r.val 1 1 1 (sh x6 q : EReal) 0 0 := fun r => by
    rw [kaug_hi H K hk s r s' hs, shapeCast_1ab_ab_apply, qt_eq H, qtAt_hi q r _ rfl rfl]
  rw [Finset.sum_congr rfl fun d _ => e1 d, Finset.sum_congr rfl fun r _ => e2 r, sum_six, ← coe_sum, ← EReal.coe_add]
  congr 1
  unfold Data.score
  ring

/-- The named number is `⊥`. -/
theorem masked_named : (Named.named κ "masked" (φ := .f32) 0xF149F2CA#32 : Ideal .f32) = (⊥ : EReal) :=
  IdealRules.named_const.ideal_named_scalar _ _ _ _ rfl

theorem diag_apply (x : FVec Ideal S512x512 .f32) (s t : Fin 512) :
    diag x (ix2 s t) = if s.val ≤ t.val then x (ix2 s t) else (⊥ : EReal) := by
  unfold diag
  rw [select_apply]
  have e : cmpi .sle (iota .tc S512x512 32 [0] iota_S512x512_d0_w32) (iota .tc S512x512 32 [1] iota_S512x512_d1_w32) (ix2 s t)
      = BitVec.ofBool (decide (s.val ≤ t.val)) := by
    show BitVec.ofBool ((iota .tc S512x512 32 [0] iota_S512x512_d0_w32 (ix2 s t)).sle (iota .tc S512x512 32 [1] iota_S512x512_d1_w32 (ix2 s t))) = _
    rw [iota_single_apply, iota_single_apply]
    show BitVec.ofBool ((BitVec.ofNat 32 s.val).sle (BitVec.ofNat 32 t.val)) = _
    have hs := s.isLt
    have ht := t.isLt
    congr 1
    rw [Bool.eq_iff_iff, BitVec.sle_iff_toInt_le, decide_eq_true_eq, BitVec.toInt_eq_toNat_cond, BitVec.toInt_eq_toNat_cond, BitVec.toNat_ofNat, BitVec.toNat_ofNat]
    have h1 : s.val % 2 ^ 32 = s.val := Nat.mod_eq_of_lt (by omega)
    have h2 : t.val % 2 ^ 32 = t.val := Nat.mod_eq_of_lt (by omega)
    rw [h1, h2, if_pos (by omega), if_pos (by omega)]
    omega
  rw [e]
  by_cases h : s.val ≤ t.val
  · rw [if_pos h, decide_eq_true h]; rfl
  · rw [if_neg h, decide_eq_false h]
    exact masked_named

theorem masked_apply (P K : Nat) (h1 : (R K).Slices ![P, 0] S512x512) (h0 : (R K).Slices ![0, 0] (R P))
    (hc : Shape.Concatenates [R P, S512x512] (R K) 0) (x : FVec Ideal (R K) .f32) (hK : K = P + 512) (s : Fin K) (t : Fin 512) :
    masked P K h1 h0 hc x (ix2 s t) = if s.val ≤ P + t.val then x (ix2 s t) else (⊥ : EReal) := by
  unfold masked
  have hs := s.isLt
  by_cases hp : s.val < P
  · rw [concatenate_pair_apply_left (t := R K) (0 : Fin 2) _ _ hc (ix2 s t) rfl (ix2 (⟨s.val, hp⟩ : Fin P) t) (fun b => by
      match b with
      | ⟨0, _⟩ => rfl
      | ⟨1, _⟩ => rfl), slice2_axis0_apply 0 x h0 ⟨s.val, hp⟩ t s (Nat.zero_add _).symm, if_pos (by omega)]
  · rw [concatenate_pair_apply_right (t := R K) (0 : Fin 2) _ _ hc (ix2 s t) rfl rfl (ix2 (⟨s.val - P, by omega⟩ : Fin 512) t) (fun b => by
      match b with
      | ⟨0, _⟩ => intro h; exact absurd rfl h
      | ⟨1, _⟩ => intro _; rfl) (by
        show s.val - P + P = s.val; omega), diag_apply, slice2_axis0_apply P x h1 ⟨s.val - P, by omega⟩ t s (by show s.val = P + (s.val - P); omega)]
    show (if s.val - P ≤ t.val then _ else _) = _
    by_cases h : s.val - P ≤ t.val
    · rw [if_pos h, if_pos (by omega)]
    · rw [if_neg h, if_neg (by omega)]

/-! ## The meta keys -/

/-- The tile of a query. -/
def tileOf (n : Fin 4096) : Fin 8 := ⟨n.val / 512, by omega⟩

theorem add_sub_at {A B C : FVec Ideal S16x4096 .f32} {i : S16x4096.Idx} {a b c : EReal} (hA : A i = a) (hB : B i = b) (hC : C i = c) :
    addf A (subf B C) i = a + (b - c) := by
  subst hA hB hC; rfl

theorem metaScores_apply (H : Holds D x0 x1 x2 x3 x4 x5 x6 x7) (j : Fin 16) (n : Fin 4096) :
    metaScores x0 x4 x6 x7 (ix2 j n) = ((D.mscore n j + sh x6 (tileOf n) : ℝ) : EReal) := by
  unfold metaScores
  have e1 : matmul (F := Ideal) (φ₁ := .bf16) (φ₂ := .bf16) dot_S16x128_S128x4096_S16x4096_1_0_0_1_n_n none (shapeCast S16x128 (View.ld x4 (Rect.unit ![0, 0] S16x128.size inb_S16x128_S16x128_0_0)) shapeCasts_S16x128_S16x128) (qT x0) (constant S16x4096 .f32 0x00000000#32) (ix2 j n)
      = ((∑ d, D.km j d * D.q n d : ℝ) : EReal) := by
    refine (plain_zero (M := 16) (K := 128) (N := 4096) (φ₁ := .bf16) (φ₂ := .bf16) _ (qT x0) j n).trans ?_
    rw [coe_sum]
    refine Finset.sum_congr rfl fun d _ => ?_
    have e0 : shapeCast S16x128 (View.ld x4 (Rect.unit ![0, 0] S16x128.size inb_S16x128_S16x128_0_0)) shapeCasts_S16x128_S16x128 (ix2 j d) = (D.km j d : EReal) := by
      refine (congrFun (shapeCast_self _ _) _).trans ?_
      exact (ld_at x4 inb_S16x128_S16x128_0_0 _ (ix2 j d) (fun a => by
        match a with
        | ⟨0, _⟩ => exact (Nat.zero_add _).symm
        | ⟨1, _⟩ => exact (Nat.zero_add _).symm)).trans (H.km j d)
    rw [EReal.coe_mul]
    exact congrArg₂ (· * ·) e0 ((qT_apply x0 d n).trans (H.q n d))
  have e2 := concatenate_ofFn_apply (t := S1x4096) (s₁ := S1x512) (1 : Fin 2) (N := 8) (fun q => lanes (sq x6 q)) concatenates_S1x512_S1x512_S1x512_S1x512_S1x512_S1x512_S1x512_S1x512_S1x4096_d1
    rfl 512 rfl (ix2 (0 : Fin 1) n) (tileOf n) rfl (ix2 (0 : Fin 1) (⟨n.val % 512, Nat.mod_lt _ (by decide)⟩ : Fin 512)) rfl (fun b => by
      match b with
      | ⟨0, _⟩ => intro _; rfl
      | ⟨1, _⟩ => intro h; exact absurd rfl h)
  rw [lanes_apply, sq_eq H] at e2
  have e3 := concatenate_ofFn_apply (t := S16x4096) (s₁ := S16x128) (1 : Fin 2) (N := 32) (fun _ => ((View.whole cc0_scratch1).readCov (cmrepL x7) (Rect.unit (s := S128x128) ![0, 0] S16x128.size inb_S128x128_S16x128_0_0).toLoadRect : Vec Ideal S16x128 .f32))
    concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x4096_d1
    rfl 128 rfl (ix2 j n) (⟨n.val / 128, by omega⟩ : Fin 32) rfl (ix2 j (⟨n.val % 128, Nat.mod_lt _ (by decide)⟩ : Fin 128)) rfl (fun b => by
      match b with
      | ⟨0, _⟩ => intro _; rfl
      | ⟨1, _⟩ => intro h; exact absurd rfl h)
  rw [cmrep_apply H] at e3
  refine (add_sub_at (a := ((∑ d, D.km j d * D.q n d : ℝ) : EReal)) (b := (sh x6 (tileOf n) : EReal)) (c := (D.cm j : EReal)) ?_ ?_ ?_).trans ?_
  · exact e1
  · exact (broadcastTo_1b_ab_apply _ broadcasts_S1x4096_S16x4096 j n).trans e2
  · exact e3
  show ((∑ d, D.km j d * D.q n d : ℝ) : EReal) + ((sh x6 (tileOf n) : EReal) - (D.cm j : EReal)) = _
  rw [← EReal.coe_sub, ← EReal.coe_add]
  congr 1
  unfold Data.mscore
  ring

/-- A column with one row put in. -/
theorem lift0 {a b : Nat} (h : (⟨2, ![a, b]⟩ : Shape).Reduces [0] ⟨1, ![b]⟩) (t : Fin b) (k : Fin a) : h.lift (ix1 t) k = ix2 k t :=
  funext fun x => by
    match x with
    | ⟨0, _⟩ => rfl
    | ⟨1, _⟩ => rfl

theorem metaMax_apply (s : FVec Ideal S16x4096 .f32) (n : Fin 4096) (hs : ∀ j, ∃ r : ℝ, s (ix2 j n) = r) : ∃ r : ℝ, metaMax s (ix2 (0 : Fin 1) n) = r := by
  unfold metaMax
  rw [shapeCast_a_1a_apply]
  obtain ⟨r, hr⟩ := fold_max_real (Finset.univ : Finset (Fin (S16x4096.size (0 : Fin 2)))) ⟨⟨0, by decide⟩, Finset.mem_univ _⟩
    (s ∘ reduces_S16x4096_S4096.lift (ix1 n)) (fun i _ => by
      show ∃ r : ℝ, s (reduces_S16x4096_S4096.lift (ix1 n) i) = r
      obtain ⟨r, hr⟩ := hs i
      exact ⟨r, (congrArg s (lift0 (a := 16) (b := 4096) reduces_S16x4096_S4096 n i)).trans hr⟩)
  refine ⟨r, (Ideal.multiReduction_maximumf_single _ _ _ _ _ _).trans ?_⟩
  have e : (FloatOps.ofBits .f32 0xFF800000#32 : Ideal .f32) = (⊥ : EReal) := by
    show Ideal.ofBits .f32 0xFF800000#32 = ⊥
    simp [Ideal.ofBits, Ideal.ieee]
  rw [e]
  exact hr

theorem metaExp_apply (s : FVec Ideal S16x4096 .f32) (j : Fin 16) (n : Fin 4096) (u a : ℝ) (hs : s (ix2 j n) = u) (ha : metaMax s (ix2 (0 : Fin 1) n) = a) :
    metaExp s (ix2 j n) = (((2 : ℝ) ^ (u - a) : ℝ) : EReal) := by
  unfold metaExp
  show Ideal.exp2 (s (ix2 j n) - broadcastTo S16x4096 (metaMax s) broadcasts_S1x4096_S16x4096 (ix2 j n)) = _
  rw [broadcastTo_1b_ab_apply, hs, ha, exp2_sub]

theorem metaSum_apply (s : FVec Ideal S16x4096 .f32) (n : Fin 4096) (u : Fin 16 → ℝ) (a : ℝ) (hs : ∀ j, s (ix2 j n) = u j) (ha : metaMax s (ix2 (0 : Fin 1) n) = a) :
    metaSum s (ix2 (0 : Fin 1) n) = ((∑ j, (2 : ℝ) ^ (u j - a) * 1 : ℝ) : EReal) := by
  unfold metaSum
  rw [shapeCast_a_1a_apply]
  refine (Ideal.multiReduction_add_single _ _ _ _ _ _).trans ?_
  rw [coe_sum]
  refine Finset.sum_congr rfl fun j _ => ?_
  rw [mul_one]
  exact (congrArg (metaExp s) (lift0 (a := 16) (b := 4096) reduces_S16x4096_S4096 n j)).trans <| metaExp_apply s j n (u j) a (hs j) ha

theorem metaAcc_apply (H : Holds D x0 x1 x2 x3 x4 x5 x6 x7) (s : FVec Ideal S16x4096 .f32) (d : Fin 128) (n : Fin 4096) (u : Fin 16 → ℝ) (a : ℝ) (hs : ∀ j, s (ix2 j n) = u j) (ha : metaMax s (ix2 (0 : Fin 1) n) = a) :
    metaAcc x5 s (ix2 d n) = ((∑ j, (2 : ℝ) ^ (u j - a) * D.vm j d : ℝ) : EReal) := by
  unfold metaAcc
  refine (Ideal.matmul_apply₁ dot_S16x128_S16x4096_S128x4096_0_0_1_1_n_n (a := 0) (K := 16) rfl rfl _ _ _ (ix2 d n)).trans ?_
  rw [constant_apply, Ideal.ofBits_zero_f32, zero_add, coe_sum]
  have eL : ∀ k : Fin 16, Shape.Idx.norm (dot_S16x128_S16x4096_S128x4096_0_0_1_1_n_n.lhsIdx (ix2 d n) (dot_S16x128_S16x4096_S128x4096_0_0_1_1_n_n.contrIdx₁ (a := 0) (K := 16) rfl rfl k)) = (ix2 k d : S16x128.Idx) := fun k =>
    funext fun a => match a with | ⟨0, _⟩ => rfl | ⟨1, _⟩ => rfl
  have eR : ∀ k : Fin 16, Shape.Idx.norm (dot_S16x128_S16x4096_S128x4096_0_0_1_1_n_n.rhsIdx (ix2 d n) (dot_S16x128_S16x4096_S128x4096_0_0_1_1_n_n.contrIdx₁ (a := 0) (K := 16) rfl rfl k)) = (ix2 k n : S16x4096.Idx) := fun k =>
    funext fun a => match a with | ⟨0, _⟩ => rfl | ⟨1, _⟩ => rfl
  refine Finset.sum_congr rfl fun j _ => ?_
  have e1 : shapeCast S16x128 (View.ld x5 (Rect.unit ![0, 0] S16x128.size inb_S16x128_S16x128_0_0)) shapeCasts_S16x128_S16x128 (ix2 j d) = (D.vm j d : EReal) := by
    refine (congrFun (shapeCast_self _ _) _).trans ?_
    exact (ld_at x5 inb_S16x128_S16x128_0_0 _ (ix2 j d) (fun a => by
      match a with
      | ⟨0, _⟩ => exact (Nat.zero_add _).symm
      | ⟨1, _⟩ => exact (Nat.zero_add _).symm)).trans (H.vm j d)
  rw [eL, eR]
  refine (congrArg₂ (· * ·) e1 (metaExp_apply s j n (u j) a (hs j) ha)).trans ?_
  show (D.vm j d : EReal) * _ = _
  rw [← EReal.coe_mul, mul_comm]

/-! ## A tile's result -/

theorem bot_bits : (FloatOps.ofBits .f32 0xFF800000#32 : Ideal .f32) = (⊥ : EReal) := by
  show Ideal.ofBits .f32 0xFF800000#32 = ⊥
  simp [Ideal.ofBits, Ideal.ieee]

theorem maxAll_apply (K : Nat) (hr : (R K).Reduces [0] S512) (o : Nat) (ho : S1x4096.Slices ![0, o] S1x512) (mm : FVec Ideal S1x4096 .f32)
    (s : FVec Ideal (R K) .f32) (t : Fin 512) (n : Fin 4096) (hn : n.val = o + t.val) (a : ℝ) (hm : mm (ix2 (0 : Fin 1) n) = a)
    (hs : ∀ i : Fin K, s (ix2 i t) < (⊤ : EReal)) : ∃ M : ℝ, maxAll K hr o ho mm s (ix2 (0 : Fin 1) t) = M := by
  unfold maxAll
  rw [maximumf_apply, slice2_axis1_apply o mm ho (0 : Fin 1) t n hn, hm, shapeCast_a_1a_apply]
  have e := Ideal.multiReduction_maximumf_single (φ := .f32) s 0xFF800000#32 hr (.inl rfl) rfl (ix1 t)
  rw [bot_bits] at e
  have hlt := fold_max_lt_top (Finset.univ : Finset (Fin ((R K).size (0 : Fin 2)))) (s ∘ hr.lift (ix1 t)) (fun i _ =>
    (congrArg s (lift0 (a := K) (b := 512) hr t i)).trans_lt (hs i))
  obtain ⟨r, h⟩ := max_real_of_lt_top a _ hlt
  exact ⟨r, (congrArg (max (a : EReal)) e).trans h⟩

theorem tile_apply (K : Nat) (hr : (R K).Reduces [0] S512) (hb : S1x512.Broadcasts (R K)) (o : Nat) (ho : S1x4096.Slices ![0, o] S1x512) (hoa : S128x4096.Slices ![0, o] S128x512)
    (vt : FVec Ideal ⟨2, ![144, K]⟩ .bf16) (zt : Vec Ideal S1x512x128 .bf16) (mm ml : FVec Ideal S1x4096 .f32) (ma : FVec Ideal S128x4096 .f32) (s : FVec Ideal (R K) .f32)
    (t : Fin 512) (d : Fin 128) (n : Fin 4096) (hn : n.val = o + t.val) (u v : Fin K → ℝ) (a L A zr : ℝ)
    (hs : ∀ i : Fin K, s (ix2 i t) = if i.val ≤ n.val then (u i : EReal) else ⊥)
    (hmm : mm (ix2 (0 : Fin 1) n) = a) (hml : ml (ix2 (0 : Fin 1) n) = L) (hma : ma (ix2 d n) = A)
    (hv : ∀ i : Fin K, vt (ix2 (Fin.castAdd 16 d) i) = v i) (hv1 : ∀ i : Fin K, vt (ix2 (⟨128, by decide⟩ : Fin 144) i) = (1 : EReal))
    (hz : zt (ix3 (0 : Fin 1) t d) = zr) (hL : 0 < L) :
    ∃ M : ℝ, tile K hr hb o ho hoa vt zt mm ml ma s (ix3 (0 : Fin 1) t d)
      = ((((2 : ℝ) ^ (a - M) * A + ∑ i : Fin K, (if i.val ≤ n.val then (2 : ℝ) ^ (u i - M) else 0) * v i)
        / ((2 : ℝ) ^ (a - M) * L + ∑ i : Fin K, (if i.val ≤ n.val then (2 : ℝ) ^ (u i - M) else 0) * 1)
        * (zr * (1 / (1 + Real.exp (-zr)))) : ℝ) : EReal) := by
  obtain ⟨M, hM⟩ := maxAll_apply K hr o ho mm s t n hn a hmm (fun i => by
    rw [hs i]; split_ifs
    · exact EReal.coe_lt_top _
    · exact bot_lt_top)
  refine ⟨M, ?_⟩
  have eal : exp2 (subf (extractStridedSlice S1x512 ![0, o] mm ho) (maxAll K hr o ho mm s)) (ix2 (0 : Fin 1) t) = (((2 : ℝ) ^ (a - M) : ℝ) : EReal) := by
    show Ideal.exp2 (extractStridedSlice S1x512 ![0, o] mm ho (ix2 (0 : Fin 1) t) - maxAll K hr o ho mm s (ix2 (0 : Fin 1) t)) = _
    rw [slice2_axis1_apply o mm ho (0 : Fin 1) t n hn, hmm, hM, exp2_sub]
  have ep : ∀ i : Fin K, truncf .bf16 (exp2 (subf s (broadcastTo (R K) (maxAll K hr o ho mm s) hb))) bitsLt_bf16_f32 (ix2 i t)
      = ((if i.val ≤ n.val then (2 : ℝ) ^ (u i - M) else 0 : ℝ) : EReal) := fun i => by
    show Ideal.exp2 (s (ix2 i t) - broadcastTo (R K) (maxAll K hr o ho mm s) hb (ix2 i t)) = _
    rw [broadcastTo_1b_ab_apply, hM, hs i]
    split_ifs
    · exact exp2_sub _ _
    · exact exp2_bot_sub _
  have epv : ∀ (r : Fin 144) (w : Fin K → ℝ), (∀ i, vt (ix2 r i) = w i) →
      matmul (DotDims.plain 144 K 512) none vt (truncf .bf16 (exp2 (subf s (broadcastTo (R K) (maxAll K hr o ho mm s) hb))) bitsLt_bf16_f32) (constant S144x512 .f32 0x00000000#32) (ix2 r t)
        = ((∑ i : Fin K, (if i.val ≤ n.val then (2 : ℝ) ^ (u i - M) else 0) * w i : ℝ) : EReal) := fun r w hw => by
    refine (plain_zero (φ₁ := .bf16) (φ₂ := .bf16) vt _ r t).trans ?_
    rw [coe_sum]
    refine Finset.sum_congr rfl fun i _ => ?_
    rw [ep i, hw i, ← EReal.coe_mul, mul_comm]
  have hpos : 0 < (2 : ℝ) ^ (a - M) * L + ∑ i : Fin K, (if i.val ≤ n.val then (2 : ℝ) ^ (u i - M) else 0) * 1 := by
    refine add_pos_of_pos_of_nonneg (mul_pos (two_rpow_pos _) hL) (Finset.sum_nonneg fun i _ => ?_)
    split_ifs
    · rw [mul_one]; exact (two_rpow_pos _).le
    · rw [zero_mul]
  unfold tile
  dsimp only
  rw [shapeCast_ab_1ab_apply, truncf_apply, mulf_apply, transpose_ix2_apply, mulf_apply, addf_apply, mulf_apply, broadcastTo_1b_ab_apply, eal,
    slice2_axis1_apply o ma hoa d t n hn, hma, slice2_axis0_apply 0 _ slices_S144x512_o0_0_S128x512 d t (Fin.castAdd 16 d) (Nat.zero_add _).symm,
    epv _ v hv, broadcastTo_1b_ab_apply, divf_apply, addf_apply, mulf_apply, eal, slice2_axis1_apply o ml ho (0 : Fin 1) t n hn, hml,
    slice2_axis0_apply 128 _ slices_S144x512_o128_0_S1x512 (0 : Fin 1) t (⟨128, by decide⟩ : Fin 144) rfl, epv _ (fun _ => 1) (fun i => (hv1 i).trans EReal.coe_one.symm),
    mulf_apply]
  have ez : extf (F := Ideal) .f32 (shapeCast S512x128 zt shapeCasts_S1x512x128_S512x128) bitsLt_bf16_f32 (ix2 t d) = (zr : EReal) := by
    rw [extf_apply, shapeCast_1ab_ab_apply, hz]
  have eg : logistic (extf (F := Ideal) .f32 (shapeCast S512x128 zt shapeCasts_S1x512x128_S512x128) bitsLt_bf16_f32) (ix2 t d) = ((1 / (1 + Real.exp (-zr)) : ℝ) : EReal) := by
    show Ideal.logistic (extf (F := Ideal) .f32 (shapeCast S512x128 zt shapeCasts_S1x512x128_S512x128) bitsLt_bf16_f32 (ix2 t d)) = _
    rw [ez, logistic_coe]
  rw [ez, eg]
  have e1 : broadcast S1x512 (Scalar.ofBits (F := Ideal) .f32 0x3F800000#32) (ix2 (0 : Fin 1) t) = ((1 : ℝ) : EReal) :=
    (Ideal.ofBits_one_f32).trans EReal.coe_one.symm
  rw [e1]
  rw [← EReal.coe_mul, ← EReal.coe_mul, ← EReal.coe_add, ← EReal.coe_add, div_coe _ _ hpos.ne', ← EReal.coe_mul, ← EReal.coe_mul, ← EReal.coe_mul]
  congr 1
  rw [mul_one_div]

/-- The same with the scores shifted by a common `h`, and the meta keys' parts as they are. -/
theorem tile_out (D : Data) (K : Nat) (hr : (R K).Reduces [0] S512) (hb : S1x512.Broadcasts (R K)) (o : Nat) (ho : S1x4096.Slices ![0, o] S1x512) (hoa : S128x4096.Slices ![0, o] S128x512)
    (vt : FVec Ideal ⟨2, ![144, K]⟩ .bf16) (zt : Vec Ideal S1x512x128 .bf16) (mm ml : FVec Ideal S1x4096 .f32) (ma : FVec Ideal S128x4096 .f32) (s : FVec Ideal (R K) .f32)
    (t : Fin 512) (d : Fin 128) (n : Fin 4096) (hn : n.val = o + t.val) (hK : K ≤ 4096) (hnK : n.val < K) (a h : ℝ)
    (hs : ∀ i : Fin K, s (ix2 i t) = if i.val ≤ n.val then ((D.score n (Fin.castLE hK i) + h : ℝ) : EReal) else ⊥)
    (hmm : mm (ix2 (0 : Fin 1) n) = a)
    (hml : ml (ix2 (0 : Fin 1) n) = ((∑ j, (2 : ℝ) ^ (D.mscore n j + h - a) * 1 : ℝ) : EReal))
    (hma : ma (ix2 d n) = ((∑ j, (2 : ℝ) ^ (D.mscore n j + h - a) * D.vm j d : ℝ) : EReal))
    (hv : ∀ i : Fin K, vt (ix2 (Fin.castAdd 16 d) i) = D.v (Fin.castLE hK i) d) (hv1 : ∀ i : Fin K, vt (ix2 (⟨128, by decide⟩ : Fin 144) i) = (1 : EReal))
    (hz : zt (ix3 (0 : Fin 1) t d) = D.z n d) :
    tile K hr hb o ho hoa vt zt mm ml ma s (ix3 (0 : Fin 1) t d) = (D.out n d : EReal) := by
  have hL : 0 < ∑ j : Fin 16, (2 : ℝ) ^ (D.mscore n j + h - a) * 1 :=
    Finset.sum_pos (fun j _ => by rw [mul_one]; exact two_rpow_pos _) ⟨0, Finset.mem_univ _⟩
  obtain ⟨M, e⟩ := tile_apply K hr hb o ho hoa vt zt mm ml ma s t d n hn (fun i => D.score n (Fin.castLE hK i) + h) (fun i => D.v (Fin.castLE hK i) d) a _ _ _
    hs hmm hml hma hv hv1 hz hL
  rw [e]
  congr 1
  rw [merge (fun j => D.mscore n j) (fun i : Fin K => D.score n (Fin.castLE hK i)) (fun i => i.val ≤ n.val) (fun j => D.vm j d) (fun i => D.v (Fin.castLE hK i) d) a h M,
    merge (fun j => D.mscore n j) (fun i : Fin K => D.score n (Fin.castLE hK i)) (fun i => i.val ≤ n.val) (fun _ => 1) (fun _ => 1) a h M,
    quot_cancel _ _ _ (two_rpow_pos _).ne',
    sum_upto hK hnK (fun s => (2 : ℝ) ^ D.score n s * D.v s d), sum_upto hK hnK (fun s => (2 : ℝ) ^ D.score n s * 1)]
  rfl

/-! ## The eight tiles, and the block -/

theorem zTile_apply (H : Holds D x0 x1 x2 x3 x4 x5 x6 x7) (o : Nat) (hz : ∀ a, (![0, o, 0] : Fin 3 → Nat) a + S1x512x128.size a ≤ S1x4096x128.size a)
    (t : Fin 512) (d : Fin 128) (n : Fin 4096) (hn : n.val = o + t.val) : zTile x3 o hz (ix3 (0 : Fin 1) t d) = (D.z n d : EReal) :=
  (ld_at x3 hz _ (ix3 (0 : Fin 1) n d) (fun a => by
    match a with
    | ⟨0, _⟩ => rfl
    | ⟨1, _⟩ => exact hn
    | ⟨2, _⟩ => exact (Nat.zero_add _).symm)).trans (H.z n d)

/-- The meta keys' part of query `n`. -/
theorem meta_parts (H : Holds D x0 x1 x2 x3 x4 x5 x6 x7) (n : Fin 4096) (d : Fin 128) :
    ∃ a : ℝ, metaMax (metaScores x0 x4 x6 x7) (ix2 (0 : Fin 1) n) = a
      ∧ metaSum (metaScores x0 x4 x6 x7) (ix2 (0 : Fin 1) n) = ((∑ j, (2 : ℝ) ^ (D.mscore n j + sh x6 (tileOf n) - a) * 1 : ℝ) : EReal)
      ∧ metaAcc x5 (metaScores x0 x4 x6 x7) (ix2 d n) = ((∑ j, (2 : ℝ) ^ (D.mscore n j + sh x6 (tileOf n) - a) * D.vm j d : ℝ) : EReal) := by
  obtain ⟨a, ha⟩ := metaMax_apply (metaScores x0 x4 x6 x7) n (fun j => ⟨_, metaScores_apply H j n⟩)
  exact ⟨a, ha, metaSum_apply _ n _ a (fun j => metaScores_apply H j n) ha, metaAcc_apply H _ d n _ a (fun j => metaScores_apply H j n) ha⟩

theorem tileOf_eq (q : Fin 8) (t : Fin 512) (n : Fin 4096) (hn : n.val = 512 * q.val + t.val) : tileOf n = q :=
  Fin.ext (by show n.val / 512 = q.val; have := t.isLt; omega)

theorem tileN_apply (H : Holds D x0 x1 x2 x3 x4 x5 x6 x7) (q : Fin 8) (q' P K : Nat) (hqq : q' = q.val) (hP : P = 512 * q.val) (hKP : K = P + 512)
    (hr : (R K).Reduces [0] S512) (hb : S1x512.Broadcasts (R K)) (ho : S1x4096.Slices ![0, P] S1x512) (hoa : S128x4096.Slices ![0, P] S128x512)
    (h1 : (R K).Slices ![P, 0] S512x512) (h0 : (R K).Slices ![0, 0] (R P)) (hc : Shape.Concatenates [R P, S512x512] (R K) 0)
    (hv : ∀ a, (![0, 0] : Fin 2 → Nat) a + (⟨2, ![144, K]⟩ : Shape).size a ≤ S144x4096.size a)
    (hz : ∀ a, (![0, P, 0] : Fin 3 → Nat) a + S1x512x128.size a ≤ S1x4096x128.size a)
    (hk : ∀ a, (![0, 0] : Fin 2 → Nat) a + (⟨2, ![K, 256]⟩ : Shape).size a ≤ S4096x256.size a)
    (hq : ∀ a, (![q', 0, 0] : Fin 3 → Nat) a + S1x256x512.size a ≤ S8x256x512.size a)
    (t : Fin 512) (d : Fin 128) (n : Fin 4096) (hn : n.val = 512 * q.val + t.val) :
    tileN x0 x1 x2 x3 x4 x5 x6 x7 q' P K hr hb ho hoa h1 h0 hc hv hz hk hq (ix3 (0 : Fin 1) t d) = (D.out n d : EReal) := by
  subst hqq
  have ht := t.isLt
  have hq8 := q.isLt
  have hK : K ≤ 4096 := by omega
  obtain ⟨a, ha, hsum, hacc⟩ := meta_parts H n d
  rw [tileOf_eq q t n hn] at hsum hacc
  unfold tileN
  refine tile_out D K hr hb P ho hoa _ _ _ _ _ _ t d n (by omega) hK (by omega) a (sh x6 q) (fun i => ?_) ha hsum hacc (fun i => vt_lo H K hv d i _ rfl) (fun i => vt_one K hv i (Fin.castLE hK i) rfl)
    (zTile_apply H P hz t d n (by omega))
  rw [masked_apply P K h1 h0 hc _ hKP i t, scores_apply H q K hk hq i t (Fin.castLE hK i) n rfl hn, hn, hP]

theorem tile0_apply (H : Holds D x0 x1 x2 x3 x4 x5 x6 x7) (t : Fin 512) (d : Fin 128) (n : Fin 4096) (hn : n.val = t.val) :
    tile0 x0 x1 x2 x3 x4 x5 x6 x7 (ix3 (0 : Fin 1) t d) = (D.out n d : EReal) := by
  have ht := t.isLt
  obtain ⟨a, ha, hsum, hacc⟩ := meta_parts H n d
  rw [tileOf_eq 0 t n (by show n.val = 512 * 0 + t.val; omega)] at hsum hacc
  unfold tile0
  refine tile_out D 512 reduces_S512x512_S512 broadcasts_S1x512_S512x512 0 _ _ _ _ _ _ _ _ t d n (by omega) (by decide) (by omega) a (sh x6 0) (fun i => ?_) ha hsum hacc
    (fun i => vt_lo H 512 _ d i _ rfl) (fun i => vt_one 512 _ i (Fin.castLE (by decide) i) rfl)
    (zTile_apply H 0 _ t d n (by omega))
  rw [hn]
  exact (diag_apply _ i t).trans (congrArg (fun x : EReal => if i.val ≤ t.val then x else ⊥)
    (scores_apply H 0 512 _ inb_S8x256x512_S1x256x512_0_0_0 i t (Fin.castLE (by decide) i) n rfl (by show n.val = 512 * 0 + t.val; omega)))

end

end Cert.KernelIdeal.Hand

end
-- ==== Proof.Block.lean ====
/-
  THE BLOCK AND THE ARRAY: the eight tiles make the block of one batch and head, the host operations before the call
  prepare its input blocks, and the blocks make the result.
-/
module
public import proofs.«01_k».proof.Proof.Tiles
public import proofs.«01_k».proof.Proof.Gen.KernelIdeal.Value
public import Idealize.ShloMosaic.Lib.StableHlo.RunRead
@[expose] public section
set_option maxRecDepth 16384

noncomputable section

namespace Cert.KernelIdeal.Hand

open Idealize.ShloMosaic hiding ix0 ix1 ix2 ix3 ix4 eq_ix1 eq_ix2 eq_ix3 eq_ix4
open Cert.KernelIdeal Cert.KernelIdeal.Gen Cert.Hand Idealize.ShloMosaic.TcCoe Idealize.SL.Sem Idealize.ShloMosaic.ValueIdx
open Idealize.ShloMosaic.Pipeline (Dat)

section

variable {D : Data} {x0 x1 x2 x3 : Vec Ideal S1x4096x128 .bf16} {x4 x5 : Vec Ideal S16x128 .bf16} {x6 : Vec Ideal S1x1x1x4096 .f32} {x7 : Vec Ideal S1x1x128 .f32}

/-- The block's contents, in numbers. -/
def outAt (D : Data) (y : S1x4096x128.Idx) : Elt Ideal .bf16 := (D.out (y 1) (y 2) : EReal)

theorem piece_out (D : Data) (P : Nat) (inb : ∀ a, (![0, P, 0] : Fin 3 → Nat) a + S1x512x128.size a ≤ S1x4096x128.size a) (W : FVec Ideal S1x512x128 .bf16)
    (hP : P + 512 ≤ 4096) (hW : ∀ (t : Fin 512) (d : Fin 128) (n : Fin 4096), n.val = P + t.val → W (ix3 (0 : Fin 1) t d) = (D.out n d : EReal)) (x : S1x512x128.Idx) :
    W x = outAt D ((Rect.unit (s := S1x4096x128) ![0, P, 0] S1x512x128.size inb).emb x) := by
  have h0 : (x 0).val < 1 := (x 0).isLt
  have h1 : (x 1).val < 512 := (x 1).isLt
  have e0 : x = ix3 (0 : Fin 1) (x 1) (x 2) := (eq_ix3 x).trans (congrArg (fun u : Fin 1 => ix3 u (x 1) (x 2)) (Subsingleton.elim _ _))
  conv_lhs => rw [e0]
  refine (hW (x 1) (x 2) ⟨P + (x 1).val, by omega⟩ rfl).trans ?_
  unfold outAt
  congr 2
  · exact Fin.ext (by show P + (x 1).val = P + 1 * (x 1).val; omega)
  · exact Fin.ext (by show (x 2).val = 0 + 1 * (x 2).val; omega)

theorem block_cover (y : S1x4096x128.Idx) : ∃ p ∈ ([
    ⟨Rect.unit ![0, 3584, 0] S1x512x128.size inb_S1x4096x128_S1x512x128_0_3584_0, (fun _ => (0 : EReal))⟩, ⟨Rect.unit ![0, 3072, 0] S1x512x128.size inb_S1x4096x128_S1x512x128_0_3072_0, (fun _ => (0 : EReal))⟩,
    ⟨Rect.unit ![0, 2560, 0] S1x512x128.size inb_S1x4096x128_S1x512x128_0_2560_0, (fun _ => (0 : EReal))⟩, ⟨Rect.unit ![0, 2048, 0] S1x512x128.size inb_S1x4096x128_S1x512x128_0_2048_0, (fun _ => (0 : EReal))⟩,
    ⟨Rect.unit ![0, 1536, 0] S1x512x128.size inb_S1x4096x128_S1x512x128_0_1536_0, (fun _ => (0 : EReal))⟩, ⟨Rect.unit ![0, 1024, 0] S1x512x128.size inb_S1x4096x128_S1x512x128_0_1024_0, (fun _ => (0 : EReal))⟩,
    ⟨Rect.unit ![0, 512, 0] S1x512x128.size inb_S1x4096x128_S1x512x128_0_512_0, (fun _ => (0 : EReal))⟩, ⟨Rect.unit ![0, 0, 0] S1x512x128.size inb_S1x4096x128_S1x512x128_0_0_0, (fun _ => (0 : EReal))⟩] :
      List (View.Piece (Elt Ideal) S1x4096x128 .bf16)), y ∈ p.1.set := by
  have h0 : (y 0).val < 1 := (y 0).isLt
  have h1 : (y 1).val < 4096 := (y 1).isLt
  have h2 : (y 2).val < 128 := (y 2).isLt
  simp only [List.mem_cons, List.not_mem_nil, or_false, exists_eq_or_imp, exists_eq_left]
  obtain ⟨n, hn⟩ : ∃ n, (y 1).val / 512 = n := ⟨_, rfl⟩
  have hn8 : n < 8 := by omega
  interval_cases n <;>
    repeat (first | (refine .inl (mem3 _ y ?_ ?_ ?_) <;> omega) | (refine mem3 _ y ?_ ?_ ?_ <;> omega) | apply Or.inr)

theorem block_apply (H : Holds D x0 x1 x2 x3 x4 x5 x6 x7) (y : S1x4096x128.Idx) : block x0 x1 x2 x3 x4 x5 x6 x7 y = outAt D y := by
  unfold block
  refine View.canon_apply_of_pieces (Val := Elt Ideal) (e := .bf16) (outAt D) _ ?_ y ?_
  · simp only [List.mem_cons, List.not_mem_nil, or_false, forall_eq_or_imp, forall_eq]
    exact ⟨piece_out D 3584 _ _ (by decide) fun t d n hn => tileN_apply H 7 7 3584 4096 rfl rfl rfl _ _ _ _ _ _ _ _ _ _ _ t d n hn,
      piece_out D 3072 _ _ (by decide) fun t d n hn => tileN_apply H 6 6 3072 3584 rfl rfl rfl _ _ _ _ _ _ _ _ _ _ _ t d n hn,
      piece_out D 2560 _ _ (by decide) fun t d n hn => tileN_apply H 5 5 2560 3072 rfl rfl rfl _ _ _ _ _ _ _ _ _ _ _ t d n hn,
      piece_out D 2048 _ _ (by decide) fun t d n hn => tileN_apply H 4 4 2048 2560 rfl rfl rfl _ _ _ _ _ _ _ _ _ _ _ t d n hn,
      piece_out D 1536 _ _ (by decide) fun t d n hn => tileN_apply H 3 3 1536 2048 rfl rfl rfl _ _ _ _ _ _ _ _ _ _ _ t d n hn,
      piece_out D 1024 _ _ (by decide) fun t d n hn => tileN_apply H 2 2 1024 1536 rfl rfl rfl _ _ _ _ _ _ _ _ _ _ _ t d n hn,
      piece_out D 512 _ _ (by decide) fun t d n hn => tileN_apply H 1 1 512 1024 rfl rfl rfl _ _ _ _ _ _ _ _ _ _ _ t d n hn,
      piece_out D 0 _ _ (by decide) fun t d n hn => tile0_apply H t d n (by omega)⟩
  · have h := block_cover y
    simp only [List.mem_cons, List.not_mem_nil, or_false, exists_eq_or_imp, exists_eq_left] at h ⊢
    exact h

end

/-! ## The arrays, in numbers -/

/-- A column of the projection: part `o` (queries, keys, values, gate), head `h`, lane `d`. -/
def col (o : Fin 4) (h : Fin 16) (d : Fin 128) : Fin 8192 := ⟨2048 * o.val + 128 * h.val + d.val, by omega⟩

/-- The factor on the queries: the softmax scale in powers of two. -/
def qScale : ℝ := 1 / Real.sqrt 128 * (1 / Real.log 2)

/-- One head's numbers. -/
def head (a0 : Fin 4 → Fin 4096 → Fin 8192 → ℝ) (a1 : Fin 16 → Fin 8192 → ℝ) (a2 : Fin 4 → Fin 16 → Fin 4096 → ℝ) (a3 : Fin 16 → Fin 16 → ℝ) (b : Fin 4) (h : Fin 16) : Data where
  q t d := a0 b t (col 0 h d) * qScale
  k t d := a0 b t (col 1 h d)
  v t d := a0 b t (col 2 h d)
  z t d := a0 b t (col 3 h d)
  km j d := a1 j (col 1 h d)
  vm j d := a1 j (col 2 h d)
  c t := a2 b h t * (1 / Real.log 2)
  cm j := a3 h j * (1 / Real.log 2)

/-! ## The host operations -/

/-- One over the logarithm of two, as the program computes it. -/
def lgV : FVec Ideal S_ .f32 := Host.divf (constant S_ .f32 0x3F800000#32) (Host.log (constant S_ .f32 0x40000000#32))
/-- The factor on the queries, as the program computes it. -/
def qsV : FVec Ideal S_ .f32 := mulf (Host.divf (constant S_ .f32 0x3F800000#32) (Host.sqrt (constant S_ .f32 0x43000000#32))) lgV

theorem bits_two : Ideal.ofBits .f32 0x40000000#32 = ((2 : ℝ) : EReal) := by
  simp [Ideal.ofBits, Ideal.ieee]
  rw [← EReal.coe_mul]
  norm_num
theorem bits_128 : Ideal.ofBits .f32 0x43000000#32 = ((128 : ℝ) : EReal) := by
  simp [Ideal.ofBits, Ideal.ieee]
  rw [← EReal.coe_mul]
  norm_num

theorem lgV_apply (i : S_.Idx) : lgV i = ((1 / Real.log 2 : ℝ) : EReal) := by
  show Ideal.div (Ideal.ofBits .f32 0x3F800000#32) (Ideal.log (Ideal.ofBits .f32 0x40000000#32)) = _
  rw [bits_two, Ideal.ofBits_one_f32, show Ideal.log ((2 : ℝ) : EReal) = ((Real.log 2 : ℝ) : EReal) by
    show (if (2 : ℝ) ≤ 0 then (⊥ : EReal) else (Real.log 2 : EReal)) = _
    rw [if_neg (by norm_num)], ← EReal.coe_one, div_coe _ _ (Real.log_pos (by norm_num)).ne']

theorem qsV_apply (i : S_.Idx) : qsV i = (qScale : EReal) := by
  show Ideal.div (Ideal.ofBits .f32 0x3F800000#32) (Ideal.sqrt (Ideal.ofBits .f32 0x43000000#32)) * lgV i = _
  rw [lgV_apply, bits_128, Ideal.ofBits_one_f32, show Ideal.sqrt ((128 : ℝ) : EReal) = ((Real.sqrt 128 : ℝ) : EReal) by
    show (if (128 : ℝ) < 0 then (⊥ : EReal) else (Real.sqrt 128 : EReal)) = _
    rw [if_neg (by norm_num)], ← EReal.coe_one, div_coe _ _ (Real.sqrt_pos.2 (by norm_num)).ne', ← EReal.coe_mul]
  rfl

variable (m : (ℓ : Loc nD τ sig) → Buf (Elt Ideal) ℓ)

theorem V_v20 (c : Dev nD) : V (F := Ideal) m c main_v20 = truncf .bf16 (mulf (m ((c : Thread nD τ).loc main_arg0))
    (broadcastInDim S4x4096x8192 ![0, 1, 2] bcast_S1x1x8192_S4x4096x8192_0_1_2 (broadcastInDim S1x1x8192 ![2] bcast_S8192_S1x1x8192_2
      (select (cmpi .slt (iotaInDim S8192 32 0) (broadcastInDim S8192 ![] bcast_S_S8192 (constantI S_ 32 2048#32)))
        (broadcastInDim S8192 ![] bcast_S_S8192 qsV) (broadcastInDim S8192 ![] bcast_S_S8192 (constant S_ .f32 0x3F800000#32)))))) bitsLt_bf16_f32 := by
  unfold_abbrev_sides
  after_results
  rfl

/-- The meta tokens' projection after the cast. -/
def v21V (x : FVec Ideal S16x8192 .f32) : FVec Ideal S16x8192 .bf16 := truncf .bf16 x bitsLt_bf16_f32

theorem V_v21 (c : Dev nD) : V (F := Ideal) m c main_v21 = v21V (m ((c : Thread nD τ).loc main_arg1)) := by
  unfold_abbrev_sides
  after_reads_simp
  rfl

theorem V_v11 (c : Dev nD) : V (F := Ideal) m c main_v11 = shapeCast S4x16x1x4096 (mulf (m ((c : Thread nD τ).loc main_arg2))
    (broadcastInDim S4x16x4096 ![] bcast_S_S4x16x4096 lgV)) shapeCasts_S4x16x4096_S4x16x1x4096 := by
  unfold_abbrev_sides
  after_results
  rfl

theorem V_v16 (c : Dev nD) : V (F := Ideal) m c main_v16 = shapeCast S16x1x128 (concatenate S16x128 1
    [⟨S16x16, mulf (m ((c : Thread nD τ).loc main_arg3)) (broadcastInDim S16x16 ![] bcast_S_S16x16 lgV)⟩,
     ⟨S16x112, broadcastInDim S16x112 ![] bcast_S_S16x112 (constant (F := Ideal) S_ .f32 0x7149F2CA#32)⟩] concatenates_S16x16_S16x112_S16x128_d1) shapeCasts_S16x128_S16x1x128 := by
  unfold_abbrev_sides
  after_results
  rfl

/-! ## The windows -/

theorem index_facts : ∀ t : Fin cfg0.N, win0_0.index t = ![t.val / 16, 0, t.val % 16] ∧ win0_1.index t = ![t.val / 16, 0, 16 + t.val % 16]
    ∧ win0_2.index t = ![t.val / 16, 0, 32 + t.val % 16] ∧ win0_3.index t = ![t.val / 16, 0, 48 + t.val % 16] ∧ win0_4.index t = ![0, 16 + t.val % 16]
    ∧ win0_5.index t = ![0, 32 + t.val % 16] ∧ win0_6.index t = ![t.val / 16, t.val % 16, 0, 0] ∧ win0_7.index t = ![t.val % 16, 0, 0]
    ∧ win0_8.index t = ![t.val / 16, 0, t.val % 16] :=
  (by decide +kernel : ∀ t : Fin grid0.N, win0_0.index t = ![t.val / 16, 0, t.val % 16] ∧ win0_1.index t = ![t.val / 16, 0, 16 + t.val % 16]
    ∧ win0_2.index t = ![t.val / 16, 0, 32 + t.val % 16] ∧ win0_3.index t = ![t.val / 16, 0, 48 + t.val % 16] ∧ win0_4.index t = ![0, 16 + t.val % 16]
    ∧ win0_5.index t = ![0, 32 + t.val % 16] ∧ win0_6.index t = ![t.val / 16, t.val % 16, 0, 0] ∧ win0_7.index t = ![t.val % 16, 0, 0]
    ∧ win0_8.index t = ![t.val / 16, 0, t.val % 16])

theorem flush_facts : ∀ t : Fin cfg0.N, (cfg0.win 8).flush t = true := (by decide +kernel : ∀ t : Fin grid0.N, win0_8.flush t = true)

/-- The grid point of a batch and a head. -/
def pt (b : Fin 4) (h : Fin 16) : Fin cfg0.N := ⟨16 * b.val + h.val, by show _ < 64; omega⟩

theorem pt_div (b : Fin 4) (h : Fin 16) : (pt b h).val / 16 = b.val := by show (16 * b.val + h.val) / 16 = b.val; omega
theorem pt_mod (b : Fin 4) (h : Fin 16) : (pt b h).val % 16 = h.val := by show (16 * b.val + h.val) % 16 = h.val; omega

theorem iblk0 (c : Dev nD) (b : Fin 4) (h : Fin 16) (t : Fin 4096) (d : Fin 128) :
    iblk (F := Ideal) m c 0 (pt b h) (ix3 (0 : Fin 1) t d) = V (F := Ideal) m c main_v20 (ix3 b t (col 0 h d)) := by
  have e := (index_facts (pt b h)).1
  rw [pt_div, pt_mod] at e
  show V (F := Ideal) m c main_v20 ((win0_0.rect (pt b h)).emb (ix3 (0 : Fin 1) t d)) = _
  congr 1
  funext a
  refine Fin.ext ?_
  show win0_0.index (pt b h) a * S1x4096x128.size a + 1 * (ix3 (0 : Fin 1) t d a).val = _
  rw [e]
  match a with
  | ⟨0, _⟩ => show b.val * 1 + 1 * 0 = b.val; omega
  | ⟨1, _⟩ => show 0 * 4096 + 1 * t.val = t.val; omega
  | ⟨2, _⟩ => show h.val * 128 + 1 * d.val = 2048 * 0 + 128 * h.val + d.val; omega

theorem iblk1 (c : Dev nD) (b : Fin 4) (h : Fin 16) (t : Fin 4096) (d : Fin 128) :
    iblk (F := Ideal) m c 1 (pt b h) (ix3 (0 : Fin 1) t d) = V (F := Ideal) m c main_v20 (ix3 b t (col 1 h d)) := by
  have e := (index_facts (pt b h)).2.1
  rw [pt_div, pt_mod] at e
  show V (F := Ideal) m c main_v20 ((win0_1.rect (pt b h)).emb (ix3 (0 : Fin 1) t d)) = _
  congr 1
  funext a
  refine Fin.ext ?_
  show win0_1.index (pt b h) a * S1x4096x128.size a + 1 * (ix3 (0 : Fin 1) t d a).val = _
  rw [e]
  match a with
  | ⟨0, _⟩ => show b.val * 1 + 1 * 0 = b.val; omega
  | ⟨1, _⟩ => show 0 * 4096 + 1 * t.val = t.val; omega
  | ⟨2, _⟩ => show (16 + h.val) * 128 + 1 * d.val = 2048 * 1 + 128 * h.val + d.val; omega

theorem iblk2 (c : Dev nD) (b : Fin 4) (h : Fin 16) (t : Fin 4096) (d : Fin 128) :
    iblk (F := Ideal) m c 2 (pt b h) (ix3 (0 : Fin 1) t d) = V (F := Ideal) m c main_v20 (ix3 b t (col 2 h d)) := by
  have e := (index_facts (pt b h)).2.2.1
  rw [pt_div, pt_mod] at e
  show V (F := Ideal) m c main_v20 ((win0_2.rect (pt b h)).emb (ix3 (0 : Fin 1) t d)) = _
  congr 1
  funext a
  refine Fin.ext ?_
  show win0_2.index (pt b h) a * S1x4096x128.size a + 1 * (ix3 (0 : Fin 1) t d a).val = _
  rw [e]
  match a with
  | ⟨0, _⟩ => show b.val * 1 + 1 * 0 = b.val; omega
  | ⟨1, _⟩ => show 0 * 4096 + 1 * t.val = t.val; omega
  | ⟨2, _⟩ => show (32 + h.val) * 128 + 1 * d.val = 2048 * 2 + 128 * h.val + d.val; omega

theorem iblk3 (c : Dev nD) (b : Fin 4) (h : Fin 16) (t : Fin 4096) (d : Fin 128) :
    iblk (F := Ideal) m c 3 (pt b h) (ix3 (0 : Fin 1) t d) = V (F := Ideal) m c main_v20 (ix3 b t (col 3 h d)) := by
  have e := (index_facts (pt b h)).2.2.2.1
  rw [pt_div, pt_mod] at e
  show V (F := Ideal) m c main_v20 ((win0_3.rect (pt b h)).emb (ix3 (0 : Fin 1) t d)) = _
  congr 1
  funext a
  refine Fin.ext ?_
  show win0_3.index (pt b h) a * S1x4096x128.size a + 1 * (ix3 (0 : Fin 1) t d a).val = _
  rw [e]
  match a with
  | ⟨0, _⟩ => show b.val * 1 + 1 * 0 = b.val; omega
  | ⟨1, _⟩ => show 0 * 4096 + 1 * t.val = t.val; omega
  | ⟨2, _⟩ => show (48 + h.val) * 128 + 1 * d.val = 2048 * 3 + 128 * h.val + d.val; omega

theorem iblk4 (c : Dev nD) (b : Fin 4) (h : Fin 16) (j : Fin 16) (d : Fin 128) :
    iblk (F := Ideal) m c 4 (pt b h) (ix2 j d) = V (F := Ideal) m c main_v21 (ix2 j (col 1 h d)) := by
  have e := (index_facts (pt b h)).2.2.2.2.1
  rw [pt_mod] at e
  show V (F := Ideal) m c main_v21 ((win0_4.rect (pt b h)).emb (ix2 j d)) = _
  congr 1
  funext a
  refine Fin.ext ?_
  show win0_4.index (pt b h) a * S16x128.size a + 1 * (ix2 j d a).val = _
  rw [e]
  match a with
  | ⟨0, _⟩ => show 0 * 16 + 1 * j.val = j.val; omega
  | ⟨1, _⟩ => show (16 + h.val) * 128 + 1 * d.val = 2048 * 1 + 128 * h.val + d.val; omega

theorem iblk5 (c : Dev nD) (b : Fin 4) (h : Fin 16) (j : Fin 16) (d : Fin 128) :
    iblk (F := Ideal) m c 5 (pt b h) (ix2 j d) = V (F := Ideal) m c main_v21 (ix2 j (col 2 h d)) := by
  have e := (index_facts (pt b h)).2.2.2.2.2.1
  rw [pt_mod] at e
  show V (F := Ideal) m c main_v21 ((win0_5.rect (pt b h)).emb (ix2 j d)) = _
  congr 1
  funext a
  refine Fin.ext ?_
  show win0_5.index (pt b h) a * S16x128.size a + 1 * (ix2 j d a).val = _
  rw [e]
  match a with
  | ⟨0, _⟩ => show 0 * 16 + 1 * j.val = j.val; omega
  | ⟨1, _⟩ => show (32 + h.val) * 128 + 1 * d.val = 2048 * 2 + 128 * h.val + d.val; omega

theorem iblk6 (c : Dev nD) (b : Fin 4) (h : Fin 16) (t : Fin 4096) :
    iblk (F := Ideal) m c 6 (pt b h) (ix4 (0 : Fin 1) (0 : Fin 1) (0 : Fin 1) t) = V (F := Ideal) m c main_v11 (ix4 b h (0 : Fin 1) t) := by
  have e := (index_facts (pt b h)).2.2.2.2.2.2.1
  rw [pt_div, pt_mod] at e
  show V (F := Ideal) m c main_v11 ((win0_6.rect (pt b h)).emb (ix4 (0 : Fin 1) (0 : Fin 1) (0 : Fin 1) t)) = _
  congr 1
  funext a
  refine Fin.ext ?_
  show win0_6.index (pt b h) a * S1x1x1x4096.size a + 1 * (ix4 (0 : Fin 1) (0 : Fin 1) (0 : Fin 1) t a).val = _
  rw [e]
  match a with
  | ⟨0, _⟩ => show b.val * 1 + 1 * 0 = b.val; omega
  | ⟨1, _⟩ => show h.val * 1 + 1 * 0 = h.val; omega
  | ⟨2, _⟩ => rfl
  | ⟨3, _⟩ => show 0 * 4096 + 1 * t.val = t.val; omega

theorem iblk7 (c : Dev nD) (b : Fin 4) (h : Fin 16) (j : Fin 128) :
    iblk (F := Ideal) m c 7 (pt b h) (ix3 (0 : Fin 1) (0 : Fin 1) j) = V (F := Ideal) m c main_v16 (ix3 h (0 : Fin 1) j) := by
  have e := (index_facts (pt b h)).2.2.2.2.2.2.2.1
  rw [pt_mod] at e
  show V (F := Ideal) m c main_v16 ((win0_7.rect (pt b h)).emb (ix3 (0 : Fin 1) (0 : Fin 1) j)) = _
  congr 1
  funext a
  refine Fin.ext ?_
  show win0_7.index (pt b h) a * S1x1x128.size a + 1 * (ix3 (0 : Fin 1) (0 : Fin 1) j a).val = _
  rw [e]
  match a with
  | ⟨0, _⟩ => show h.val * 1 + 1 * 0 = h.val; omega
  | ⟨1, _⟩ => rfl
  | ⟨2, _⟩ => show 0 * 128 + 1 * j.val = j.val; omega

/-! ## The prepared arrays at an index -/

/-- The first argument at an index, and so the others. -/
abbrev A0 (c : Dev nD) (i : S4x4096x8192.Idx) : EReal := m ((c : Thread nD τ).loc main_arg0) i
abbrev A1 (c : Dev nD) (i : S16x8192.Idx) : EReal := m ((c : Thread nD τ).loc main_arg1) i
abbrev A2 (c : Dev nD) (i : S4x16x4096.Idx) : EReal := m ((c : Thread nD τ).loc main_arg2) i
abbrev A3 (c : Dev nD) (i : S16x16.Idx) : EReal := m ((c : Thread nD τ).loc main_arg3) i

theorem v20_at (c : Dev nD) (b : Fin 4) (t : Fin 4096) (e : Fin 8192) :
    V (F := Ideal) m c main_v20 (ix3 b t e) = A0 m c (ix3 b t e) * (if e.val < 2048 then (qScale : EReal) else 1) := by
  rw [V_v20]
  show A0 m c (ix3 b t e) * select (cmpi .slt (iotaInDim S8192 32 0) (broadcastInDim S8192 ![] bcast_S_S8192 (constantI S_ 32 2048#32)))
        (broadcastInDim S8192 ![] bcast_S_S8192 qsV) (broadcastInDim S8192 ![] bcast_S_S8192 (constant (F := Ideal) S_ .f32 0x3F800000#32)) _ = _
  congr 1
  rw [select_apply]
  have e1 : ∀ i : S8192.Idx, (i 0).val = e.val → cmpi .slt (iotaInDim S8192 32 0) (broadcastInDim S8192 ![] bcast_S_S8192 (constantI S_ 32 2048#32)) i = BitVec.ofBool (decide (e.val < 2048)) := by
    intro i hi
    show BitVec.ofBool ((BitVec.ofNat 32 (i 0).val).slt 2048#32) = _
    rw [hi]
    have he := e.isLt
    congr 1
    rw [Bool.eq_iff_iff, BitVec.slt_iff_toInt_lt, decide_eq_true_eq, BitVec.toInt_eq_toNat_cond, BitVec.toInt_eq_toNat_cond, BitVec.toNat_ofNat]
    have h1 : e.val % 2 ^ 32 = e.val := Nat.mod_eq_of_lt (by omega)
    rw [h1, if_pos (by omega)]
    show ((e.val : Int) < 2048) ↔ _
    omega
  rw [e1 _ rfl]
  by_cases h : e.val < 2048
  · rw [if_pos h, decide_eq_true h]
    exact qsV_apply _
  · rw [if_neg h, decide_eq_false h]
    exact Ideal.ofBits_one_f32

theorem v21_at (c : Dev nD) (i : S16x8192.Idx) : V (F := Ideal) m c main_v21 i = m ((c : Thread nD τ).loc main_arg1) i := by
  rw [V_v21]; rfl

theorem v11_at (c : Dev nD) (b : Fin 4) (h : Fin 16) (t : Fin 4096) :
    V (F := Ideal) m c main_v11 (ix4 b h (0 : Fin 1) t) = A2 m c (ix3 b h t) * ((1 / Real.log 2 : ℝ) : EReal) := by
  rw [V_v11]
  refine (shapeCast_apply _ shapeCasts_S4x16x4096_S4x16x1x4096 (ix4 b h (0 : Fin 1) t) (ix3 b h t) (by
    rw [Shape.rowMajor_val_four, Shape.rowMajor_val_three]
    show (b.val * 16 + h.val) * 4096 + t.val = ((b.val * 16 + h.val) * 1 + 0) * 4096 + t.val
    omega)).trans ?_
  show A2 m c (ix3 b h t) * lgV _ = _
  rw [lgV_apply]

theorem v16_at (c : Dev nD) (h : Fin 16) (j : Fin 16) :
    V (F := Ideal) m c main_v16 (ix3 h (0 : Fin 1) (Fin.castLE (by decide) j : Fin 128)) = A3 m c (ix2 h j) * ((1 / Real.log 2 : ℝ) : EReal) := by
  rw [V_v16]
  refine (shapeCast_apply _ shapeCasts_S16x128_S16x1x128 (ix3 h (0 : Fin 1) (Fin.castLE (by decide) j : Fin 128)) (ix2 h (Fin.castLE (by decide) j : Fin 128)) (by
    rw [Shape.rowMajor_val_two, Shape.rowMajor_val_three]
    show h.val * 128 + j.val = (h.val * 1 + 0) * 128 + j.val
    omega)).trans ?_
  refine (concatenate_pair_apply_left (t := S16x128) (1 : Fin 2) _ _ concatenates_S16x16_S16x112_S16x128_d1 (ix2 h (Fin.castLE (by decide) j : Fin 128)) rfl (ix2 h j) (fun b => by
      match b with
      | ⟨0, _⟩ => rfl
      | ⟨1, _⟩ => rfl)).trans ?_
  show A3 m c (ix2 h j) * lgV _ = _
  rw [lgV_apply]

/-! ## The result -/

/-- The arguments hold these numbers. -/
structure Args (c : Dev nD) (a0 : Fin 4 → Fin 4096 → Fin 8192 → ℝ) (a1 : Fin 16 → Fin 8192 → ℝ) (a2 : Fin 4 → Fin 16 → Fin 4096 → ℝ) (a3 : Fin 16 → Fin 16 → ℝ) : Prop where
  h0 : ∀ b t e, A0 m c (ix3 b t e) = (a0 b t e : EReal)
  h1 : ∀ j e, A1 m c (ix2 j e) = (a1 j e : EReal)
  h2 : ∀ b h t, A2 m c (ix3 b h t) = (a2 b h t : EReal)
  h3 : ∀ h j, A3 m c (ix2 h j) = (a3 h j : EReal)

variable {m}
variable {a0 : Fin 4 → Fin 4096 → Fin 8192 → ℝ} {a1 : Fin 16 → Fin 8192 → ℝ} {a2 : Fin 4 → Fin 16 → Fin 4096 → ℝ} {a3 : Fin 16 → Fin 16 → ℝ}

theorem holds (c : Dev nD) (H : Args m c a0 a1 a2 a3) (b : Fin 4) (h : Fin 16) :
    Holds (head a0 a1 a2 a3 b h) (iblk (F := Ideal) m c 0 (pt b h)) (iblk (F := Ideal) m c 1 (pt b h)) (iblk (F := Ideal) m c 2 (pt b h)) (iblk (F := Ideal) m c 3 (pt b h))
      (iblk (F := Ideal) m c 4 (pt b h)) (iblk (F := Ideal) m c 5 (pt b h)) (iblk (F := Ideal) m c 6 (pt b h)) (iblk (F := Ideal) m c 7 (pt b h)) where
  q t d := (iblk0 m c b h t d).trans ((v20_at m c b t _).trans (by
    rw [H.h0, if_pos (show (col 0 h d).val < 2048 by show 2048 * 0 + 128 * h.val + d.val < 2048; omega), ← EReal.coe_mul]; rfl))
  k t d := (iblk1 m c b h t d).trans ((v20_at m c b t _).trans (by
    rw [H.h0, if_neg (show ¬ (col 1 h d).val < 2048 by show ¬ (2048 * 1 + 128 * h.val + d.val < 2048); omega), mul_one]; rfl))
  v t d := (iblk2 m c b h t d).trans ((v20_at m c b t _).trans (by
    rw [H.h0, if_neg (show ¬ (col 2 h d).val < 2048 by show ¬ (2048 * 2 + 128 * h.val + d.val < 2048); omega), mul_one]; rfl))
  z t d := (iblk3 m c b h t d).trans ((v20_at m c b t _).trans (by
    rw [H.h0, if_neg (show ¬ (col 3 h d).val < 2048 by show ¬ (2048 * 3 + 128 * h.val + d.val < 2048); omega), mul_one]; rfl))
  km j d := (iblk4 m c b h j d).trans ((v21_at m c _).trans (H.h1 _ _))
  vm j d := (iblk5 m c b h j d).trans ((v21_at m c _).trans (H.h1 _ _))
  c t := (iblk6 m c b h t).trans ((v11_at m c b h t).trans (by rw [H.h2, ← EReal.coe_mul]; rfl))
  cm j := (iblk7 m c b h _).trans ((v16_at m c h j).trans (by rw [H.h3, ← EReal.coe_mul]; rfl))

/-- The result of the call at an index. -/
theorem result_at (c : Dev nD) (H : Args m c a0 a1 a2 a3) (b : Fin 4) (t : Fin 4096) (h : Fin 16) (d : Fin 128) (e : Fin 2048) (he : e.val = 128 * h.val + d.val) :
    (dats (F := Ideal) m 0 c).arrAt 8 cfg0.N (ix3 b t e) = ((head a0 a1 a2 a3 b h).out t d : EReal) := by
  have hb := congrFun (Value.blocks8 (F := Ideal) m c (pt b h) (flush_facts _)) (ix3 (0 : Fin 1) t d)
  have e8 := (index_facts (pt b h)).2.2.2.2.2.2.2.2
  rw [pt_div, pt_mod] at e8
  have he' : (win0_8.rect (pt b h)).emb (ix3 (0 : Fin 1) t d) = (ix3 b t e : S4x4096x2048.Idx) := by
    funext a
    refine Fin.ext ?_
    show win0_8.index (pt b h) a * S1x4096x128.size a + 1 * (ix3 (0 : Fin 1) t d a).val = _
    rw [e8]
    match a with
    | ⟨0, _⟩ => show b.val * 1 + 1 * 0 = b.val; omega
    | ⟨1, _⟩ => show 0 * 4096 + 1 * t.val = t.val; omega
    | ⟨2, _⟩ => show h.val * 128 + 1 * d.val = e.val; omega
  have h1 : (dats (F := Ideal) m 0 c).arrAt 8 cfg0.N ((win0_8.rect (pt b h)).emb (ix3 (0 : Fin 1) t d)) = (dats (F := Ideal) m 0 c).flushed 8 (pt b h) (ix3 (0 : Fin 1) t d) := hb
  rw [he'] at h1
  rw [h1, Value.flushed8, outsAt0_eq]
  exact block_apply (holds c H b h) (ix3 (0 : Fin 1) t d)

end Cert.KernelIdeal.Hand

end
-- ==== Proof.Ref.lean ====
/-
  THE REFERENCE: its result at an index is the gated softmax mean over all 4112 keys, the 16 meta keys first; in
  numbers, what one head of the kernel computes.
-/
module
public import proofs.«01_k».proof.Proof.Block
public import proofs.«01_k».proof.Proof.Gen.ReferenceIdeal.Read
public import Idealize.ShloMosaic.Lib.KernelVsHost
@[expose] public section
set_option maxRecDepth 16384

noncomputable section

namespace Cert.ReferenceIdeal.Hand

open Idealize.ShloMosaic hiding ix0 ix1 ix2 ix3 ix4 eq_ix1 eq_ix2 eq_ix3 eq_ix4
open Cert.ReferenceIdeal Cert.ReferenceIdeal.Gen Cert.ReferenceIdeal.Read Cert.Hand Idealize.ShloMosaic.ValueIdx
open Cert.KernelIdeal.Hand (Data col qScale head bits_128 bot_bits)

/-! ## The numbers -/

section Numbers

variable (a0 : Fin 4 → Fin 4096 → Fin 8192 → ℝ) (a1 : Fin 16 → Fin 8192 → ℝ) (a2 : Fin 4 → Fin 16 → Fin 4096 → ℝ) (a3 : Fin 16 → Fin 16 → ℝ)

/-- The projection's rows, the meta tokens first. -/
def row (b : Fin 4) (i : Fin 4112) (e : Fin 8192) : ℝ :=
  if h : i.val < 16 then a1 ⟨i.val, h⟩ e else a0 b ⟨i.val - 16, by omega⟩ e
/-- The decay sums, the meta tokens first. -/
def dec (b : Fin 4) (h : Fin 16) (i : Fin 4112) : ℝ :=
  if hi : i.val < 16 then a3 h ⟨i.val, hi⟩ else a2 b h ⟨i.val - 16, by omega⟩
/-- The position of a query among all positions. -/
def at16 (t : Fin 4096) : Fin 4112 := ⟨16 + t.val, by omega⟩
/-- The score of key `i` for query `t`. -/
def sc (b : Fin 4) (h : Fin 16) (t : Fin 4096) (i : Fin 4112) : ℝ :=
  (∑ d : Fin 128, row a0 a1 b (at16 t) (col 0 h d) * row a0 a1 b i (col 1 h d)) / Real.sqrt 128 + dec a2 a3 b h (at16 t) - dec a2 a3 b h i
/-- The weight of key `i` relative to `M`. -/
def wt (b : Fin 4) (h : Fin 16) (t : Fin 4096) (M : ℝ) (i : Fin 4112) : ℝ :=
  if i.val ≤ 16 + t.val then Real.exp (sc a0 a1 a2 a3 b h t i - M) else 0

variable {a0 a1 a2 a3}

theorem row_meta (b : Fin 4) (j : Fin 16) (e : Fin 8192) : row a0 a1 b (Fin.castAdd 4096 j : Fin (16 + 4096)) e = a1 j e :=
  dif_pos j.isLt
theorem row_key (b : Fin 4) (s : Fin 4096) (e : Fin 8192) : row a0 a1 b (Fin.natAdd 16 s : Fin (16 + 4096)) e = a0 b s e := by
  refine (dif_neg (show ¬ 16 + s.val < 16 by omega)).trans ?_
  congr 1
  exact Fin.ext (show 16 + s.val - 16 = s.val by omega)
theorem dec_meta (b : Fin 4) (h : Fin 16) (j : Fin 16) : dec a2 a3 b h (Fin.castAdd 4096 j : Fin (16 + 4096)) = a3 h j :=
  dif_pos j.isLt
theorem dec_key (b : Fin 4) (h : Fin 16) (s : Fin 4096) : dec a2 a3 b h (Fin.natAdd 16 s : Fin (16 + 4096)) = a2 b h s := by
  refine (dif_neg (show ¬ 16 + s.val < 16 by omega)).trans ?_
  congr 1
  exact Fin.ext (show 16 + s.val - 16 = s.val by omega)
theorem at16_eq (t : Fin 4096) : at16 t = (Fin.natAdd 16 t : Fin (16 + 4096)) := rfl

theorem two_rpow (x y : ℝ) : (2 : ℝ) ^ (x * (1 / Real.log 2) - y * (1 / Real.log 2)) = Real.exp (x - y) := by
  rw [Real.rpow_def_of_pos (by norm_num : (0 : ℝ) < 2)]
  congr 1
  have : Real.log 2 ≠ 0 := (Real.log_pos (by norm_num)).ne'
  field_simp

theorem wt_meta (b : Fin 4) (h : Fin 16) (t : Fin 4096) (M : ℝ) (j : Fin 16) :
    wt a0 a1 a2 a3 b h t M (Fin.castAdd 4096 j : Fin (16 + 4096)) = Real.exp (a2 b h t - M) * (2 : ℝ) ^ (head a0 a1 a2 a3 b h).mscore t j := by
  refine (if_pos (show j.val ≤ 16 + t.val by omega)).trans ?_
  have e : (head a0 a1 a2 a3 b h).mscore t j = (∑ d : Fin 128, a0 b t (col 0 h d) * a1 j (col 1 h d)) / Real.sqrt 128 * (1 / Real.log 2) - a3 h j * (1 / Real.log 2) := by
    unfold Data.mscore
    congr 1
    rw [div_eq_mul_one_div _ (Real.sqrt 128), mul_assoc, Finset.sum_mul]
    refine Finset.sum_congr rfl fun d _ => ?_
    show a1 j (col 1 h d) * (a0 b t (col 0 h d) * qScale) = _
    unfold qScale
    ring
  rw [e, two_rpow, ← Real.exp_add]
  congr 1
  unfold sc
  rw [at16_eq, dec_key, dec_meta]
  simp only [row_key, row_meta]
  ring

theorem wt_key (b : Fin 4) (h : Fin 16) (t : Fin 4096) (M : ℝ) (s : Fin 4096) :
    wt a0 a1 a2 a3 b h t M (Fin.natAdd 16 s : Fin (16 + 4096)) = if s.val ≤ t.val then Real.exp (a2 b h t - M) * (2 : ℝ) ^ (head a0 a1 a2 a3 b h).score t s else 0 := by
  by_cases hs : s.val ≤ t.val
  swap
  · rw [if_neg hs]
    exact if_neg (show ¬ 16 + s.val ≤ 16 + t.val by omega)
  rw [if_pos hs]
  refine (if_pos (show 16 + s.val ≤ 16 + t.val by omega)).trans ?_
  have e : (head a0 a1 a2 a3 b h).score t s = (∑ d : Fin 128, a0 b t (col 0 h d) * a0 b s (col 1 h d)) / Real.sqrt 128 * (1 / Real.log 2) - a2 b h s * (1 / Real.log 2) := by
    unfold Data.score
    congr 1
    rw [div_eq_mul_one_div _ (Real.sqrt 128), mul_assoc, Finset.sum_mul]
    refine Finset.sum_congr rfl fun d _ => ?_
    show a0 b s (col 1 h d) * (a0 b t (col 0 h d) * qScale) = _
    unfold qScale
    ring
  rw [e, two_rpow, ← Real.exp_add]
  congr 1
  unfold sc
  rw [at16_eq, dec_key, dec_key]
  simp only [row_key]
  ring

/-- A sum weighted by the reference's weights, as the kernel splits it. -/
theorem wt_sum (b : Fin 4) (h : Fin 16) (t : Fin 4096) (M : ℝ) (f : Fin 4112 → ℝ) :
    ∑ i, wt a0 a1 a2 a3 b h t M i * f i = Real.exp (a2 b h t - M) * (∑ j : Fin 16, (2 : ℝ) ^ (head a0 a1 a2 a3 b h).mscore t j * f (Fin.castAdd 4096 j : Fin (16 + 4096))
      + ∑ s : Fin 4096, if s.val ≤ t.val then (2 : ℝ) ^ (head a0 a1 a2 a3 b h).score t s * f (Fin.natAdd 16 s : Fin (16 + 4096)) else 0) := by
  rw [show (∑ i, wt a0 a1 a2 a3 b h t M i * f i) = ∑ i : Fin (16 + 4096), wt a0 a1 a2 a3 b h t M i * f i from rfl, Fin.sum_univ_add, mul_add, Finset.mul_sum, Finset.mul_sum]
  congr 1
  · refine Finset.sum_congr rfl fun j _ => ?_
    rw [wt_meta, mul_assoc]
  · refine Finset.sum_congr rfl fun s _ => ?_
    rw [wt_key]
    split_ifs
    · rw [mul_assoc]
    · rw [zero_mul, mul_zero]

theorem wt_den (b : Fin 4) (h : Fin 16) (t : Fin 4096) (M : ℝ) :
    ∑ i, wt a0 a1 a2 a3 b h t M i = Real.exp (a2 b h t - M) * (head a0 a1 a2 a3 b h).den t := by
  exact (Finset.sum_congr rfl fun i _ => (mul_one _).symm).trans (wt_sum b h t M fun _ => 1)

theorem wt_num (b : Fin 4) (h : Fin 16) (t : Fin 4096) (M : ℝ) (d : Fin 128) :
    ∑ i, wt a0 a1 a2 a3 b h t M i * row a0 a1 b i (col 2 h d) = Real.exp (a2 b h t - M) * (head a0 a1 a2 a3 b h).num t d := by
  rw [wt_sum]
  simp only [row_meta, row_key]
  rfl

theorem wt_den_pos (b : Fin 4) (h : Fin 16) (t : Fin 4096) (M : ℝ) : 0 < ∑ i, wt a0 a1 a2 a3 b h t M i := by
  rw [wt_den]
  exact mul_pos (Real.exp_pos _) (Data.den_pos _ _)

theorem mean_eq (b : Fin 4) (h : Fin 16) (t : Fin 4096) (M : ℝ) (d : Fin 128) :
    ∑ i, wt a0 a1 a2 a3 b h t M i / (∑ i, wt a0 a1 a2 a3 b h t M i) * row a0 a1 b i (col 2 h d) = (head a0 a1 a2 a3 b h).num t d / (head a0 a1 a2 a3 b h).den t := by
  rw [← quot_cancel (Real.exp (a2 b h t - M)) _ _ (Real.exp_pos _).ne', ← wt_den b h t M, ← wt_num b h t M d, Finset.sum_div]
  exact Finset.sum_congr rfl fun i _ => div_mul_eq_mul_div _ _ _

end Numbers

/-! ## The reference, operation by operation -/

abbrev C0 := (⟨S4x4096x8192, .f32⟩ : BufTy).Contents (Elt Ideal)
abbrev C1 := (⟨S16x8192, .f32⟩ : BufTy).Contents (Elt Ideal)
abbrev C2 := (⟨S4x16x4096, .f32⟩ : BufTy).Contents (Elt Ideal)
abbrev C3 := (⟨S16x16, .f32⟩ : BufTy).Contents (Elt Ideal)

/-- The arguments hold these numbers. -/
structure Nums (x0 : C0) (x1 : C1) (x2 : C2) (x3 : C3) (a0 : Fin 4 → Fin 4096 → Fin 8192 → ℝ) (a1 : Fin 16 → Fin 8192 → ℝ) (a2 : Fin 4 → Fin 16 → Fin 4096 → ℝ) (a3 : Fin 16 → Fin 16 → ℝ) : Prop where
  h0 : ∀ b t e, x0 (ix3 b t e) = (a0 b t e : EReal)
  h1 : ∀ j e, x1 (ix2 j e) = (a1 j e : EReal)
  h2 : ∀ b h t, x2 (ix3 b h t) = (a2 b h t : EReal)
  h3 : ∀ h j, x3 (ix2 h j) = (a3 h j : EReal)

section

variable {x0 : C0} {x1 : C1} {x2 : C2} {x3 : C3} {a0 : Fin 4 → Fin 4096 → Fin 8192 → ℝ} {a1 : Fin 16 → Fin 8192 → ℝ} {a2 : Fin 4 → Fin 16 → Fin 4096 → ℝ} {a3 : Fin 16 → Fin 16 → ℝ}

theorem v2_at (H : Nums x0 x1 x2 x3 a0 a1 a2 a3) (b : Fin 4) (i : Fin 4112) (e : Fin 8192) :
    val_main_v2 (F := Ideal) x0 x1 (ix3 b i e) = (row a0 a1 b i e : EReal) := by
  unfold val_main_v2 row
  by_cases hi : i.val < 16
  · rw [dif_pos hi, ← H.h1]
    refine (concatenate_pair_apply_left (t := S4x4112x8192) (1 : Fin 3) _ _ concatenates_S4x16x8192_S4x4096x8192_S4x4112x8192_d1 (ix3 b i e) rfl (ix3 b (⟨i.val, hi⟩ : Fin 16) e) (fun a => by
      match a with
      | ⟨0, _⟩ => rfl
      | ⟨1, _⟩ => rfl
      | ⟨2, _⟩ => rfl)).trans ?_
    rw [val_main_v1_apply, val_main_v0_apply]
    congr 1
    funext a
    match a with
    | ⟨0, _⟩ => rfl
    | ⟨1, _⟩ => rfl
  · rw [dif_neg hi, ← H.h0]
    exact concatenate_pair_apply_right (t := S4x4112x8192) (1 : Fin 3) _ _ concatenates_S4x16x8192_S4x4096x8192_S4x4112x8192_d1 (ix3 b i e) rfl rfl (ix3 b (⟨i.val - 16, by omega⟩ : Fin 4096) e) (fun a => by
      match a with
      | ⟨0, _⟩ => intro _; rfl
      | ⟨1, _⟩ => intro h; exact absurd rfl h
      | ⟨2, _⟩ => intro _; rfl) (by show i.val - 16 + 16 = i.val; omega)

theorem v15_at (H : Nums x0 x1 x2 x3 a0 a1 a2 a3) (b : Fin 4) (h : Fin 16) (i : Fin 4112) :
    val_main_v15 (F := Ideal) x2 x3 (ix3 b h i) = (dec a2 a3 b h i : EReal) := by
  unfold val_main_v15 dec
  by_cases hi : i.val < 16
  · rw [dif_pos hi, ← H.h3]
    refine (concatenate_pair_apply_left (t := S4x16x4112) (2 : Fin 3) _ _ concatenates_S4x16x16_S4x16x4096_S4x16x4112_d2 (ix3 b h i) rfl (ix3 b h (⟨i.val, hi⟩ : Fin 16)) (fun a => by
      match a with
      | ⟨0, _⟩ => rfl
      | ⟨1, _⟩ => rfl
      | ⟨2, _⟩ => rfl)).trans ?_
    rw [val_main_v14_apply, val_main_v13_apply]
    congr 1
    funext a
    match a with
    | ⟨0, _⟩ => rfl
    | ⟨1, _⟩ => rfl
  · rw [dif_neg hi, ← H.h2]
    exact concatenate_pair_apply_right (t := S4x16x4112) (2 : Fin 3) _ _ concatenates_S4x16x16_S4x16x4096_S4x16x4112_d2 (ix3 b h i) rfl rfl (ix3 b h (⟨i.val - 16, by omega⟩ : Fin 4096)) (fun a => by
      match a with
      | ⟨0, _⟩ => intro _; rfl
      | ⟨1, _⟩ => intro _; rfl
      | ⟨2, _⟩ => intro h; exact absurd rfl h) (by show i.val - 16 + 16 = i.val; omega)

/-- Queries, keys and values of a head at a position. -/
theorem v8_at (H : Nums x0 x1 x2 x3 a0 a1 a2 a3) (b : Fin 4) (h : Fin 16) (i : Fin 4112) (d : Fin 128) :
    val_main_v8 (F := Ideal) x0 x1 (ix4 b h i d) = (row a0 a1 b i (col 0 h d) : EReal) := by
  rw [val_main_v8_apply, val_main_v7_apply, val_main_v3_apply, ← v2_at H]
  congr 1
  funext a
  refine Fin.ext ?_
  match a with
  | ⟨0, _⟩ => show (((b.val * 4112 + i.val) * 16 + h.val) * 128 + d.val) / 8421376 = b.val; omega
  | ⟨1, _⟩ => show (((b.val * 4112 + i.val) * 16 + h.val) * 128 + d.val) / 2048 % 4112 = i.val; omega
  | ⟨2, _⟩ => show (((b.val * 4112 + i.val) * 16 + h.val) * 128 + d.val) % 2048 = 2048 * 0 + 128 * h.val + d.val; omega
theorem v10_at (H : Nums x0 x1 x2 x3 a0 a1 a2 a3) (b : Fin 4) (h : Fin 16) (i : Fin 4112) (d : Fin 128) :
    val_main_v10 (F := Ideal) x0 x1 (ix4 b h i d) = (row a0 a1 b i (col 1 h d) : EReal) := by
  rw [val_main_v10_apply, val_main_v9_apply, val_main_v4_apply, ← v2_at H]
  congr 1
  funext a
  refine Fin.ext ?_
  match a with
  | ⟨0, _⟩ => show (((b.val * 4112 + i.val) * 16 + h.val) * 128 + d.val) / 8421376 = b.val; omega
  | ⟨1, _⟩ => show (((b.val * 4112 + i.val) * 16 + h.val) * 128 + d.val) / 2048 % 4112 = i.val; omega
  | ⟨2, _⟩ => show 2048 + (((b.val * 4112 + i.val) * 16 + h.val) * 128 + d.val) % 2048 = 2048 * 1 + 128 * h.val + d.val; omega
theorem v12_at (H : Nums x0 x1 x2 x3 a0 a1 a2 a3) (b : Fin 4) (h : Fin 16) (i : Fin 4112) (d : Fin 128) :
    val_main_v12 (F := Ideal) x0 x1 (ix4 b h i d) = (row a0 a1 b i (col 2 h d) : EReal) := by
  rw [val_main_v12_apply, val_main_v11_apply, val_main_v5_apply, ← v2_at H]
  congr 1
  funext a
  refine Fin.ext ?_
  match a with
  | ⟨0, _⟩ => show (((b.val * 4112 + i.val) * 16 + h.val) * 128 + d.val) / 8421376 = b.val; omega
  | ⟨1, _⟩ => show (((b.val * 4112 + i.val) * 16 + h.val) * 128 + d.val) / 2048 % 4112 = i.val; omega
  | ⟨2, _⟩ => show 4096 + (((b.val * 4112 + i.val) * 16 + h.val) * 128 + d.val) % 2048 = 2048 * 2 + 128 * h.val + d.val; omega

theorem v18_at (H : Nums x0 x1 x2 x3 a0 a1 a2 a3) (b : Fin 4) (h : Fin 16) (t : Fin 4096) (i : Fin 4112) :
    val_main_v18 (F := Ideal) x0 x1 (ix4 b h t i) = ((∑ d : Fin 128, row a0 a1 b (at16 t) (col 0 h d) * row a0 a1 b i (col 1 h d) : ℝ) : EReal) := by
  rw [val_main_v18_apply, coe_sum]
  refine Finset.sum_congr rfl fun d _ => ?_
  rw [EReal.coe_mul, ← v8_at H, ← v10_at H, val_main_v17_apply]
  congr 2 <;> (funext a; match a with
    | ⟨0, _⟩ => rfl
    | ⟨1, _⟩ => rfl
    | ⟨2, _⟩ => rfl
    | ⟨3, _⟩ => rfl)

theorem v20_at (i : S4x16x4096x4112.Idx) : val_main_v20 (F := Ideal) i = ((Real.sqrt 128 : ℝ) : EReal) := by
  rw [val_main_v20_apply, val_main_v19_apply, val_main_cst_apply]
  show Ideal.sqrt (Ideal.ofBits .f32 0x43000000#32) = _
  rw [bits_128]
  show (if (128 : ℝ) < 0 then (⊥ : EReal) else (Real.sqrt 128 : EReal)) = _
  rw [if_neg (by norm_num)]

theorem v24_at (H : Nums x0 x1 x2 x3 a0 a1 a2 a3) (b : Fin 4) (h : Fin 16) (t : Fin 4096) (i : Fin 4112) :
    val_main_v24 (F := Ideal) x2 x3 (ix4 b h t i) = (dec a2 a3 b h (at16 t) : EReal) := by
  rw [val_main_v24_apply, val_main_v23_apply, val_main_v22_apply, ← v15_at H]
  congr 1
  funext a
  match a with
  | ⟨0, _⟩ => rfl
  | ⟨1, _⟩ => rfl
  | ⟨2, _⟩ => rfl

theorem v27_at (H : Nums x0 x1 x2 x3 a0 a1 a2 a3) (b : Fin 4) (h : Fin 16) (t : Fin 4096) (i : Fin 4112) :
    val_main_v27 (F := Ideal) x2 x3 (ix4 b h t i) = (dec a2 a3 b h i : EReal) := by
  rw [val_main_v27_apply, val_main_v26_apply, ← v15_at H]
  congr 1
  funext a
  match a with
  | ⟨0, _⟩ => rfl
  | ⟨1, _⟩ => rfl
  | ⟨2, _⟩ => rfl

theorem v28_at (H : Nums x0 x1 x2 x3 a0 a1 a2 a3) (b : Fin 4) (h : Fin 16) (t : Fin 4096) (i : Fin 4112) :
    val_main_v28 (F := Ideal) x0 x1 x2 x3 (ix4 b h t i) = (sc a0 a1 a2 a3 b h t i : EReal) := by
  rw [val_main_v28_apply, val_main_v25_apply, val_main_v21_apply, v27_at H, v24_at H, v20_at, v18_at H]
  show Ideal.div _ _ + _ - _ = _
  rw [div_coe _ _ (Real.sqrt_pos.2 (by norm_num)).ne', ← EReal.coe_add, ← EReal.coe_sub]
  rfl

theorem mask_at (b : Fin 4) (h : Fin 16) (t : Fin 4096) (i : Fin 4112) :
    val_main_call0_v1 (F := Ideal) (ix4 b h t i) = BitVec.ofBool (decide (i.val ≤ 16 + t.val)) := by
  rw [val_main_call0_v1_apply, val_main_v35_apply, val_main_v34_apply, val_main_v32_apply, val_main_v33_apply, val_main_v31_apply, val_main_v30_apply, val_main_v29_apply,
    val_main_v16_apply, val_main_v16_apply]
  show BitVec.ofBool ((BitVec.ofNat 32 i.val).sle (BitVec.ofNat 32 (16 + t.val))) = _
  have hi := i.isLt
  have ht := t.isLt
  congr 1
  rw [Bool.eq_iff_iff, BitVec.sle_iff_toInt_le, decide_eq_true_eq, BitVec.toInt_eq_toNat_cond, BitVec.toInt_eq_toNat_cond, BitVec.toNat_ofNat, BitVec.toNat_ofNat]
  have h1 : i.val % 2 ^ 32 = i.val := Nat.mod_eq_of_lt (by omega)
  have h2 : (16 + t.val) % 2 ^ 32 = 16 + t.val := Nat.mod_eq_of_lt (by omega)
  rw [h1, h2, if_pos (by omega), if_pos (by omega)]
  omega

theorem v36_at (H : Nums x0 x1 x2 x3 a0 a1 a2 a3) (b : Fin 4) (h : Fin 16) (t : Fin 4096) (i : Fin 4112) :
    val_main_v36 (F := Ideal) x0 x1 x2 x3 (ix4 b h t i) = if i.val ≤ 16 + t.val then (sc a0 a1 a2 a3 b h t i : EReal) else ⊥ := by
  rw [val_main_v36_apply, mask_at, v28_at H, val_main_call0_v2_apply, val_main_call0_v0_apply, val_main_cst_0_apply, bot_bits]
  by_cases hi : i.val ≤ 16 + t.val
  · rw [decide_eq_true hi, if_pos hi]; rfl
  · rw [decide_eq_false hi, if_neg hi]; rfl

theorem lift3 (hr : S4x16x4096x4112.Reduces [3] S4x16x4096) (b : Fin 4) (h : Fin 16) (t : Fin 4096) (k : Fin 4112) :
    hr.lift (ix3 b h t) k = (ix4 b h t k : S4x16x4096x4112.Idx) :=
  funext fun x => by
    match x with
    | ⟨0, _⟩ => rfl
    | ⟨1, _⟩ => rfl
    | ⟨2, _⟩ => rfl
    | ⟨3, _⟩ => rfl

theorem row_max (x : FVec Ideal S4x16x4096x4112 .f32) (b : Fin 4) (h : Fin 16) (t : Fin 4096) :
    Host.reduce FloatOps.maximumf x (constant (F := Ideal) S_ .f32 0xFF800000#32) reducesTo_S4x16x4096x4112_S4x16x4096_d3 h_S_ (ix3 b h t)
      = (Finset.univ : Finset (Fin 4112)).fold max ⊥ (fun k => x (ix4 b h t k)) := by
  have hr : S4x16x4096x4112.Reduces [3] S4x16x4096 := by decide
  rw [hostReduce_maximumf_eq_multiReduction (F := Ideal) (φ := .f32) x 0xFF800000#32 _ _ hr (.inl rfl) rfl]
  refine (Ideal.multiReduction_maximumf_single (φ := .f32) x _ hr _ _ _).trans ?_
  rw [bot_bits]
  have e : (x ∘ hr.lift (ix3 b h t)) = fun k : Fin 4112 => x (ix4 b h t k) := funext fun k => congrArg x (lift3 hr b h t k)
  exact congrArg (fun f => (Finset.univ : Finset (Fin 4112)).fold max ⊥ f) e

theorem v39_at (H : Nums x0 x1 x2 x3 a0 a1 a2 a3) (b : Fin 4) (h : Fin 16) (t : Fin 4096) :
    ∃ M : ℝ, val_main_v39 (F := Ideal) x0 x1 x2 x3 (ix3 b h t) = M := by
  have e : val_main_v37 (F := Ideal) x0 x1 x2 x3 (ix3 b h t) = (Finset.univ : Finset (Fin 4112)).fold max ⊥ (fun k => val_main_v36 (F := Ideal) x0 x1 x2 x3 (ix4 b h t k)) :=
    row_max _ b h t
  have hb : val_main_v38 (F := Ideal) (ix3 b h t) = (⊥ : EReal) := by
    rw [val_main_v38_apply, val_main_cst_2_apply, bot_bits]
  rw [val_main_v39_apply, hb, e]
  show ∃ M : ℝ, max (⊥ : EReal) _ = _
  rw [max_eq_right bot_le]
  have hlt : ∀ k ∈ (Finset.univ : Finset (Fin 4112)), val_main_v36 (F := Ideal) x0 x1 x2 x3 (ix4 b h t k) < (⊤ : EReal) := fun k _ => by
    rw [v36_at H]
    split_ifs
    · exact EReal.coe_lt_top _
    · exact bot_lt_top
  have htop := fold_max_lt_top _ _ hlt
  have hge : (sc a0 a1 a2 a3 b h t 0 : EReal) ≤ (Finset.univ : Finset (Fin 4112)).fold max ⊥ (fun k => val_main_v36 (F := Ideal) x0 x1 x2 x3 (ix4 b h t k)) := by
    have h0 : val_main_v36 (F := Ideal) x0 x1 x2 x3 (ix4 b h t (0 : Fin 4112)) = (sc a0 a1 a2 a3 b h t 0 : EReal) := by
      rw [v36_at H]
      exact if_pos (Nat.zero_le _)
    rw [← h0]
    exact Finset.le_sup (f := fun k => val_main_v36 (F := Ideal) x0 x1 x2 x3 (ix4 b h t k)) (Finset.mem_univ (0 : Fin 4112))
  obtain ⟨r, hM⟩ := max_real_of_lt_top (sc a0 a1 a2 a3 b h t 0) _ htop
  rw [max_eq_right hge] at hM
  exact ⟨r, hM⟩

theorem v43_at (H : Nums x0 x1 x2 x3 a0 a1 a2 a3) (b : Fin 4) (h : Fin 16) (t : Fin 4096) (M : ℝ) (hM : val_main_v39 (F := Ideal) x0 x1 x2 x3 (ix3 b h t) = M) (i : Fin 4112) :
    val_main_v43 (F := Ideal) x0 x1 x2 x3 (ix4 b h t i) = (wt a0 a1 a2 a3 b h t M i : EReal) := by
  have e : val_main_v41 (F := Ideal) x0 x1 x2 x3 (ix4 b h t i) = M := by
    rw [val_main_v41_apply, val_main_v40_apply, ← hM]
    refine congrArg (val_main_v39 (F := Ideal) x0 x1 x2 x3) (funext fun a => ?_)
    match a with
    | ⟨0, _⟩ => rfl
    | ⟨1, _⟩ => rfl
    | ⟨2, _⟩ => rfl
  rw [val_main_v43_apply, val_main_v42_apply, e, v36_at H]
  show Ideal.exp (_ - _) = _
  unfold wt
  split_ifs
  · exact exp_sub _ _
  · exact (exp_bot_sub _).trans EReal.coe_zero.symm

theorem v44_at (H : Nums x0 x1 x2 x3 a0 a1 a2 a3) (b : Fin 4) (h : Fin 16) (t : Fin 4096) (M : ℝ) (hM : val_main_v39 (F := Ideal) x0 x1 x2 x3 (ix3 b h t) = M) :
    val_main_v44 (F := Ideal) x0 x1 x2 x3 (ix3 b h t) = ((∑ i, wt a0 a1 a2 a3 b h t M i : ℝ) : EReal) := by
  rw [val_main_v44_apply, val_main_cst_3_apply, coe_sum]
  refine (congrArg (· + _) Ideal.ofBits_zero_f32).trans ((zero_add _).trans ?_)
  refine Finset.sum_congr rfl fun i _ => ?_
  rw [← v43_at H b h t M hM]
  refine congrArg (val_main_v43 (F := Ideal) x0 x1 x2 x3) (funext fun a => ?_)
  match a with
  | ⟨0, _⟩ => rfl
  | ⟨1, _⟩ => rfl
  | ⟨2, _⟩ => rfl
  | ⟨3, _⟩ => rfl

theorem v47_at (H : Nums x0 x1 x2 x3 a0 a1 a2 a3) (b : Fin 4) (h : Fin 16) (t : Fin 4096) (M : ℝ) (hM : val_main_v39 (F := Ideal) x0 x1 x2 x3 (ix3 b h t) = M) (i : Fin 4112) :
    val_main_v47 (F := Ideal) x0 x1 x2 x3 (ix4 b h t i) = ((wt a0 a1 a2 a3 b h t M i / ∑ i, wt a0 a1 a2 a3 b h t M i : ℝ) : EReal) := by
  have e : val_main_v46 (F := Ideal) x0 x1 x2 x3 (ix4 b h t i) = ((∑ i, wt a0 a1 a2 a3 b h t M i : ℝ) : EReal) := by
    rw [val_main_v46_apply, val_main_v45_apply, ← v44_at H b h t M hM]
    refine congrArg (val_main_v44 (F := Ideal) x0 x1 x2 x3) (funext fun a => ?_)
    match a with
    | ⟨0, _⟩ => rfl
    | ⟨1, _⟩ => rfl
    | ⟨2, _⟩ => rfl
  rw [val_main_v47_apply, e, v43_at H b h t M hM]
  exact div_coe _ _ (wt_den_pos b h t M).ne'

theorem v48_at (H : Nums x0 x1 x2 x3 a0 a1 a2 a3) (b : Fin 4) (h : Fin 16) (t : Fin 4096) (d : Fin 128) :
    val_main_v48 (F := Ideal) x0 x1 x2 x3 (ix4 b h t d) = (((head a0 a1 a2 a3 b h).num t d / (head a0 a1 a2 a3 b h).den t : ℝ) : EReal) := by
  obtain ⟨M, hM⟩ := v39_at H b h t
  rw [val_main_v48_apply, ← mean_eq b h t M d, coe_sum]
  refine Finset.sum_congr rfl fun i _ => ?_
  rw [EReal.coe_mul, ← v47_at H b h t M hM, ← v12_at H]
  refine congrArg₂ (fun x y : EReal => x * y) (congrArg (val_main_v47 (F := Ideal) x0 x1 x2 x3) (funext fun a => ?_)) (congrArg (val_main_v12 (F := Ideal) x0 x1) (funext fun a => ?_)) <;>
    (match a with
    | ⟨0, _⟩ => rfl
    | ⟨1, _⟩ => rfl
    | ⟨2, _⟩ => rfl
    | ⟨3, _⟩ => rfl)

theorem v51_at (H : Nums x0 x1 x2 x3 a0 a1 a2 a3) (b : Fin 4) (t : Fin 4096) (h : Fin 16) (d : Fin 128) (e : Fin 2048) (he : e.val = 128 * h.val + d.val) :
    val_main_v51 (F := Ideal) x0 x1 (ix3 b t e) = (a0 b t (col 3 h d) : EReal) := by
  rw [val_main_v51_apply, val_main_v6_apply, ← row_key (a0 := a0) (a1 := a1), ← v2_at H]
  congr 1
  funext a
  refine Fin.ext ?_
  match a with
  | ⟨0, _⟩ => rfl
  | ⟨1, _⟩ => rfl
  | ⟨2, _⟩ => show 6144 + e.val = 2048 * 3 + 128 * h.val + d.val; omega

theorem v52_at (H : Nums x0 x1 x2 x3 a0 a1 a2 a3) (b : Fin 4) (t : Fin 4096) (h : Fin 16) (d : Fin 128) (e : Fin 2048) (he : e.val = 128 * h.val + d.val) :
    val_main_v52 (F := Ideal) x0 x1 (ix3 b t e) = ((a0 b t (col 3 h d) * (1 / (1 + Real.exp (-a0 b t (col 3 h d)))) : ℝ) : EReal) := by
  rw [val_main_v52_apply, val_main_call1_v5_apply, val_main_call1_v3_apply, val_main_call1_v1_apply, val_main_call1_v0_apply, val_main_call1_v4_apply, val_main_call1_v2_apply,
    val_main_call1_cst_apply, val_main_call1_cst_0_apply, v51_at H b t h d e he, EReal.coe_mul, ← logistic_coe]
  have e1 : (FloatOps.ofBits .f32 0x3F800000#32 : Ideal .f32) = (1 : EReal) := Ideal.ofBits_one_f32
  rw [e1]
  rfl

/-- The reference's result at an index. -/
theorem result_at (H : Nums x0 x1 x2 x3 a0 a1 a2 a3) (b : Fin 4) (t : Fin 4096) (h : Fin 16) (d : Fin 128) (e : Fin 2048) (he : e.val = 128 * h.val + d.val) :
    val_main_v54 (F := Ideal) x0 x1 x2 x3 (ix3 b t e) = ((head a0 a1 a2 a3 b h).out t d : EReal) := by
  rw [val_main_v54_apply, val_main_v53_apply, v52_at H b t h d e he, val_main_v50_apply, val_main_v49_apply]
  refine (congrArg (fun x : EReal => x * _) ((congrArg (val_main_v48 (F := Ideal) x0 x1 x2 x3) ?_).trans (v48_at H b h t d))).trans (EReal.coe_mul _ _).symm
  funext a
  refine Fin.ext ?_
  match a with
  | ⟨0, _⟩ => show ((b.val * 4096 + t.val) * 2048 + e.val) / 8388608 = b.val; omega
  | ⟨1, _⟩ => show ((b.val * 4096 + t.val) * 2048 + e.val) / 128 % 16 = h.val; omega
  | ⟨2, _⟩ => show ((b.val * 4096 + t.val) * 2048 + e.val) / 2048 % 4096 = t.val; omega
  | ⟨3, _⟩ => show ((b.val * 4096 + t.val) * 2048 + e.val) % 128 = d.val; omega

end

end Cert.ReferenceIdeal.Hand

end
-- ==== Proof.Attention.lean ====
/-
  THE CLAIMS OF THE ATTENTION: the frames, the named constant, and that the kernel and the reference end with equal results
  when every element of the arguments is finite.
-/
module
public import proofs.«01_k».proof.Defs
public import proofs.«01_k».proof.Proof.Ref
public import proofs.«01_k».proof.Proof.Gen.Kernel.Frame
public import proofs.«01_k».proof.Proof.Gen.KernelIdeal.Frame
public import proofs.«01_k».proof.Proof.Gen.Pre_finite
public import Idealize.ShloMosaic.Adequacy
public import Idealize.ShloMosaic.Init
@[expose] public section
set_option maxRecDepth 16384

noncomputable section

namespace Cert.Proof.Attention

open Idealize.ShloMosaic hiding ix0 ix1 ix2 ix3 ix4 eq_ix1 eq_ix2 eq_ix3 eq_ix4
open Idealize.ShloMosaic.TcCoe Idealize.SL.Sem Idealize.ShloMosaic.ValueIdx Cert.Hand
open Cert.KernelIdeal.Hand (A0 A1 A2 A3 Args head)

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ri_finite : Cert.quiescent_ReferenceIdeal_pre_finite := fun m ρ _ => frame_ri m ρ trivial

/-- The word written for "masked out" is named, and its name's value is `⊥`. -/
theorem preserves : Cert.preserves_Kernel_KernelIdeal :=
  IdealRules.named_const.statement Cert.KernelIdeal.κ "masked" .f32 0xF149F2CA#32 ⊥ rfl

theorem top_bits : (FloatOps.ofBits .f32 0x7F800000#32 : Ideal .f32) = (⊤ : EReal) := by
  show Ideal.ofBits .f32 0x7F800000#32 = ⊤
  simp [Ideal.ofBits, Ideal.ieee]

/-- What the precondition says of one element. -/
theorem real_of_lt (x : EReal) (h : FloatOps.cmpf (F := Ideal) (φ := .f32) .olt (FloatOps.hostAbsf x) (FloatOps.ofBits .f32 0x7F800000#32) = 1#1) : x = (x.toReal : EReal) := by
  rw [top_bits] at h
  refine coe_toReal_of (real_of_abs_lt_top ?_)
  by_contra hn
  have : FloatOps.cmpf (F := Ideal) (φ := .f32) .olt (FloatOps.hostAbsf x) (⊤ : EReal) = BitVec.ofBool (decide (max x (-x) < (⊤ : EReal))) := rfl
  rw [this, decide_eq_false hn] at h
  exact absurd h (by decide)

/-- Finite arguments hold real numbers. -/
theorem args (m : (ℓ : Loc Cert.KernelIdeal.nD Cert.KernelIdeal.τ Cert.KernelIdeal.sig) → Buf (Elt Ideal) ℓ) (hp : Cert.Pre_KernelIdeal_finite m) (c : Dev Cert.KernelIdeal.nD) :
    Args m c (fun b t e => (A0 m c (ix3 b t e)).toReal) (fun j e => (A1 m c (ix2 j e)).toReal) (fun b h t => (A2 m c (ix3 b h t)).toReal) (fun h j => (A3 m c (ix2 h j)).toReal) where
  h0 b t e := real_of_lt _ (congrFun (hp c).1 (ix3 b t e))
  h1 j e := real_of_lt _ (congrFun (hp c).2.1 (ix2 j e))
  h2 b h t := real_of_lt _ (congrFun (hp c).2.2.1 (ix3 b h t))
  h3 h j := real_of_lt _ (congrFun (hp c).2.2.2 (ix2 h j))

theorem algebraic : Cert.algebraic_KernelIdeal_ReferenceIdeal_pre_finite := by
  intro m ρ m' ρ' hp hagree
  refine ⟨_, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  refine (Cert.ReferenceIdeal.Read.val_main_v54_eq (F := Ideal) m' c).trans ?_
  obtain ⟨e0, e1, e2, e3⟩ := hagree c
  rw [e0, e1, e2, e3]
  have H := args m hp c
  funext i
  have hi : (i : Cert.ReferenceIdeal.S4x4096x2048.Idx) = ix3 (i 0) (i 1) (i 2) := eq_ix3 i
  have h2 : (i 2).val < 2048 := (i 2).isLt
  have he : (i 2).val = 128 * (⟨(i 2).val / 128, by omega⟩ : Fin 16).val + (⟨(i 2).val % 128, Nat.mod_lt _ (by decide)⟩ : Fin 128).val := by
    show (i 2).val = 128 * ((i 2).val / 128) + (i 2).val % 128
    omega
  rw [hi]
  exact (Cert.ReferenceIdeal.Hand.result_at ⟨H.h0, H.h1, H.h2, H.h3⟩ (i 0) (i 1) _ _ (i 2) he).trans (Cert.KernelIdeal.Hand.result_at c H (i 0) (i 1) _ _ (i 2) he).symm

end Cert.Proof.Attention

end
-- ==== Proof.InProjIdeal.lean ====
/-
  THE INPUT PROJECTION'S CALL, at any arithmetic: the body at a grid point, what the arrays and the scratch hold point by
  point, and the whole call's run. The scratch holds the block's rows cast to bf16 from the block's first point on, and the
  forget logits' buffer keeps what that point stored until it is written back.
-/
module

public import proofs.«01_k».proof.Proof.Gen.Kernel2Ideal.Frame
public import Idealize.ShloMosaic.Lib.Pipeline.Value
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The machine's resources. -/
abbrev Res (F : FTy → Type) : Type := MT nD τ sig Unit (Elt F) ℕ (UR sig nD τ) ℕ

/-- The block of the scratch and of the first output are whole buffers: their views. -/
abbrev scM : Memref sig .tc .vmem S1024x2048 .bf16 := Memref.whole cc0_scratch0

abbrev cond (i : grid0.Coords) : Prop := k0_cond1 i = 1#1

theorem hcond : ∀ t : Fin cfg0.N, cond (grid0.coords t) ↔ t.val % 4 = 0 :=
  (fun t => by
    have ht : t.val < 64 := Nat.lt_of_lt_of_eq t.isLt N_0
    have e0 : (grid0.coords t 1).val = t.val / 1 % 4 := Pipeline.Grid.coords_val t 1 (by decide) rfl
    simp only [cond, k0_cond1, e0]
    word_cmp
   : ∀ t : Fin grid0.N, cond (grid0.coords t) ↔ t.val % 4 = 0)

/-! ## What the body computes -/

theorem hz2 : (![0, 0] : Fin 2 → Nat) = fun _ => 0 := funext fun a => by fin_cases a <;> rfl

/-- A buffer a store covered reads the stored value. -/
theorem read_stored {s : Shape} {e : EltTy} {sp : Space} (v : View sig .tc sp s e) (f : v.ty.Contents (Elt F)) {off : Fin s.rank → Nat} (h : off = fun _ => 0)
    (inb : ∀ a, off a + s.size a ≤ s.size a) (w : s.Idx → Elt F e) :
    v.read (Elt F) (v.writes (Elt F) f [⟨Rect.unit off s.size inb, w⟩]) = w := by
  rw [View.read_writes_eq_canon _ _ _ (fun y => ⟨_, List.mem_singleton_self _, View.mem_set_unit_zero h inb y⟩)]
  exact View.canon_unit_zero h inb w

/-- A whole buffer loaded whole is its contents. -/
theorem load_whole {s : Shape} {e : EltTy} {sp : Space} {v : Memref sig .tc sp s e} (hv : v.IsWhole) (x : s.Idx → Elt F e) {off : Fin s.rank → Nat}
    (h : off = fun _ => 0) (inb : ∀ a, off a + s.size a ≤ s.size a) :
    View.readAt (Elt F) v.view (Rect.unit off s.size inb).toLoadRect (hv.unread x) = x := by
  rw [View.readAt_eq_ld, hv.read_unread]; exact View.ld_unit_zero h inb x

/-- The block's rows, cast to bf16. -/
def xb (x0 : Vec F S1024x2048 .f32) : Vec F S1024x2048 .bf16 :=
  shapeCast S1024x2048 (truncf .bf16 (shapeCast S1024x2048 x0 shapeCasts_S1024x2048_S1024x2048) Gen.bitsLt_bf16_f32) shapeCasts_S1024x2048_S1024x2048

/-- The forget logits' block: sixteen columns of products, then zeros. -/
def flOf (x0 : Vec F S1024x2048 .f32) (x2 : Vec F S16x2048 .bf16) : Vec F S1024x128 .f32 :=
  matmul dot_S1024x2048_S128x2048_S1024x128_1_1_0_0_n_n none (truncf .bf16 (shapeCast S1024x2048 x0 shapeCasts_S1024x2048_S1024x2048) Gen.bitsLt_bf16_f32)
    (concatenate S128x2048 0 [⟨S16x2048, shapeCast S16x2048 x2 shapeCasts_S16x2048_S16x2048⟩,
      ⟨S112x2048, broadcast S112x2048 (Scalar.ofBits .bf16 0x0000#16)⟩] concatenates_S16x2048_S112x2048_S128x2048_d0)
    (constant S1024x128 .f32 0x00000000#32)

/-- A block of the projection, times the scale of the queries where the block is of the queries. -/
def outOf (i : grid0.Coords) (xs : Vec F S1024x2048 .bf16) (x1 : Vec F S2048x2048 .bf16) : Vec F S1024x2048 .bf16 :=
  truncf .bf16 (mulf (matmul dot_S1024x2048_S2048x2048_S1024x2048_1_1_0_0_n_n none xs
      (shapeCast S2048x2048 x1 shapeCasts_S2048x2048_S2048x2048) (constant S1024x2048 .f32 0x00000000#32))
    (broadcast S1024x2048 (Scalar.select (Scalar.cmpi .slt (BitVec.ofNat 32 (i 1).val) 1#32)
      (Named.named κ "q_scale" 0x3E0293EE#32) (Scalar.ofBits .f32 0x3F800000#32)))) Gen.bitsLt_bf16_f32

set_option maxHeartbeats 1000000 in
theorem run_first (c : Dev nD) (i : grid0.Coords) (arg2 : Memref sig .tc .vmem S1024x2048 .f32) (harg2 : arg2.IsWhole)
    (arg3 : Memref sig .tc .vmem S2048x2048 .bf16) (harg3 : arg3.IsWhole) (arg4 : Memref sig .tc .vmem S16x2048 .bf16) (harg4 : arg4.IsWhole)
    (arg5 : Memref sig .tc .vmem S1024x2048 .bf16) (harg5 : arg5.IsWhole) (arg6 : Memref sig .tc .vmem S1024x128 .f32) (harg6 : arg6.IsWhole)
    (arg7 : Memref sig .tc .vmem S1024x2048 .bf16) (harg7 : arg7.IsWhole) (hc : cond i)
    (x0 : Vec F S1024x2048 .f32) (x1 : Vec F S2048x2048 .bf16) (x2 : Vec F S16x2048 .bf16)  (E : Set ℕ) (K : PUnit → sProp (Res F)) :
    iprop(owns (c : Thread nD τ) arg2 fullShare x0 ∗ owns (c : Thread nD τ) arg3 fullShare x1 ∗ owns (c : Thread nD τ) arg4 fullShare x2
      ∗ (∃ d, owns (c : Thread nD τ) arg5 fullShare d) ∗ (∃ d, owns (c : Thread nD τ) arg6 fullShare d) ∗ (∃ d, owns (c : Thread nD τ) arg7 fullShare d)
      ∗ (iprop(owns (c : Thread nD τ) arg2 fullShare x0 ∗ owns (c : Thread nD τ) arg3 fullShare x1 ∗ owns (c : Thread nD τ) arg4 fullShare x2
        ∗ owns (c : Thread nD τ) arg5 fullShare (outOf i (xb x0) x1) ∗ owns (c : Thread nD τ) arg6 fullShare (flOf x0 x2) ∗ owns (c : Thread nD τ) arg7 fullShare (xb x0)) -∗ K ⟨⟩))
    ⊢ wp frame (wpE (defs₀ (F := F)) Variants.none c none) E
        (cc0_fox_proj i arg2 harg2 arg3 harg3 arg4 harg4 arg5 harg5 arg6 harg6 arg7 harg7) K := by
  unfold cc0_fox_proj owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; unfold run_first.sl.v11 run_first.sl.v10 run_first.sl.v6 run_first.sl.v9 run_first.sl.v8 run_first.sl.v3 run_first.sl.v5 run_first.sl.cst run_first.sl.H5_1 run_first.sl.v18 run_first.sl.v15 run_first.sl.v14
    refine (read_stored _ _ hz2 _ _).trans ?_
    rw [View.readCov_unit_zero _ hz2, load_whole harg2 x0 hz2, load_whole harg3 x1 hz2]
    rfl
  isplitl [H4]
  · iexists _; isplitr
    swap; · iexact H4
    ipureintro; unfold run_first.sl.v23 run_first.sl.v15 run_first.sl.v22 run_first.sl.cst_15 run_first.sl.v14 run_first.sl.v20 run_first.sl.v21 run_first.sl.cst_14
    refine (read_stored _ _ hz2 _ _).trans ?_
    rw [load_whole harg2 x0 hz2, load_whole harg4 x2 hz2]
    rfl
  iexists _; isplitr
  swap; · iexact H5
  ipureintro; unfold run_first.sl.H5_1 run_first.sl.v18 run_first.sl.v15 run_first.sl.v14
  refine (read_stored _ _ hz2 _ _).trans ?_
  rw [load_whole harg2 x0 hz2]
  rfl

set_option maxHeartbeats 1000000 in
theorem run_next (c : Dev nD) (i : grid0.Coords) (arg2 : Memref sig .tc .vmem S1024x2048 .f32) (harg2 : arg2.IsWhole)
    (arg3 : Memref sig .tc .vmem S2048x2048 .bf16) (harg3 : arg3.IsWhole) (arg4 : Memref sig .tc .vmem S16x2048 .bf16) (harg4 : arg4.IsWhole)
    (arg5 : Memref sig .tc .vmem S1024x2048 .bf16) (harg5 : arg5.IsWhole) (arg6 : Memref sig .tc .vmem S1024x128 .f32) (harg6 : arg6.IsWhole)
    (arg7 : Memref sig .tc .vmem S1024x2048 .bf16) (harg7 : arg7.IsWhole) (hc : ¬cond i)
    (x0 : Vec F S1024x2048 .f32) (x1 : Vec F S2048x2048 .bf16) (x2 : Vec F S16x2048 .bf16) (x4 : Vec F S1024x128 .f32) (xs : Vec F S1024x2048 .bf16) (E : Set ℕ) (K : PUnit → sProp (Res F)) :
    iprop(owns (c : Thread nD τ) arg2 fullShare x0 ∗ owns (c : Thread nD τ) arg3 fullShare x1 ∗ owns (c : Thread nD τ) arg4 fullShare x2
      ∗ (∃ d, owns (c : Thread nD τ) arg5 fullShare d) ∗ owns (c : Thread nD τ) arg6 fullShare x4 ∗ owns (c : Thread nD τ) arg7 fullShare xs
      ∗ (iprop(owns (c : Thread nD τ) arg2 fullShare x0 ∗ owns (c : Thread nD τ) arg3 fullShare x1 ∗ owns (c : Thread nD τ) arg4 fullShare x2
        ∗ owns (c : Thread nD τ) arg5 fullShare (outOf i xs x1) ∗ owns (c : Thread nD τ) arg6 fullShare x4 ∗ owns (c : Thread nD τ) arg7 fullShare xs) -∗ K ⟨⟩))
    ⊢ wp frame (wpE (defs₀ (F := F)) Variants.none c none) E
        (cc0_fox_proj i arg2 harg2 arg3 harg3 arg4 harg4 arg5 harg5 arg6 harg6 arg7 harg7) K := by
  unfold cc0_fox_proj owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg2.eq_unread hf0; obtain rfl := harg3.eq_unread hf1; obtain rfl := harg4.eq_unread hf2; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; unfold run_next.sl.v11 run_next.sl.v10 run_next.sl.v6 run_next.sl.v9 run_next.sl.v8 run_next.sl.v5 run_next.sl.cst
    refine (read_stored _ _ hz2 _ _).trans ?_
    rw [load_whole harg7 xs hz2, load_whole harg3 x1 hz2]
    rfl
  isplitl [H4]
  · iexists _; isplitr; · ipureintro; exact hf4
    iexact H4
  iexists _; isplitr; · ipureintro; exact harg7.read_unread _
  iexact H5

/-! ## What the buffers hold, point by point -/

section Data

variable (m : (ℓ : Loc nD τ sig) → Buf (Elt F) ℓ) (ρ : Dev nD → PrngReg)

/-- The region invariant before position `n`: before the first point the scratch at anything; afterwards at the cast rows
    of the block of the point before. -/
def PhiS (c : Dev nD) : (n : ℕ) → n ≤ cfg0.N → sProp (Res F)
  | 0, _ => Pipeline.ΦA spec0 c
  | n + 1, hn => iprop(owns (c : Thread nD τ) scM fullShare (xb (iblk m c 0 ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM fullShare (xb (iblk m c 0 ⟨n, hn⟩)) ∗ (∃ r, prngReg c r)) := rfl

theorem PhiS_pos (c : Dev nD) (n : ℕ) (h : n ≤ cfg0.N) (hz : n ≠ 0) :
    PhiS m c n h = iprop(owns (c : Thread nD τ) scM fullShare (xb (iblk m c 0 ⟨n - 1, by omega⟩)) ∗ (∃ r, prngReg c r)) := by
  cases n with
  | zero => exact absurd rfl hz
  | succ n => rfl

theorem PhiA_eq (c : Dev nD) :
    (Pipeline.ΦA spec0 c : sProp (Res F)) = iprop((∃ d, owns (c : Thread nD τ) scM fullShare d) ∗ (∃ r, prngReg c r)) := by
  unfold Pipeline.ΦA; rw [scopedRest0_eq]; simp only [scM, owns_whole]; try rfl

/-- The proof data: the arrays as the region finds them; each input's buffer left at its block, the projection's at the
    point's product, the forget logits' at the row block's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => outOf (grid0.coords t) (xb (iblk m c 0 t)) (X0_1 m c t)
    | ⟨4, _⟩ => flOf (iblk m c 0 t) (iblk m c 2 t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outOf (grid0.coords t) (xb (iblk m c 0 t)) (X0_1 m c t) := by dsimp only [dats]
theorem after_4 (c : Dev nD) (t : Fin cfg0.N) : (dats m 0 c).after 4 t = flOf (iblk m c 0 t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- Off a row block's first point the rows are those of the point before. -/
theorem iblk_0_prev (c : Dev nD) (t : Fin cfg0.N) (h : ¬t.val % 4 = 0) :
    iblk m c 0 ⟨t.val - 1, Nat.lt_of_le_of_lt (Nat.sub_le _ _) t.isLt⟩ = iblk m c 0 t := by
  have h1 := (before_0 m c t (iblk m c 0 t))
  rw [(dats m 0 c).before_of_pos 0 t (by omega) (by
    rw [Bool.eq_false_iff]; exact fun hf => h ((fetch0_0 t).mp hf)), if_neg (by simp [Pipeline.Window.flush])] at h1
  rw [← h1]
  show _ = (dats m 0 c).kept 0 _ _
  unfold Pipeline.Dat.kept
  rw [Pipeline.fill_of_clip_none 0 _ (fun _ => rfl) _ ((dats m 0 c).after 0 _), Pipeline.Window.fill_cut, after_0]

theorem iblk_2_const (c : Dev nD) (t t' : Fin cfg0.N) : iblk m c 2 t = iblk m c 2 t' := rfl

theorem idle_4 (t : Fin cfg0.N) : cfg0.idle 4 (cfg0.grid.coords t) = !(k0_cond1 (grid0.coords t) == 1#1) := rfl

/-- Where the forget logits' buffer is carried, it holds the row block's logits. -/
theorem before_4 (c : Dev nD) : ∀ (n : ℕ) (t : Fin cfg0.N) (_ : t.val = n) (h : ¬t.val % 4 = 0) (d),
    (dats m 0 c).before 4 t d = (dats m 0 c).after 4 t
  | 0, t, ht, h, d => absurd (by rw [ht]) h
  | n + 1, t, ht, h, d => by
    rw [(dats m 0 c).before_of_pos 4 t (fun h0 => h (by rw [h0])) ((cfg0.win 4).fetch_out rfl t) d, if_neg (by
      rw [flush0_4]; show ¬(t.val - 1) % 4 = 3; clear * - ht h; revert ht h; generalize t.val = k; omega)]
    have hprev : (dats m 0 c).after 4 ⟨t.val - 1, Nat.lt_of_le_of_lt (Nat.sub_le _ _) t.isLt⟩ = (dats m 0 c).after 4 t := by
      rw [after_4, after_4, iblk_0_prev m c t h, iblk_2_const m c _ t]
    rw [← hprev]
    by_cases h' : (t.val - 1) % 4 = 0
    · have hi : cfg0.idle 4 (cfg0.grid.coords ⟨t.val - 1, Nat.lt_of_le_of_lt (Nat.sub_le _ _) t.isLt⟩) = false := by
        rw [idle_4, show k0_cond1 _ = 1#1 from (hcond _).mpr h']; rfl
      unfold Pipeline.Dat.left; rw [hi]
      show (dats m 0 c).kept 4 _ _ = _
      unfold Pipeline.Dat.kept
      rw [Pipeline.fill_of_clip_none 4 _ (fun _ => rfl) _ ((dats m 0 c).after 4 _), Pipeline.Window.fill_cut]
    · have hi : cfg0.idle 4 (cfg0.grid.coords ⟨t.val - 1, Nat.lt_of_le_of_lt (Nat.sub_le _ _) t.isLt⟩) = true := by
        rw [idle_4, Bool.not_eq_true', beq_eq_false_iff_ne]; exact fun h'' => h' ((hcond _).mp h'')
      unfold Pipeline.Dat.left; rw [hi]
      exact before_4 c n ⟨t.val - 1, Nat.lt_of_le_of_lt (Nat.sub_le _ _) t.isLt⟩ (by show t.val - 1 = n; rw [ht]; rfl) h' d

/-! ## The body obligation -/

/-- What the body is called with at point `t`, the windows one by one, -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1, after_2, after_3]
  rw [show (dats m 0 c).Φ t.succ = PhiS m c (t.val + 1) t.isLt from rfl, PhiS_succ]
  have hN : t.val < 64 := lt_of_lt_of_eq t.isLt (show cfg0.N = 64 from N_0)
  have hrun (S : sProp (Res F)) (hS : S ⊢ iprop((∃ d, owns (c : Thread nD τ) scM fullShare d) ∗ (∃ r, prngReg c r))) (h : cond (grid0.coords t)) :
      iprop(S ∗ (dats m 0 c).owesAt () t.castSucc
        ∗ (∃ d : (cfg0.win 0).block.Idx → Elt F (cfg0.win 0).elt, owns (c : Thread nD τ) (st0_0 t) fullShare (iblk m c 0 t))
        ∗ (∃ d : (cfg0.win 1).block.Idx → Elt F (cfg0.win 1).elt, owns (c : Thread nD τ) (st0_1 t) fullShare (X0_1 m c t))
        ∗ (∃ d : (cfg0.win 2).block.Idx → Elt F (cfg0.win 2).elt, owns (c : Thread nD τ) (st0_2 t) fullShare (iblk m c 2 t))
        ∗ (∃ d, owns (c : Thread nD τ) (st0_3 t) fullShare ((dats m 0 c).before 3 t d))
        ∗ (∃ d, owns (c : Thread nD τ) (st0_4 t) fullShare ((dats m 0 c).before 4 t d)))
      ⊢ wp frame (wpE (defs₀ (F := F)) Variants.none c none) Set.univ (bodyAt0 t) (fun _ =>
        iprop(iprop(owns (c : Thread nD τ) scM fullShare (xb (iblk m c 0 ⟨t.val, t.isLt⟩)) ∗ (∃ r, prngReg c r)) ∗ (dats m 0 c).owesAt () t.castSucc
          ∗ owns (c : Thread nD τ) (st0_0 t) fullShare (iblk m c 0 t)
          ∗ owns (c : Thread nD τ) (st0_1 t) fullShare (X0_1 m c t)
          ∗ owns (c : Thread nD τ) (st0_2 t) fullShare (iblk m c 2 t)
          ∗ owns (c : Thread nD τ) (st0_3 t) fullShare (outOf (grid0.coords t) (xb (iblk m c 0 t)) (X0_1 m c t))
          ∗ owns (c : Thread nD τ) (st0_4 t) fullShare ((dats m 0 c).after 4 t))) := by
    rw [after_4]
    iintro ⟨HS, Ho, ⟨%d0, H0⟩, ⟨%d1, H1⟩, ⟨%d2, H2⟩, ⟨%d3, H3⟩, ⟨%d4, H4⟩⟩
    ihave HS := hS $$ HS
    icases HS with ⟨HS, Hg⟩
    iapply (run_first c (grid0.coords t) _ _ _ _ _ _ _ _ _ _ _ _ h (iblk m c 0 t) (X0_1 m c t) (iblk m c 2 t) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  by_cases h : t.val % 4 = 0
  · rw [PhiS_castSucc m c t]
    refine hrun _ ?_ ((hcond t).mpr h)
    by_cases hz : t.val = 0
    · rw [PhiS_zero m c _ _ hz, PhiA_eq]
    · rw [PhiS_pos m c _ _ hz]
      iintro ⟨HS, Hg⟩
      isplitl [HS]; · iexists _; iexact HS
      iexact Hg
  · have hz : t.val ≠ 0 := fun h0 => h (by rw [h0])
    simp only [before_4 m c _ t rfl h]
    rw [after_4, PhiS_castSucc m c t, PhiS_pos m c _ _ hz, iblk_0_prev m c t h]
    iintro ⟨⟨HS, Hg⟩, Ho, ⟨%d0, H0⟩, ⟨%d1, H1⟩, ⟨%d2, H2⟩, ⟨%d3, H3⟩, ⟨%d4, H4⟩⟩
    iapply (run_next c (grid0.coords t) _ _ _ _ _ _ _ _ _ _ _ _ (fun h' => h ((hcond t).mp h')) (iblk m c 0 t) (X0_1 m c t) (iblk m c 2 t)
      (flOf (iblk m c 0 t) (iblk m c 2 t)) (xb (iblk m c 0 t)) Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- Where the body stores nothing into the forget logits' buffer and it is not written back, it keeps what it held. -/
theorem leaves_4 (c : Dev nD) (t : Fin cfg0.N) :
    (owns (c : Thread nD τ) (st0_4 t) fullShare ((dats m 0 c).after 4 t) : sProp (Res F)) ⊢
      match cfg0.idle 4 (cfg0.grid.coords t) with
      | true =>
        match (cfg0.win 4).flush t with
        | false => iprop(∃ d, owns (c : Thread nD τ) ((cfg0.win 4).stage (cfg0.slots t 4)) fullShare ((dats m 0 c).before 4 t d))
        | true => owns (c : Thread nD τ) ((cfg0.win 4).stage (cfg0.slots t 4)) fullShare ((dats m 0 c).after 4 t)
      | false => owns (c : Thread nD τ) ((cfg0.win 4).stage (cfg0.slots t 4)) fullShare ((dats m 0 c).after 4 t) := by
  by_cases h : t.val % 4 = 0
  · rw [idle_4, show k0_cond1 _ = 1#1 from (hcond t).mpr h]
    exact Idealize.SL.BI.Entails.refl _
  · rw [show cfg0.idle 4 (cfg0.grid.coords t) = true from by
      rw [idle_4, Bool.not_eq_true', beq_eq_false_iff_ne]; exact fun h'' => h ((hcond t).mp h'')]
    cases hf : (cfg0.win 4).flush t
    · simp only [before_4 m c _ t rfl h]
      iintro H
      iexists ((dats m 0 c).after 4 t)
      iexact H
    · exact Idealize.SL.BI.Entails.refl _

/-- The library's body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HP, Ho, H0, H1, H2, H3, H4⟩
  isplitl [HP]; · iexact HP
  isplitl [Ho]; · iexact Ho
  isplitl [H0]; · iexact H0
  isplitl [H1]; · iexact H1
  isplitl [H2]; · iexact H2
  isplitl [H3]; · iexact H3
  iapply (leaves_4 m c t)
  iexact H4

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back. -/
theorem hout (c : Dev nD) : (dats m 0 c).Φ (Fin.last cfg0.N) ⊢ Pipeline.ΦA spec0 c := by
  rw [show (dats m 0 c).Φ (Fin.last cfg0.N) = PhiS m c cfg0.N (le_refl _) from rfl,
    PhiS_pos m c _ _ (by rw [show cfg0.N = 64 from N_0]; decide), PhiA_eq]
  iintro ⟨HS, Hg⟩
  isplitl [HS]; · iexists _; iexact HS
  iexact Hg

/-! ## The run -/

set_option backward.isDefEq.respectTransparency.types false in
/-- Every fair execution ends with the arrays at what the proof data say, the later lines run, and the counters at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The call ends with its arguments as launched and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Data

end Cert.Kernel2Ideal.Hand

end
-- ==== Proof.InProjVal.lean ====
/-
  THE INPUT PROJECTION IN NUMBERS: the blocks the body leaves, the arrays the host operations prepare, and both results at an
  index as the product of the input's row with the weight's column.
-/
module
public import proofs.«01_k».proof.Proof.InProjIdeal
public import Idealize.ShloMosaic.Lib.MatmulPlain
public import Idealize.ShloMosaic.Lib.ValueIdx
public import Idealize.ShloMosaic.Lib.ValueLayout
public import Idealize.ShloMosaic.Lib.IdealHost
public import Idealize.ShloMosaic.Lib.StableHlo.RunRead
@[expose] public section
set_option maxRecDepth 16384

noncomputable section

namespace Cert.Kernel2Ideal.Hand

open Idealize.ShloMosaic
open Cert.Kernel2Ideal Cert.Kernel2Ideal.Gen Idealize.ShloMosaic.TcCoe Idealize.SL.Sem Idealize.ShloMosaic.ValueIdx
open Idealize.ShloMosaic.Pipeline (Dat)

/-! ## The body's blocks in numbers -/

/-- The factor on the queries' columns: one over the root of 128, over the logarithm of two. -/
def qk : EReal := (((Real.sqrt 128)⁻¹ * (Real.log 2)⁻¹ : ℝ) : EReal)

theorem qk_named : (Named.named κ "q_scale" (φ := .f32) 0x3E0293EE#32 : Ideal .f32) = qk :=
  IdealRules.named_const.ideal_named_scalar _ _ _ _ rfl

theorem zero32 (s : Shape) (i : s.Idx) : (constant (F := Ideal) s .f32 0x00000000#32) i = 0 := Ideal.ofBits_zero_f32

theorem xb_apply (x : Vec Ideal S1024x2048 .f32) (r : Fin 1024) (k : Fin 2048) : xb (F := Ideal) x (ix2 r k) = x (ix2 r k) := by
  unfold xb
  rw [shapeCast_self, shapeCast_self]
  rfl

/-- An entry of the wide output's block: the product of a row and a weight row, times the factor where the block is the first of its row. -/
theorem outOf_apply (i : grid0.Coords) (xs : Vec Ideal S1024x2048 .bf16) (w : Vec Ideal S2048x2048 .bf16) (r : Fin 1024) (q : Fin 2048) :
    outOf (F := Ideal) i xs w (ix2 r q) = (∑ k : Fin 2048, xs (ix2 r k) * w (ix2 q k)) * (if (i 1).val = 0 then qk else 1) := by
  unfold outOf
  rw [shapeCast_self]
  refine (congr (congrArg HMul.hMul ((Ideal.matmul_transposedRhs_apply (M := 1024) (K := 2048) (N := 2048) (φ₁ := .bf16) (φ₂ := .bf16) none xs w _ r q).trans ?_)) ?_ :
    FloatOps.matmul (F := Ideal) (φ₁ := .bf16) (φ₂ := .bf16) (DotDims.transposedRhs 1024 2048 2048) none xs w (constant S1024x2048 .f32 0x00000000#32) (ix2 r q)
      * Scalar.select (Scalar.cmpi .slt (BitVec.ofNat 32 (i 1).val) 1#32) (Named.named κ "q_scale" (φ := .f32) 0x3E0293EE#32 : Ideal .f32) (Scalar.ofBits .f32 0x3F800000#32) = _)
  · rw [zero32, zero_add]
  · have hi : (i 1).val < 4 := (i 1).isLt
    have h1 : (Scalar.ofBits .f32 0x3F800000#32 : Ideal .f32) = 1 := Ideal.ofBits_one_f32
    rw [qk_named, h1]
    have hc : Scalar.cmpi .slt (BitVec.ofNat 32 (i 1).val) 1#32 = if (i 1).val = 0 then 1#1 else 0#1 := by
      generalize (i 1).val = n at hi
      interval_cases n <;> rfl
    rw [hc]
    split <;> rfl

/-- An entry of the forget logits' block, in its first sixteen columns: the product of a row and a forget weight row. -/
theorem flOf_apply (x : Vec Ideal S1024x2048 .f32) (w : Vec Ideal S16x2048 .bf16) (r : Fin 1024) (h : Fin 16) :
    flOf (F := Ideal) x w (ix2 r (Fin.castLE (by decide) h : Fin 128)) = ∑ k : Fin 2048, x (ix2 r k) * w (ix2 h k) := by
  unfold flOf
  rw [shapeCast_self, shapeCast_self]
  refine (Ideal.matmul_transposedRhs_apply (M := 1024) (K := 2048) (N := 128) (φ₁ := .bf16) (φ₂ := .bf16) none _ _ _ r _).trans ?_
  rw [zero32, zero_add]
  refine Finset.sum_congr rfl fun k _ => congrArg (x (ix2 r k) * ·) ?_
  exact concatenate_pair_apply_left (t := S128x2048) (0 : Fin 2) _ _ concatenates_S16x2048_S112x2048_S128x2048_d0 (ix2 (Fin.castLE (by decide) h : Fin 128) k) rfl (ix2 h k) (fun b =>
    match b with
    | ⟨0, _⟩ => rfl
    | ⟨1, _⟩ => rfl)

/-! ## The arrays the host operations prepare -/

variable (m : (ℓ : Loc nD τ sig) → Buf (Elt Ideal) ℓ)

/-- The weight transposed and cast. -/
def castT (x : FVec Ideal S2048x8208 .f32) : FVec Ideal S8208x2048 .bf16 :=
  truncf .bf16 (transpose S8208x2048 [1, 0] x transposes_S2048x8208_S8208x2048_1_0) Gen.bitsLt_bf16_f32
/-- The input, its batches one after another. -/
def flatX (x : FVec Ideal S4x4096x2048 .f32) : FVec Ideal S16384x2048 .f32 := shapeCast S16384x2048 x shapeCasts_S4x4096x2048_S16384x2048

theorem V_v1 (c : Dev nD) : V (F := Ideal) m c main_v1 = castT (m ((c : Thread nD τ).loc main_arg1)) := by
  unfold_abbrev_sides
  after_reads_simp
  rfl
theorem V_v2 (c : Dev nD) : V (F := Ideal) m c main_v2 = flatX (m ((c : Thread nD τ).loc main_arg0)) := by
  unfold_abbrev_sides
  after_reads_simp
  rfl

theorem castT_apply (x : FVec Ideal S2048x8208 .f32) (n : Fin 8208) (k : Fin 2048) : castT x (ix2 n k) = x (ix2 k n) := by
  exact transpose_ix2_apply x transposes_S2048x8208_S8208x2048_1_0 n k

theorem flatX_apply (x : FVec Ideal S4x4096x2048 .f32) (b : Fin 4) (t : Fin 4096) (e : Fin 2048) (n : Fin 16384) (hn : n.val = b.val * 4096 + t.val) :
    flatX x (ix2 n e) = x (ix3 b t e) :=
  shapeCast_apply x shapeCasts_S4x4096x2048_S16384x2048 (ix2 n e) (ix3 b t e) (by
    rw [Shape.rowMajor_val_two, Shape.rowMajor_val_three]
    show (b.val * 4096 + t.val) * 2048 + e.val = n.val * 2048 + e.val
    rw [hn])

/-! ## The windows -/

theorem index_facts : ∀ t : Fin cfg0.N, win0_0.index t = ![t.val / 4, 0] ∧ win0_1.index t = ![t.val % 4, 0] ∧ win0_2.index t = ![512, 0]
    ∧ win0_3.index t = ![t.val / 4, t.val % 4] ∧ win0_4.index t = ![t.val / 4, 0] ∧ (grid0.coords t 1).val = t.val % 4 :=
  (by decide +kernel : ∀ t : Fin grid0.N, win0_0.index t = ![t.val / 4, 0] ∧ win0_1.index t = ![t.val % 4, 0] ∧ win0_2.index t = ![512, 0]
    ∧ win0_3.index t = ![t.val / 4, t.val % 4] ∧ win0_4.index t = ![t.val / 4, 0] ∧ (grid0.coords t 1).val = t.val % 4)

theorem iblk0 (c : Dev nD) (t : Fin cfg0.N) (r : Fin 1024) (k : Fin 2048) (n : Fin 16384) (hn : n.val = t.val / 4 * 1024 + r.val) :
    iblk (F := Ideal) m c 0 t (ix2 r k) = V (F := Ideal) m c main_v2 (ix2 n k) := by
  show V (F := Ideal) m c main_v2 ((win0_0.rect t).emb (ix2 r k)) = _
  congr 1
  funext a
  refine Fin.ext ?_
  show win0_0.index t a * S1024x2048.size a + 1 * (ix2 r k a).val = _
  rw [(index_facts t).1]
  match a with
  | ⟨0, _⟩ => show t.val / 4 * 1024 + 1 * r.val = n.val; omega
  | ⟨1, _⟩ => show 0 * 2048 + 1 * k.val = k.val; omega
theorem X1 (c : Dev nD) (t : Fin cfg0.N) (r : Fin 2048) (k : Fin 2048) (n : Fin 8208) (hn : n.val = t.val % 4 * 2048 + r.val) :
    X0_1 (F := Ideal) m c t (ix2 r k) = V (F := Ideal) m c main_v1 (ix2 n k) := by
  unfold X0_1 Pipeline.Window.fill
  rw [dif_pos (moved0_1 t _)]
  show V (F := Ideal) m c main_v1 ((win0_1.rect t).emb _) = _
  congr 1
  funext a
  refine Fin.ext ?_
  show win0_1.index t a * S2048x2048.size a + 1 * (ix2 r k a).val = _
  rw [(index_facts t).2.1]
  match a with
  | ⟨0, _⟩ => show t.val % 4 * 2048 + 1 * r.val = n.val; omega
  | ⟨1, _⟩ => show 0 * 2048 + 1 * k.val = k.val; omega
theorem iblk2 (c : Dev nD) (t : Fin cfg0.N) (h : Fin 16) (k : Fin 2048) (n : Fin 8208) (hn : n.val = 8192 + h.val) :
    iblk (F := Ideal) m c 2 t (ix2 h k) = V (F := Ideal) m c main_v1 (ix2 n k) := by
  show V (F := Ideal) m c main_v1 ((win0_2.rect t).emb (ix2 h k)) = _
  congr 1
  funext a
  refine Fin.ext ?_
  show win0_2.index t a * S16x2048.size a + 1 * (ix2 h k a).val = _
  rw [(index_facts t).2.2.1]
  match a with
  | ⟨0, _⟩ => show 512 * 16 + 1 * h.val = n.val; omega
  | ⟨1, _⟩ => show 0 * 2048 + 1 * k.val = k.val; omega

/-! ## The two arrays after the run -/

theorem idx_inj3 : ∀ t t' : Fin cfg0.N, win0_3.index t = win0_3.index t' → t = t' :=
  (by decide +kernel : ∀ t t' : Fin grid0.N, win0_3.index t = win0_3.index t' → t = t')
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)
theorem idx_inj4 : ∀ t t' : Fin cfg0.N, t.val % 4 = 3 → t'.val % 4 = 3 → win0_4.index t = win0_4.index t' → t = t' :=
  (by decide +kernel : ∀ t t' : Fin grid0.N, t.val % 4 = 3 → t'.val % 4 = 3 → win0_4.index t = win0_4.index t' → t = t')
theorem disjoint4 : ∀ t t' : Fin cfg0.N, (cfg0.win 4).flush t = true → (cfg0.win 4).flush t' = true → t ≠ t' →
    Disjoint ((cfg0.win 4).blk t).view.set ((cfg0.win 4).blk t').view.set :=
  fun t t' hf hf' hne => (cfg0.win 4).disjoint_blk fun h => hne (idx_inj4 t t' ((flush0_4 t).mp hf) ((flush0_4 t').mp hf') h)

/-- The product of an input row and a weight column. -/
def prod (x : FVec Ideal S4x4096x2048 .f32) (w : FVec Ideal S2048x8208 .f32) (b : Fin 4) (t : Fin 4096) (n : Fin 8208) : EReal :=
  ∑ k : Fin 2048, x (ix3 b t k) * w (ix2 k n)

theorem arr3_at (c : Dev nD) (b : Fin 4) (t : Fin 4096) (e : Fin 8192) (n : Fin 16384) (hn : n.val = b.val * 4096 + t.val) :
    (dats (F := Ideal) m 0 c).arrAt 3 cfg0.N (ix2 n e)
      = prod (m ((c : Thread nD τ).loc main_arg0)) (m ((c : Thread nD τ).loc main_arg1)) b t (Fin.castLE (by decide) e) * (if e.val < 2048 then qk else 1) := by
  obtain ⟨p, hp⟩ : ∃ p : Fin cfg0.N, p.val = n.val / 1024 * 4 + e.val / 2048 := ⟨⟨n.val / 1024 * 4 + e.val / 2048, by show _ < 64; omega⟩, rfl⟩
  obtain ⟨r, hr⟩ : ∃ r : Fin 1024, r.val = n.val % 1024 := ⟨⟨n.val % 1024, Nat.mod_lt _ (by decide)⟩, rfl⟩
  obtain ⟨q, hq⟩ : ∃ q : Fin 2048, q.val = e.val % 2048 := ⟨⟨e.val % 2048, Nat.mod_lt _ (by decide)⟩, rfl⟩
  have hp0 : p.val / 4 = n.val / 1024 := by omega
  have hp1 : p.val % 4 = e.val / 2048 := by omega
  have hb := congrFun ((dats (F := Ideal) m 0 c).read_blk_arrAt_eq_flushed 3 disjoint3 cfg0.N p p.isLt (flush0_3 p)) (ix2 r q)
  have he' : (win0_3.rect p).emb (ix2 r q) = (ix2 n e : S16384x8192.Idx) := by
    funext a
    refine Fin.ext ?_
    show win0_3.index p a * S1024x2048.size a + 1 * (ix2 r q a).val = _
    rw [(index_facts p).2.2.2.1]
    match a with
    | ⟨0, _⟩ => show p.val / 4 * 1024 + 1 * r.val = n.val; omega
    | ⟨1, _⟩ => show p.val % 4 * 2048 + 1 * q.val = e.val; omega
  have h1 : (dats (F := Ideal) m 0 c).arrAt 3 cfg0.N ((win0_3.rect p).emb (ix2 r q)) = (dats (F := Ideal) m 0 c).after 3 p (ix2 r q) := hb
  rw [he'] at h1
  rw [h1, after_3]
  refine (outOf_apply _ _ _ r q).trans (congr (congrArg HMul.hMul (Finset.sum_congr rfl fun k _ => ?_)) ?_)
  · rw [xb_apply, iblk0 m c p r k n (by omega), V_v2, flatX_apply _ b t k n hn, X1 m c p q k (Fin.castLE (by decide) e) (by show e.val = _; omega), V_v1, castT_apply]
  · rw [(index_facts p).2.2.2.2.2, hp1]
    by_cases h : e.val < 2048
    · rw [if_pos h, if_pos (by omega)]
    · rw [if_neg h, if_neg (by omega)]

theorem arr4_at (c : Dev nD) (b : Fin 4) (t : Fin 4096) (h : Fin 16) (n : Fin 16384) (hn : n.val = b.val * 4096 + t.val) :
    (dats (F := Ideal) m 0 c).arrAt 4 cfg0.N (ix2 n (Fin.castLE (by decide) h : Fin 128))
      = prod (m ((c : Thread nD τ).loc main_arg0)) (m ((c : Thread nD τ).loc main_arg1)) b t ⟨8192 + h.val, by omega⟩ := by
  obtain ⟨p, hp⟩ : ∃ p : Fin cfg0.N, p.val = n.val / 1024 * 4 + 3 := ⟨⟨n.val / 1024 * 4 + 3, by show _ < 64; omega⟩, rfl⟩
  obtain ⟨r, hr⟩ : ∃ r : Fin 1024, r.val = n.val % 1024 := ⟨⟨n.val % 1024, Nat.mod_lt _ (by decide)⟩, rfl⟩
  have hp0 : p.val / 4 = n.val / 1024 := by omega
  have hb := congrFun ((dats (F := Ideal) m 0 c).read_blk_arrAt_eq_flushed 4 disjoint4 cfg0.N p p.isLt ((flush0_4 p).mpr (by omega))) (ix2 r (Fin.castLE (by decide) h : Fin 128))
  have he' : (win0_4.rect p).emb (ix2 r (Fin.castLE (by decide) h : Fin 128)) = (ix2 n (Fin.castLE (by decide) h : Fin 128) : S16384x128.Idx) := by
    funext a
    refine Fin.ext ?_
    show win0_4.index p a * S1024x128.size a + 1 * (ix2 r (Fin.castLE (by decide) h : Fin 128) a).val = _
    rw [(index_facts p).2.2.2.2.1]
    match a with
    | ⟨0, _⟩ => show p.val / 4 * 1024 + 1 * r.val = n.val; omega
    | ⟨1, _⟩ => show 0 * 128 + 1 * h.val = h.val; omega
  have h1 : (dats (F := Ideal) m 0 c).arrAt 4 cfg0.N ((win0_4.rect p).emb (ix2 r (Fin.castLE (by decide) h : Fin 128)))
      = (dats (F := Ideal) m 0 c).after 4 p (ix2 r (Fin.castLE (by decide) h : Fin 128)) := hb
  rw [he'] at h1
  rw [h1, after_4]
  refine (flOf_apply _ _ r h).trans (Finset.sum_congr rfl fun k _ => ?_)
  rw [iblk0 m c p r k n (by omega), V_v2, flatX_apply _ b t k n hn, iblk2 m c p h k ⟨8192 + h.val, by omega⟩ rfl, V_v1, castT_apply]

/-! ## The host operations after the call -/

/-- The wide array as the result: its rows by batch. -/
def outX (x : FVec Ideal S16384x8192 .bf16) : FVec Ideal S4x4096x8192 .bf16 := shapeCast S4x4096x8192 x shapeCasts_S16384x8192_S4x4096x8192
/-- The logits' first sixteen columns, their rows by batch. -/
def outF (x : FVec Ideal S16384x128 .f32) : FVec Ideal S4x4096x16 .f32 :=
  shapeCast S4x4096x16 (extractStridedSlice S16384x16 ![0, 0] x slices_S16384x128_S16384x16_0_0) shapeCasts_S16384x16_S4x4096x16

theorem outX_apply (x : FVec Ideal S16384x8192 .bf16) (b : Fin 4) (t : Fin 4096) (e : Fin 8192) (n : Fin 16384) (hn : n.val = b.val * 4096 + t.val) :
    outX x (ix3 b t e) = x (ix2 n e) :=
  shapeCast_apply x shapeCasts_S16384x8192_S4x4096x8192 (ix3 b t e) (ix2 n e) (by
    rw [Shape.rowMajor_val_two, Shape.rowMajor_val_three]
    show n.val * 8192 + e.val = (b.val * 4096 + t.val) * 8192 + e.val
    rw [hn])
theorem outF_apply (x : FVec Ideal S16384x128 .f32) (b : Fin 4) (t : Fin 4096) (h : Fin 16) (n : Fin 16384) (hn : n.val = b.val * 4096 + t.val) :
    outF x (ix3 b t h) = x (ix2 n (Fin.castLE (by decide) h : Fin 128)) := by
  refine (shapeCast_apply _ shapeCasts_S16384x16_S4x4096x16 (ix3 b t h) (ix2 n h) (by
    rw [Shape.rowMajor_val_two, Shape.rowMajor_val_three]
    show n.val * 16 + h.val = (b.val * 4096 + t.val) * 16 + h.val
    rw [hn])).trans ?_
  exact extractStridedSlice_apply ![0, 0] x slices_S16384x128_S16384x16_0_0 (ix2 n h) (ix2 n (Fin.castLE (by decide) h : Fin 128)) (fun a => match a with
    | ⟨0, _⟩ => by show n.val = 0 + n.val; omega
    | ⟨1, _⟩ => by show h.val = 0 + h.val; omega)

theorem tail_v4 (c : Dev nD) : Pipeline.afterTail₀ cfgs (dats (F := Ideal) m) 0 (V0 m) [hostOps1] c main_v4
    = outX ((dats (F := Ideal) m 0 c).arrAt 3 cfg0.N) := by
  unfold Pipeline.afterTail₀
  have hw := Pipeline.Dat.withArrays_arrAt (dats (F := Ideal) m 0 c) sharedIn0 (V0 m c) (A_eq m c) 3
  after_reads_simp
  exact congrArg outX hw
theorem tail_v6 (c : Dev nD) : Pipeline.afterTail₀ cfgs (dats (F := Ideal) m) 0 (V0 m) [hostOps1] c main_v6
    = outF ((dats (F := Ideal) m 0 c).arrAt 4 cfg0.N) := by
  unfold Pipeline.afterTail₀
  have hw := Pipeline.Dat.withArrays_arrAt (dats (F := Ideal) m 0 c) sharedIn0 (V0 m c) (A_eq m c) 4
  after_reads_simp
  exact congrArg outF hw

/-- The run, its results named. -/
theorem run_values (ρ : Dev nD → PrngReg) : θ_run defs (onTc (τ := τ) (main (F := Ideal))) ⟨m, fun _ => 0, ρ⟩ (fun r => ∀ c : Dev nD,
      r.2.mem ((c.tc : Thread nD τ).loc main_v4) = outX ((dats (F := Ideal) m 0 c).arrAt 3 cfg0.N)
      ∧ r.2.mem ((c.tc : Thread nD τ).loc main_v6) = outF ((dats (F := Ideal) m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.2 c).2 main_v4 (Pipeline.mem_restRefs_of main_v4 (by decide) (by decide))).trans (tail_v4 m c),
      ((h.2 c).2 main_v6 (Pipeline.mem_restRefs_of main_v6 (by decide) (by decide))).trans (tail_v6 m c), h.1.1 c⟩)
    (θ_run_and (frame_all m ρ) (run_main m ρ))

end Cert.Kernel2Ideal.Hand

end
-- ==== Proof.InProjClaims.lean ====
/-
  THE INPUT PROJECTION'S CLAIMS: the frames, the named constant, and that the call and its reference end with equal results.
-/
module
public import proofs.«01_k».proof.Defs
public import proofs.«01_k».proof.Proof.InProj
public import proofs.«01_k».proof.Proof.InProjVal
public import proofs.«01_k».proof.Proof.Gen.Reference2Ideal.Read
public import Idealize.ShloMosaic.Lib.KernelVsHost
public import Idealize.ShloMosaic.Adequacy
public import Idealize.ShloMosaic.Init
@[expose] public section
set_option maxRecDepth 16384

noncomputable section

namespace Cert.Reference2Ideal.Hand

open Idealize.ShloMosaic
open Cert.Reference2Ideal Cert.Reference2Ideal.Gen Cert.Reference2Ideal.Read Idealize.ShloMosaic.TcCoe Idealize.SL.Sem Idealize.ShloMosaic.ValueIdx
open Cert.Kernel2Ideal.Hand (prod qk)

variable (x0 : (⟨S4x4096x2048, .f32⟩ : BufTy).Contents (Elt Ideal)) (x1 : (⟨S2048x8208, .f32⟩ : BufTy).Contents (Elt Ideal))

theorem bits_two : Ideal.ofBits .f32 0x40000000#32 = ((2 : ℝ) : EReal) := by
  simp [Ideal.ofBits, Ideal.ieee]
  rw [← EReal.coe_mul]
  norm_num
theorem bits_128 : Ideal.ofBits .f32 0x43000000#32 = ((128 : ℝ) : EReal) := by
  simp [Ideal.ofBits, Ideal.ieee]
  rw [← EReal.coe_mul]
  norm_num

/-- One over the logarithm of two. -/
theorem v9_at (i : S_.Idx) : val_main_v9 (F := Ideal) i = (((Real.log 2)⁻¹ : ℝ) : EReal) := by
  show Ideal.div (Ideal.ofBits .f32 0x3F800000#32) (Ideal.log (Ideal.ofBits .f32 0x40000000#32)) = _
  rw [bits_two, Ideal.ofBits_one_f32, show Ideal.log ((2 : ℝ) : EReal) = ((Real.log 2 : ℝ) : EReal) by
    show (if (2 : ℝ) ≤ 0 then (⊥ : EReal) else (Real.log 2 : EReal)) = _
    rw [if_neg (by norm_num)], Ideal.div_coe (Real.log_pos (by norm_num)).ne', one_mul, one_div]

/-- One over the root of 128. -/
theorem v7_at (i : S_.Idx) : val_main_v7 (F := Ideal) i = (((Real.sqrt 128)⁻¹ : ℝ) : EReal) := by
  show Ideal.div (Ideal.ofBits .f32 0x3F800000#32) (Ideal.sqrt (Ideal.ofBits .f32 0x43000000#32)) = _
  rw [bits_128, Ideal.ofBits_one_f32, show Ideal.sqrt ((128 : ℝ) : EReal) = ((Real.sqrt 128 : ℝ) : EReal) by
    show (if (128 : ℝ) < 0 then (⊥ : EReal) else (Real.sqrt 128 : EReal)) = _
    rw [if_neg (by norm_num)], Ideal.div_coe (Real.sqrt_pos.2 (by norm_num)).ne', one_mul, one_div]

theorem v11_at (i : S4x4096x2048.Idx) : val_main_v11 (F := Ideal) i = qk := by
  rw [val_main_v11_apply]
  show val_main_v7 (F := Ideal) _ * val_main_v9 (F := Ideal) _ = _
  rw [v7_at, v9_at, ← EReal.coe_mul]
  rfl

/-- The product at an index. -/
theorem v0_at (i : S4x4096x8208.Idx) (b : Fin 4) (t : Fin 4096) (n : Fin 8208) (h0 : (i 0).val = b.val) (h1 : (i 1).val = t.val) (h2 : (i 2).val = n.val) :
    val_main_v0 (F := Ideal) x0 x1 i = prod x0 x1 b t n := by
  rw [val_main_v0_apply]
  refine Finset.sum_congr rfl fun k _ => congr (congrArg HMul.hMul (congrArg x0 (funext fun a => Fin.ext ?_))) (congrArg x1 (funext fun a => Fin.ext ?_))
  · match a with
    | ⟨0, _⟩ => exact h0
    | ⟨1, _⟩ => exact h1
    | ⟨2, _⟩ => rfl
  · match a with
    | ⟨0, _⟩ => rfl
    | ⟨1, _⟩ => exact h2

theorem v5_at (b : Fin 4) (t : Fin 4096) (h : Fin 16) : val_main_v5 (F := Ideal) x0 x1 (ix3 b t h) = prod x0 x1 b t ⟨8192 + h.val, by omega⟩ := by
  rw [val_main_v5_apply]
  exact v0_at x0 x1 _ b t _ rfl rfl rfl

/-- The four pieces of the wide result. -/
def piece (q : Fin 4) : FVec Ideal S4x4096x2048 .f32 :=
  ![val_main_v12 (F := Ideal) x0 x1, val_main_v2 (F := Ideal) x0 x1, val_main_v3 (F := Ideal) x0 x1, val_main_v4 (F := Ideal) x0 x1] q

theorem v12_at (b : Fin 4) (t : Fin 4096) (r : Fin 2048) (n : Fin 8208) (hn : r.val = n.val) :
    val_main_v12 (F := Ideal) x0 x1 (ix3 b t r) = prod x0 x1 b t n * qk := by
  refine congr (congrArg HMul.hMul ?_) (v11_at _)
  show val_main_v1 (F := Ideal) x0 x1 (ix3 b t r) = _
  rw [val_main_v1_apply]
  exact v0_at x0 x1 _ b t n rfl rfl hn
theorem v2_at (b : Fin 4) (t : Fin 4096) (r : Fin 2048) (n : Fin 8208) (hn : 2048 + r.val = n.val) :
    val_main_v2 (F := Ideal) x0 x1 (ix3 b t r) = prod x0 x1 b t n := by
  rw [val_main_v2_apply]
  exact v0_at x0 x1 _ b t n rfl rfl hn
theorem v3_at (b : Fin 4) (t : Fin 4096) (r : Fin 2048) (n : Fin 8208) (hn : 4096 + r.val = n.val) :
    val_main_v3 (F := Ideal) x0 x1 (ix3 b t r) = prod x0 x1 b t n := by
  rw [val_main_v3_apply]
  exact v0_at x0 x1 _ b t n rfl rfl hn
theorem v4_at (b : Fin 4) (t : Fin 4096) (r : Fin 2048) (n : Fin 8208) (hn : 6144 + r.val = n.val) :
    val_main_v4 (F := Ideal) x0 x1 (ix3 b t r) = prod x0 x1 b t n := by
  rw [val_main_v4_apply]
  exact v0_at x0 x1 _ b t n rfl rfl hn

theorem piece_at (q : Fin 4) (b : Fin 4) (t : Fin 4096) (r : Fin 2048) (n : Fin 8208) (hn : n.val = q.val * 2048 + r.val) :
    piece x0 x1 q (ix3 b t r) = prod x0 x1 b t n * (if q.val = 0 then qk else 1) := by
  rcases (show q = 0 ∨ q = 1 ∨ q = 2 ∨ q = 3 by omega) with h | h | h | h
  · subst h
    rw [if_pos (show (0 : Fin 4).val = 0 from rfl)]
    exact v12_at x0 x1 b t r n (by rw [hn]; show r.val = 0 * 2048 + r.val; omega)
  · subst h
    rw [if_neg (show ¬ (1 : Fin 4).val = 0 by decide), mul_one]
    exact v2_at x0 x1 b t r n (by rw [hn]; rfl)
  · subst h
    rw [if_neg (show ¬ (2 : Fin 4).val = 0 by decide), mul_one]
    exact v3_at x0 x1 b t r n (by rw [hn]; rfl)
  · subst h
    rw [if_neg (show ¬ (3 : Fin 4).val = 0 by decide), mul_one]
    exact v4_at x0 x1 b t r n (by rw [hn]; rfl)

theorem v14_at (b : Fin 4) (t : Fin 4096) (e : Fin 8192) :
    val_main_v14 (F := Ideal) x0 x1 (ix3 b t e) = prod x0 x1 b t (Fin.castLE (by decide) e) * (if e.val < 2048 then qk else 1) := by
  show val_main_v13 (F := Ideal) x0 x1 (ix3 b t e) = _
  refine (concatenate_ofFn_apply (t := S4x4096x8192) (s₁ := S4x4096x2048) (2 : Fin 3) (N := 4) (piece x0 x1) concatenates_S4x4096x2048_S4x4096x2048_S4x4096x2048_S4x4096x2048_S4x4096x8192_d2 rfl 2048 rfl (ix3 b t e)
    ⟨e.val / 2048, by omega⟩ rfl (ix3 b t (⟨e.val % 2048, Nat.mod_lt _ (by decide)⟩ : Fin 2048)) rfl (fun a ha => ?_)).trans ?_
  · match a, ha with
    | ⟨0, _⟩, _ => rfl
    | ⟨1, _⟩, _ => rfl
    | ⟨2, _⟩, ha => exact absurd rfl ha
  · rw [piece_at x0 x1 _ b t _ (Fin.castLE (by decide) e) (by show e.val = e.val / 2048 * 2048 + e.val % 2048; omega)]
    refine congrArg _ ?_
    show (if e.val / 2048 = 0 then qk else 1) = _
    by_cases h : e.val < 2048
    · rw [if_pos h, if_pos (by omega)]
    · rw [if_neg h, if_neg (by omega)]

end Cert.Reference2Ideal.Hand

/-! ## The claims -/

namespace Cert.Proof.InProj

open Idealize.ShloMosaic
open Idealize.ShloMosaic.TcCoe Idealize.SL.Sem Idealize.ShloMosaic.ValueIdx

theorem frame_p : Cert.quiescent_Kernel2 := fun m ρ _ => Cert.Kernel2.Hand.frame_all m ρ
theorem frame_pi : Cert.quiescent_Kernel2Ideal := fun m ρ _ => Cert.Kernel2Ideal.Hand.frame_all m ρ
theorem frame_ri : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)
/-- The word written for the queries' factor is named, and its name's value is one over the root of 128, over the logarithm of two. -/
theorem preserves : Cert.preserves_Kernel2_Kernel2Ideal :=
  IdealRules.named_const.statement Cert.Kernel2Ideal.κ "q_scale" .f32 0x3E0293EE#32 (((Real.sqrt 128)⁻¹ * (Real.log 2)⁻¹ : ℝ) : EReal) rfl

theorem algebraic : Cert.algebraic_Kernel2Ideal_Reference2Ideal := by
  intro m ρ m' ρ' _ hagree
  refine ⟨_, _, Cert.Kernel2Ideal.Hand.run_values m ρ, ?_⟩
  refine (θ_run Cert.Reference2Ideal.defs _ _).mono (fun _ h c => ⟨(h c).1.trans ?_, (h c).2.1.trans ?_, (h c).2.2⟩) (Cert.Reference2Ideal.Value.run (F := Ideal) m' ρ')
  · refine (Cert.Reference2Ideal.Read.val_main_v14_eq (F := Ideal) _ _).trans ?_
    obtain ⟨e0, e1⟩ := hagree c
    rw [e0, e1]
    funext i
    have hi : (i : Cert.Reference2Ideal.S4x4096x8192.Idx) = ix3 (i 0) (i 1) (i 2) := eq_ix3 i
    have h0 : (i 0).val < 4 := (i 0).isLt
    have h1 : (i 1).val < 4096 := (i 1).isLt
    rw [hi]
    exact (Cert.Reference2Ideal.Hand.v14_at _ _ (i 0) (i 1) (i 2)).trans
      ((Cert.Kernel2Ideal.Hand.outX_apply _ (i 0) (i 1) (i 2) ⟨(i 0).val * 4096 + (i 1).val, by omega⟩ rfl).trans
        (Cert.Kernel2Ideal.Hand.arr3_at m c (i 0) (i 1) (i 2) ⟨(i 0).val * 4096 + (i 1).val, by omega⟩ rfl)).symm
  · refine (Cert.Reference2Ideal.Read.val_main_v5_eq (F := Ideal) _ _).trans ?_
    obtain ⟨e0, e1⟩ := hagree c
    rw [e0, e1]
    funext i
    have hi : (i : Cert.Reference2Ideal.S4x4096x16.Idx) = ix3 (i 0) (i 1) (i 2) := eq_ix3 i
    have h0 : (i 0).val < 4 := (i 0).isLt
    have h1 : (i 1).val < 4096 := (i 1).isLt
    rw [hi]
    exact (Cert.Reference2Ideal.Hand.v5_at _ _ (i 0) (i 1) (i 2)).trans
      ((Cert.Kernel2Ideal.Hand.outF_apply _ (i 0) (i 1) (i 2) ⟨(i 0).val * 4096 + (i 1).val, by omega⟩ rfl).trans
        (Cert.Kernel2Ideal.Hand.arr4_at m c (i 0) (i 1) (i 2) ⟨(i 0).val * 4096 + (i 1).val, by omega⟩ rfl)).symm

end Cert.Proof.InProj

end
-- ==== Proof.Rows.lean ====
/-
  ROWS: the layer norm of a row of 2048 numbers, as a function and as the kernels compute it of a block of rows; a product
  whose accumulator is zero; and a sum over 2048 numbers as four sums over 512.
-/
module
public import Idealize.ShloMosaic.Lib.MatmulPlain
public import Idealize.ShloMosaic.Lib.ValueLayout
public import Idealize.ShloMosaic.Lib.ValueLayoutCasts
public import Idealize.ShloMosaic.Lib.ValueIdx
public import Idealize.ShloMosaic.Lib.IdealHost
public import Idealize.ShloMosaic.Lib.Pipeline.Value
public import Idealize.ShloMosaic.Lib.Pipeline.FrameBody
@[expose] public section
set_option maxRecDepth 16384

noncomputable section

namespace Cert.Rows

open Idealize.ShloMosaic Idealize.ShloMosaic.TcCoe Idealize.SL.Sem Idealize.ShloMosaic.ValueIdx

/-! ## Numbers -/

/-- The residual's factor, the row's length, and the number added to the variance, as both programs write them. -/
def alpha : EReal := Ideal.ofBits .f32 0x3FB504F3#32
def len : EReal := Ideal.ofBits .f32 0x45000000#32
def eps : EReal := Ideal.ofBits .f32 0x3727C5AC#32

/-- The mean of a row. -/
def mean (r : Fin 2048 → EReal) : EReal := Ideal.div (∑ k, r k) len

/-- The layer norm of a row, with its gain and its bias. -/
def ln (r g b : Fin 2048 → EReal) (e : Fin 2048) : EReal :=
  (r e - mean r) * Ideal.rsqrt (mean (fun k => (r k - mean r) * (r k - mean r)) + eps) * g e + b e

/-- A sum over 2048 numbers, 512 at a time. -/
theorem sum_four {M : Type} [AddCommMonoid M] (f : Fin 2048 → M) :
    ∑ k, f k = ((∑ k : Fin 512, f ⟨0 + k.val, by omega⟩ + ∑ k : Fin 512, f ⟨512 + k.val, by omega⟩)
      + ∑ k : Fin 512, f ⟨1024 + k.val, by omega⟩) + ∑ k : Fin 512, f ⟨1536 + k.val, by omega⟩ := by
  rw [show (∑ k, f k) = _ from Fin.sum_univ_add (a := 1536) (b := 512) f,
    Fin.sum_univ_add (a := 1024) (b := 512) (fun k : Fin 1536 => f (Fin.castAdd 512 k)),
    Fin.sum_univ_add (a := 512) (b := 512) (fun k : Fin 1024 => f (Fin.castAdd 512 (Fin.castAdd 512 k)))]
  have h0 : ∀ k : Fin 512, f ⟨0 + k.val, by omega⟩ = f ⟨k.val, by omega⟩ := fun k => congrArg f (Fin.ext (Nat.zero_add _))
  simp only [h0]
  rfl

/-! ## Products and rows at an index -/

/-- A product whose accumulator is zero. -/
theorem plain_zero {M K N : Nat} {φ₁ φ₂ : FTy} (lhs : FVec Ideal ⟨2, ![M, K]⟩ φ₁) (rhs : FVec Ideal ⟨2, ![K, N]⟩ φ₂) (r : Fin M) (c : Fin N) :
    matmul (DotDims.plain M K N) none lhs rhs (constant ⟨2, ![M, N]⟩ .f32 0x00000000#32) (ix2 r c) = ∑ k : Fin K, lhs (ix2 r k) * rhs (ix2 k c) := by
  refine (Ideal.matmul_plain_apply none lhs rhs _ r c).trans ?_
  rw [constant_apply, Ideal.ofBits_zero_f32, zero_add]

/-- A row with one lane put in. -/
theorem lift1 {a b : Nat} (h : (⟨2, ![a, b]⟩ : Shape).Reduces [1] ⟨1, ![a]⟩) (t : Fin a) (k : Fin b) : h.lift (ix1 t) k = ix2 t k :=
  funext fun x => by
    match x with
    | ⟨0, _⟩ => rfl
    | ⟨1, _⟩ => rfl

/-- A column over every lane. -/
theorem col_apply {a b : Nat} (hb : b ≠ 1) (v : (⟨2, ![a, 1]⟩ : Shape).Idx → EReal) (h : (⟨2, ![a, 1]⟩ : Shape).Broadcasts ⟨2, ![a, b]⟩) (i : Fin a) (e : Fin b) :
    broadcastTo ⟨2, ![a, b]⟩ v h (ix2 i e) = v (ix2 i (0 : Fin 1)) :=
  broadcastTo_apply v h (ix2 i e) (ix2 i (0 : Fin 1)) fun x => by
    match x with
    | ⟨0, _⟩ =>
      show i.val = if a = 1 then 0 else i.val
      split
      · omega
      · rfl
    | ⟨1, _⟩ => rfl

section Canon

variable {Val : EltTy → Type} [∀ e, Nonempty (Val e)] {S : Shape} {e : EltTy}

/-- An index the last store reaches holds what it stored there, -/
theorem canon_hit {off size : Fin S.rank → Nat} (inb : ∀ a, off a + size a ≤ S.size a) (w : (⟨S.rank, size⟩ : Shape).Idx → Val e)
    (L : List (View.Piece Val S e)) (y : S.Idx) (x : (⟨S.rank, size⟩ : Shape).Idx) (h : ∀ a, (y a).val = off a + (x a).val) :
    View.canon ((⟨Rect.unit off size inb, w⟩ : View.Piece Val S e) :: L) y = w x := by
  have hy : y = (Rect.unit off size inb).emb x := funext fun a => Fin.ext (by
    rw [Rect.emb_apply]; show (y a).val = off a + 1 * (x a).val; rw [Nat.one_mul]; exact h a)
  rw [hy]; exact View.canon_cons_emb (Rect.unit off size inb) w L x

/-- and another what the earlier ones left. -/
theorem canon_miss {off size : Fin S.rank → Nat} (inb : ∀ a, off a + size a ≤ S.size a) (w : (⟨S.rank, size⟩ : Shape).Idx → Val e)
    (L : List (View.Piece Val S e)) (y : S.Idx) (a : Fin S.rank) (h : (y a).val < off a ∨ off a + size a ≤ (y a).val) :
    View.canon ((⟨Rect.unit off size inb, w⟩ : View.Piece Val S e) :: L) y = View.canon L y :=
  View.canon_cons_of_not_mem _ _ fun hm => by
    have := (Rect.mem_set_unit (inb := inb)).1 hm a
    omega

/-- A load reads what is stored at the index moved by its offsets. -/
theorem ld_at (X : S.Idx → Val e) {off size : Fin S.rank → Nat} (inb : ∀ a, off a + size a ≤ S.size a)
    (x : (⟨S.rank, size⟩ : Shape).Idx) (y : S.Idx) (h : ∀ a, (y a).val = off a + (x a).val) :
    View.ld X (Rect.unit off size inb) x = X y :=
  congrArg X (funext fun a => Fin.ext (by
    show off a + 1 * (x a).val = (y a).val; rw [Nat.one_mul]; exact (h a).symm))

end Canon

/-! ## The layer norm of a block of rows -/

section Norm

variable {R : Nat} (hr : (⟨2, ![R, 2048]⟩ : Shape).Reduces [1] ⟨1, ![R]⟩) (hs : (⟨1, ![R]⟩ : Shape).ShapeCasts ⟨2, ![R, 1]⟩)
  (hb : (⟨2, ![R, 1]⟩ : Shape).Broadcasts ⟨2, ![R, 2048]⟩) (hg : (⟨2, ![1, 2048]⟩ : Shape).Broadcasts ⟨2, ![R, 2048]⟩)

/-- The rows' means, in a column. -/
def meanV (x : FVec Ideal ⟨2, ![R, 2048]⟩ .f32) : FVec Ideal ⟨2, ![R, 1]⟩ .f32 :=
  divf (shapeCast ⟨2, ![R, 1]⟩ (multiReduction .add [1] ⟨1, ![R]⟩ x 0x00000000#32 hr (.inl rfl) rfl) hs) (broadcast ⟨2, ![R, 1]⟩ (Scalar.ofBits .f32 0x45000000#32))

theorem meanV_apply (x : FVec Ideal ⟨2, ![R, 2048]⟩ .f32) (i : Fin R) : meanV hr hs x (ix2 i (0 : Fin 1)) = mean (fun k => x (ix2 i k)) := by
  unfold meanV mean
  show Ideal.div (shapeCast ⟨2, ![R, 1]⟩ (multiReduction .add [1] ⟨1, ![R]⟩ x 0x00000000#32 hr (.inl rfl) rfl) hs (ix2 i (0 : Fin 1))) len = _
  rw [shapeCast_a_a1_apply]
  refine congrArg (Ideal.div · len) ((Ideal.multiReduction_add_single _ _ _ _ _ _).trans ?_)
  exact Finset.sum_congr rfl fun k _ => congrArg x (lift1 hr i k)

/-- The rows' layer norm. -/
def lnV (x : FVec Ideal ⟨2, ![R, 2048]⟩ .f32) (g b : FVec Ideal ⟨2, ![1, 2048]⟩ .f32) : FVec Ideal ⟨2, ![R, 2048]⟩ .f32 :=
  let d : FVec Ideal ⟨2, ![R, 2048]⟩ .f32 := subf x (broadcastTo ⟨2, ![R, 2048]⟩ (meanV hr hs x) hb)
  addf (mulf (mulf d (broadcastTo ⟨2, ![R, 2048]⟩ (rsqrt (addf (meanV hr hs (mulf d d)) (broadcast ⟨2, ![R, 1]⟩ (Scalar.ofBits .f32 0x3727C5AC#32)))) hb))
    (broadcastTo ⟨2, ![R, 2048]⟩ g hg)) (broadcastTo ⟨2, ![R, 2048]⟩ b hg)

theorem lnV_apply (x : FVec Ideal ⟨2, ![R, 2048]⟩ .f32) (g b : FVec Ideal ⟨2, ![1, 2048]⟩ .f32) (i : Fin R) (e : Fin 2048) :
    lnV hr hs hb hg x g b (ix2 i e) = ln (fun k => x (ix2 i k)) (fun k => g (ix2 (0 : Fin 1) k)) (fun k => b (ix2 (0 : Fin 1) k)) e := by
  have hd : ∀ k, (subf x (broadcastTo ⟨2, ![R, 2048]⟩ (meanV hr hs x) hb) : FVec Ideal ⟨2, ![R, 2048]⟩ .f32) (ix2 i k) = x (ix2 i k) - mean (fun k => x (ix2 i k)) := fun k => by
    show x (ix2 i k) - broadcastTo ⟨2, ![R, 2048]⟩ (meanV hr hs x) hb (ix2 i k) = _
    rw [col_apply (by decide), meanV_apply]
  unfold lnV ln
  generalize hD : (subf x (broadcastTo ⟨2, ![R, 2048]⟩ (meanV hr hs x) hb) : FVec Ideal ⟨2, ![R, 2048]⟩ .f32) = D at hd
  show D (ix2 i e) * broadcastTo ⟨2, ![R, 2048]⟩ (rsqrt (addf (meanV hr hs (mulf D D)) (broadcast ⟨2, ![R, 1]⟩ (Scalar.ofBits .f32 0x3727C5AC#32)))) hb (ix2 i e)
    * broadcastTo ⟨2, ![R, 2048]⟩ g hg (ix2 i e) + broadcastTo ⟨2, ![R, 2048]⟩ b hg (ix2 i e) = _
  rw [broadcastTo_1b_ab_apply, broadcastTo_1b_ab_apply, col_apply (by decide), hd]
  show (x (ix2 i e) - _) * Ideal.rsqrt (meanV hr hs (mulf D D) (ix2 i (0 : Fin 1)) + eps) * _ + _ = _
  rw [meanV_apply]
  have e2 : (fun k => (mulf D D : FVec Ideal ⟨2, ![R, 2048]⟩ .f32) (ix2 i k)) = fun k => (x (ix2 i k) - mean (fun k => x (ix2 i k))) * (x (ix2 i k) - mean (fun k => x (ix2 i k))) :=
    funext fun k => by
      show D (ix2 i k) * D (ix2 i k) = _
      rw [hd]
  rw [e2]

end Norm

end Cert.Rows

end
-- ==== Proof.Tail.lean ====
/-
  THE LAST CALL: the pooling mixer's grouped product, gate and output product, and the layer norm that gives the result. A
  row of the result in numbers, the block the body leaves, the arrays the host operations prepare, and the result.
-/
module
public import proofs.«01_k».proof.Proof.Rows
public import proofs.«01_k».proof.Proof.Gen.Kernel3Ideal.Value
public import Idealize.ShloMosaic.Lib.StableHlo.RunRead
@[expose] public section
set_option maxRecDepth 16384

noncomputable section

namespace Cert.Rows

open Idealize.ShloMosaic

/-- The gated value of column `c`: its group's product of the pooled row, the column's scale, and the gate. -/
def gated (d z : Fin 2048 → EReal) (wg : Fin 4 → Fin 512 → Fin 512 → EReal) (sc : Fin 2048 → EReal) (c : Fin 2048) : EReal :=
  (∑ k : Fin 512, d ⟨512 * (c.val / 512) + k.val, by omega⟩ * wg ⟨c.val / 512, by omega⟩ k ⟨c.val % 512, Nat.mod_lt _ (by decide)⟩) * sc c
    * (z c * Ideal.logistic (z c))

/-- A row of the result. -/
def tailRow (d z h : Fin 2048 → EReal) (wg : Fin 4 → Fin 512 → Fin 512 → EReal) (sc : Fin 2048 → EReal) (wo : Fin 2048 → Fin 2048 → EReal) (g b : Fin 2048 → EReal) :
    Fin 2048 → EReal :=
  ln (fun n => alpha * h n + ∑ c, gated d z wg sc c * wo c n) g b

end Cert.Rows

namespace Cert.Kernel3Ideal.Hand

open Idealize.ShloMosaic
open Cert.Kernel3Ideal Cert.Kernel3Ideal.Gen Cert.Rows Idealize.ShloMosaic.TcCoe Idealize.SL.Sem Idealize.ShloMosaic.ValueIdx
open Idealize.ShloMosaic.Pipeline (Dat)

/-! ## One group of 512 columns -/

/-- A group's part of the output product. -/
def part (d : Vec Ideal S256x512 .bf16) (w : Vec Ideal S1x512x512 .bf16) (sc : Vec Ideal S1x512 .f32) (z : Vec Ideal S256x512 .bf16) (wo : Vec Ideal S512x2048 .bf16) :
    FVec Ideal S256x2048 .f32 :=
  matmul (φ₁ := .bf16) (φ₂ := .bf16) (DotDims.plain 256 512 2048) none
    (truncf (φ := .f32) .bf16 (mulf (mulf (matmul (φ₁ := .bf16) (φ₂ := .bf16) (DotDims.plain 256 512 512) none d (shapeCast S512x512 w shapeCasts_S1x512x512_S512x512) (constant S256x512 .f32 0x00000000#32))
      (broadcastTo S256x512 sc broadcasts_S1x512_S256x512)) (mulf (extf (φ := .bf16) .f32 z bitsLt_bf16_f32) (logistic (extf (φ := .bf16) .f32 z bitsLt_bf16_f32)))) bitsLt_bf16_f32)
    wo (constant S256x2048 .f32 0x00000000#32)

theorem part_apply (d : Vec Ideal S256x512 .bf16) (w : Vec Ideal S1x512x512 .bf16) (sc : Vec Ideal S1x512 .f32) (z : Vec Ideal S256x512 .bf16) (wo : Vec Ideal S512x2048 .bf16)
    (D Z : Fin 2048 → EReal) (WG : Fin 4 → Fin 512 → Fin 512 → EReal) (SC : Fin 2048 → EReal) (WO : Fin 2048 → Fin 2048 → EReal) (q : Fin 4) (o : Nat) (ho : o = 512 * q.val) (i : Fin 256)
    (hd : ∀ k : Fin 512, d (ix2 i k) = D ⟨o + k.val, by omega⟩) (hz : ∀ k : Fin 512, z (ix2 i k) = Z ⟨o + k.val, by omega⟩)
    (hw : ∀ k c : Fin 512, w (ix3 (0 : Fin 1) k c) = WG q k c) (hs : ∀ k : Fin 512, sc (ix2 (0 : Fin 1) k) = SC ⟨o + k.val, by omega⟩)
    (hwo : ∀ (k : Fin 512) (n : Fin 2048), wo (ix2 k n) = WO ⟨o + k.val, by omega⟩ n) (n : Fin 2048) :
    part d w sc z wo (ix2 i n) = ∑ c : Fin 512, gated D Z WG SC ⟨o + c.val, by omega⟩ * WO ⟨o + c.val, by omega⟩ n := by
  subst ho
  refine (plain_zero (M := 256) (K := 512) (N := 2048) (φ₁ := .bf16) (φ₂ := .bf16) _ _ i n).trans (Finset.sum_congr rfl fun c _ => ?_)
  refine congr (congrArg HMul.hMul ?_) (hwo c n)
  show matmul (F := Ideal) (φ₁ := .bf16) (φ₂ := .bf16) (DotDims.plain 256 512 512) none d (shapeCast S512x512 w shapeCasts_S1x512x512_S512x512) (constant S256x512 .f32 0x00000000#32) (ix2 i c)
    * broadcastTo S256x512 sc broadcasts_S1x512_S256x512 (ix2 i c) * (z (ix2 i c) * Ideal.logistic (z (ix2 i c))) = _
  rw [broadcastTo_1b_ab_apply, hs, hz, plain_zero (M := 256) (K := 512) (N := 512) (φ₁ := .bf16) (φ₂ := .bf16)]
  unfold gated
  have e1 : (⟨(512 * q.val + c.val) / 512, by omega⟩ : Fin 4) = q := Fin.ext (by show (512 * q.val + c.val) / 512 = q.val; omega)
  have e2 : (⟨(512 * q.val + c.val) % 512, Nat.mod_lt _ (by decide)⟩ : Fin 512) = c := Fin.ext (by show (512 * q.val + c.val) % 512 = c.val; omega)
  refine congrArg (· * SC _ * _) (Finset.sum_congr rfl fun k _ => ?_)
  rw [shapeCast_1ab_ab_apply, hw, hd]
  refine congr (congrArg HMul.hMul (congrArg D (Fin.ext ?_))) ?_
  · show 512 * q.val + k.val = 512 * ((512 * q.val + c.val) / 512) + k.val
    omega
  · show WG q k c = WG ⟨(512 * q.val + c.val) / 512, _⟩ k ⟨(512 * q.val + c.val) % 512, _⟩
    rw [e1, e2]

/-! ## One tile of 256 rows, and the block of two -/

/-- A tile's rows. -/
def tile (p0 p1 p2 p3 : FVec Ideal S256x2048 .f32) (h : Vec Ideal S256x2048 .f32) (g b : Vec Ideal S1x2048 .f32) : FVec Ideal S256x2048 .f32 :=
  lnV reduces_S256x2048_S256 shapeCasts_S256_S256x1 broadcasts_S256x1_S256x2048 broadcasts_S1x2048_S256x2048
    (addf (mulf (broadcast S256x2048 (Scalar.ofBits .f32 0x3FB504F3#32)) (h : FVec Ideal S256x2048 .f32)) (addf (addf (addf p0 p1) p2) p3)) g b

theorem low_eq (d0 d1 d2 d3 z0 z1 z2 z3 : Vec Ideal S256x512 .bf16) (w0 w1 w2 w3 : Vec Ideal S1x512x512 .bf16) (s0 s1 s2 s3 : Vec Ideal S1x512 .f32) (o0 o1 o2 o3 : Vec Ideal S512x2048 .bf16)
    (h : Vec Ideal S256x2048 .f32) (g b : Vec Ideal S1x2048 .f32) :
    k0_pay1 (F := Ideal) (k0_pay16 g) (k0_pay17 b) (k0_pay18 (k0_pay8 (k0_pay5 (k0_pay3 d0 w0 s0 z0 o0) (k0_pay4 d1 w1 s1 z1) o1 d2 w2 s2 z2 o2) (k0_pay6 d3 w3 s3) (k0_pay7 z3) o3) h)
      = tile (part d0 w0 s0 z0 o0) (part d1 w1 s1 z1 o1) (part d2 w2 s2 z2 o2) (part d3 w3 s3 z3 o3) h g b := by
  unfold k0_pay1 k0_pay3 k0_pay4 k0_pay5 k0_pay6 k0_pay7 k0_pay8 k0_pay16 k0_pay17 k0_pay18 tile part lnV meanV
  simp only [shapeCast_self]
  rfl

theorem high_eq (d0 d1 d2 d3 z0 z1 z2 z3 : Vec Ideal S256x512 .bf16) (w0 w1 w2 w3 : Vec Ideal S1x512x512 .bf16) (s0 s1 s2 s3 : Vec Ideal S1x512 .f32) (o0 o1 o2 o3 : Vec Ideal S512x2048 .bf16)
    (h : Vec Ideal S256x2048 .f32) (g b : Vec Ideal S1x2048 .f32) :
    k0_pay2 (F := Ideal) (k0_pay15 (k0_pay12 (k0_pay9 d0 w0 s0 z0 o0) (k0_pay10 d1 w1) (k0_pay11 s1) z1 o1 d2 w2 s2 z2 o2) (k0_pay13 d3) (k0_pay14 w3) (constant S256x512 .f32 0x00000000#32) s3 z3 o3) h g b
      = tile (part d0 w0 s0 z0 o0) (part d1 w1 s1 z1 o1) (part d2 w2 s2 z2 o2) (part d3 w3 s3 z3 o3) h g b := by
  unfold k0_pay2 k0_pay9 k0_pay10 k0_pay11 k0_pay12 k0_pay13 k0_pay14 k0_pay15 tile part lnV meanV
  simp only [shapeCast_self]
  rfl

theorem out_eq (x0 x1 : Vec Ideal S512x2048 .bf16) (x2 : Vec Ideal S512x2048 .f32) (x3 : Vec Ideal S4x512x512 .bf16) (x4 : Vec Ideal S1x2048 .f32) (x5 : Vec Ideal S2048x2048 .bf16) (x6 x7 : Vec Ideal S1x2048 .f32) :
    out0_8 (F := Ideal) x0 x1 x2 x3 x4 x5 x6 x7 = View.canon [
      ⟨r0_22, tile (part (View.ld x0 r0_16) (View.ld x3 r0_1) (View.ld x4 r0_2) (View.ld x1 r0_16) (View.ld x5 r0_3)) (part (View.ld x0 r0_17) (View.ld x3 r0_5) (View.ld x4 r0_6) (View.ld x1 r0_17) (View.ld x5 r0_7))
        (part (View.ld x0 r0_18) (View.ld x3 r0_9) (View.ld x4 r0_10) (View.ld x1 r0_18) (View.ld x5 r0_11)) (part (View.ld x0 r0_19) (View.ld x3 r0_13) (View.ld x4 r0_14) (View.ld x1 r0_19) (View.ld x5 r0_15))
        (View.ld x2 r0_22) (View.ld x6 r0_21) (View.ld x7 r0_21)⟩,
      ⟨r0_20, tile (part (View.ld x0 r0_0) (View.ld x3 r0_1) (View.ld x4 r0_2) (View.ld x1 r0_0) (View.ld x5 r0_3)) (part (View.ld x0 r0_4) (View.ld x3 r0_5) (View.ld x4 r0_6) (View.ld x1 r0_4) (View.ld x5 r0_7))
        (part (View.ld x0 r0_8) (View.ld x3 r0_9) (View.ld x4 r0_10) (View.ld x1 r0_8) (View.ld x5 r0_11)) (part (View.ld x0 r0_12) (View.ld x3 r0_13) (View.ld x4 r0_14) (View.ld x1 r0_12) (View.ld x5 r0_15))
        (View.ld x2 r0_20) (View.ld x6 r0_21) (View.ld x7 r0_21)⟩] := by
  unfold out0_8
  rw [low_eq, high_eq]

section Tile

variable {x0 x1 : Vec Ideal S512x2048 .bf16} {x2 : Vec Ideal S512x2048 .f32} {x3 : Vec Ideal S4x512x512 .bf16} {x4 : Vec Ideal S1x2048 .f32} {x5 : Vec Ideal S2048x2048 .bf16} {x6 x7 : Vec Ideal S1x2048 .f32}

/-- The row of the result that the input blocks give for row `r`. -/
def row (x0 x1 : Vec Ideal S512x2048 .bf16) (x2 : Vec Ideal S512x2048 .f32) (x3 : Vec Ideal S4x512x512 .bf16) (x4 : Vec Ideal S1x2048 .f32) (x5 : Vec Ideal S2048x2048 .bf16) (x6 x7 : Vec Ideal S1x2048 .f32)
    (r : Fin 512) : Fin 2048 → EReal :=
  tailRow (fun c => x0 (ix2 r c)) (fun c => x1 (ix2 r c)) (fun c => x2 (ix2 r c)) (fun q k c => x3 (ix3 q k c)) (fun c => x4 (ix2 (0 : Fin 1) c)) (fun c n => x5 (ix2 c n))
    (fun c => x6 (ix2 (0 : Fin 1) c)) (fun c => x7 (ix2 (0 : Fin 1) c))

theorem tile_apply (P : Nat) (i : Fin 256) (r : Fin 512) (hr : r.val = P + i.val) (e : Fin 2048)
    (i0 : ∀ a, (![P, 0] : Fin 2 → Nat) a + S256x512.size a ≤ S512x2048.size a) (i1 : ∀ a, (![P, 512] : Fin 2 → Nat) a + S256x512.size a ≤ S512x2048.size a)
    (i2 : ∀ a, (![P, 1024] : Fin 2 → Nat) a + S256x512.size a ≤ S512x2048.size a) (i3 : ∀ a, (![P, 1536] : Fin 2 → Nat) a + S256x512.size a ≤ S512x2048.size a)
    (ih : ∀ a, (![P, 0] : Fin 2 → Nat) a + S256x2048.size a ≤ S512x2048.size a) :
    tile (part (View.ld x0 (Rect.unit (s := S512x2048) ![P, 0] S256x512.size i0)) (View.ld x3 r0_1) (View.ld x4 r0_2) (View.ld x1 (Rect.unit (s := S512x2048) ![P, 0] S256x512.size i0)) (View.ld x5 r0_3))
      (part (View.ld x0 (Rect.unit (s := S512x2048) ![P, 512] S256x512.size i1)) (View.ld x3 r0_5) (View.ld x4 r0_6) (View.ld x1 (Rect.unit (s := S512x2048) ![P, 512] S256x512.size i1)) (View.ld x5 r0_7))
      (part (View.ld x0 (Rect.unit (s := S512x2048) ![P, 1024] S256x512.size i2)) (View.ld x3 r0_9) (View.ld x4 r0_10) (View.ld x1 (Rect.unit (s := S512x2048) ![P, 1024] S256x512.size i2)) (View.ld x5 r0_11))
      (part (View.ld x0 (Rect.unit (s := S512x2048) ![P, 1536] S256x512.size i3)) (View.ld x3 r0_13) (View.ld x4 r0_14) (View.ld x1 (Rect.unit (s := S512x2048) ![P, 1536] S256x512.size i3)) (View.ld x5 r0_15))
      (View.ld x2 (Rect.unit (s := S512x2048) ![P, 0] S256x2048.size ih)) (View.ld x6 r0_21) (View.ld x7 r0_21) (ix2 i e)
    = row x0 x1 x2 x3 x4 x5 x6 x7 r e := by
  have hx : ∀ (o : Nat) (io : ∀ a, (![P, o] : Fin 2 → Nat) a + S256x512.size a ≤ S512x2048.size a) (X : Vec Ideal S512x2048 .bf16) (k : Fin 512) (hk : o + k.val < 2048),
      View.ld X (Rect.unit (s := S512x2048) ![P, o] S256x512.size io) (ix2 i k) = X (ix2 r ⟨o + k.val, hk⟩) := fun o io X k hk =>
    ld_at X _ (ix2 i k) _ fun a => by
      match a with
      | ⟨0, _⟩ => exact hr
      | ⟨1, _⟩ => rfl
  have hw : ∀ (q : Fin 4) (iq : ∀ a, (![q.val, 0, 0] : Fin 3 → Nat) a + S1x512x512.size a ≤ S4x512x512.size a) (k c : Fin 512),
      View.ld x3 (Rect.unit (s := S4x512x512) ![q.val, 0, 0] S1x512x512.size iq) (ix3 (0 : Fin 1) k c) = x3 (ix3 q k c) := fun q iq k c =>
    ld_at x3 _ (ix3 (0 : Fin 1) k c) _ fun a => by
      match a with
      | ⟨0, _⟩ => show q.val = q.val + 0; omega
      | ⟨1, _⟩ => show k.val = 0 + k.val; omega
      | ⟨2, _⟩ => show c.val = 0 + c.val; omega
  have hs : ∀ (o : Nat) (io : ∀ a, (![0, o] : Fin 2 → Nat) a + S1x512.size a ≤ S1x2048.size a) (k : Fin 512) (hk : o + k.val < 2048),
      View.ld x4 (Rect.unit (s := S1x2048) ![0, o] S1x512.size io) (ix2 (0 : Fin 1) k) = x4 (ix2 (0 : Fin 1) ⟨o + k.val, hk⟩) := fun o io k hk =>
    ld_at x4 _ (ix2 (0 : Fin 1) k) _ fun a => by
      match a with
      | ⟨0, _⟩ => rfl
      | ⟨1, _⟩ => rfl
  have ho : ∀ (o : Nat) (io : ∀ a, (![o, 0] : Fin 2 → Nat) a + S512x2048.size a ≤ S2048x2048.size a) (k : Fin 512) (n : Fin 2048) (hk : o + k.val < 2048),
      View.ld x5 (Rect.unit (s := S2048x2048) ![o, 0] S512x2048.size io) (ix2 k n) = x5 (ix2 ⟨o + k.val, hk⟩ n) := fun o io k n hk =>
    ld_at x5 _ (ix2 k n) _ fun a => by
      match a with
      | ⟨0, _⟩ => rfl
      | ⟨1, _⟩ => show n.val = 0 + n.val; omega
  have hh : ∀ k : Fin 2048, View.ld x2 (Rect.unit (s := S512x2048) ![P, 0] S256x2048.size ih) (ix2 i k) = x2 (ix2 r k) := fun k =>
    ld_at x2 _ (ix2 i k) _ fun a => by
      match a with
      | ⟨0, _⟩ => exact hr
      | ⟨1, _⟩ => show k.val = 0 + k.val; omega
  have hg : ∀ (X : Vec Ideal S1x2048 .f32) (k : Fin 2048), View.ld X r0_21 (ix2 (0 : Fin 1) k) = X (ix2 (0 : Fin 1) k) := fun X k =>
    ld_at X _ (ix2 (0 : Fin 1) k) _ fun a => by
      match a with
      | ⟨0, _⟩ => rfl
      | ⟨1, _⟩ => show k.val = 0 + k.val; omega
  unfold tile row tailRow
  refine (lnV_apply _ _ _ _ _ _ _ i e).trans ?_
  refine congrFun (congr (congr (congrArg ln (funext fun n => ?_)) (funext (hg x6))) (funext (hg x7))) e
  show alpha * View.ld x2 (Rect.unit (s := S512x2048) ![P, 0] S256x2048.size ih) (ix2 i n) + (((part _ _ _ _ _ (ix2 i n) + part _ _ _ _ _ (ix2 i n)) + part _ _ _ _ _ (ix2 i n)) + part _ _ _ _ _ (ix2 i n) : EReal) = _
  rw [hh, sum_four]
  refine congrArg (alpha * x2 (ix2 r n) + ·) (congr (congrArg HAdd.hAdd (congr (congrArg HAdd.hAdd (congr (congrArg HAdd.hAdd ?_) ?_)) ?_)) ?_)
  · exact part_apply _ _ _ _ _ (fun c => x0 (ix2 r c)) (fun c => x1 (ix2 r c)) (fun q k c => x3 (ix3 q k c)) (fun c => x4 (ix2 (0 : Fin 1) c)) (fun c n => x5 (ix2 c n)) 0 0 rfl i (fun k => hx 0 i0 x0 k _) (fun k => hx 0 i0 x1 k _) (hw 0 _) (fun k => hs 0 _ k _) (fun k n => ho 0 _ k n _) n
  · exact part_apply _ _ _ _ _ (fun c => x0 (ix2 r c)) (fun c => x1 (ix2 r c)) (fun q k c => x3 (ix3 q k c)) (fun c => x4 (ix2 (0 : Fin 1) c)) (fun c n => x5 (ix2 c n)) 1 512 rfl i (fun k => hx 512 i1 x0 k _) (fun k => hx 512 i1 x1 k _) (hw 1 _) (fun k => hs 512 _ k _) (fun k n => ho 512 _ k n _) n
  · exact part_apply _ _ _ _ _ (fun c => x0 (ix2 r c)) (fun c => x1 (ix2 r c)) (fun q k c => x3 (ix3 q k c)) (fun c => x4 (ix2 (0 : Fin 1) c)) (fun c n => x5 (ix2 c n)) 2 1024 rfl i (fun k => hx 1024 i2 x0 k _) (fun k => hx 1024 i2 x1 k _) (hw 2 _) (fun k => hs 1024 _ k _) (fun k n => ho 1024 _ k n _) n
  · exact part_apply _ _ _ _ _ (fun c => x0 (ix2 r c)) (fun c => x1 (ix2 r c)) (fun q k c => x3 (ix3 q k c)) (fun c => x4 (ix2 (0 : Fin 1) c)) (fun c n => x5 (ix2 c n)) 3 1536 rfl i (fun k => hx 1536 i3 x0 k _) (fun k => hx 1536 i3 x1 k _) (hw 3 _) (fun k => hs 1536 _ k _) (fun k n => ho 1536 _ k n _) n

theorem out_apply (r : Fin 512) (e : Fin 2048) : out0_8 (F := Ideal) x0 x1 x2 x3 x4 x5 x6 x7 (ix2 r e) = row x0 x1 x2 x3 x4 x5 x6 x7 r e := by
  rw [out_eq]
  by_cases h : 256 ≤ r.val
  · refine (canon_hit _ _ _ (ix2 r e) (ix2 (⟨r.val - 256, by omega⟩ : Fin 256) e) fun a => ?_).trans (tile_apply 256 ⟨r.val - 256, by omega⟩ r (by show r.val = 256 + (r.val - 256); omega) e _ _ _ _ _)
    match a with
    | ⟨0, _⟩ => show r.val = 256 + (r.val - 256); omega
    | ⟨1, _⟩ => show e.val = 0 + e.val; omega
  · refine (canon_miss _ _ _ (ix2 r e) 0 (.inl (by show r.val < 256; omega))).trans ?_
    refine (canon_hit _ _ _ (ix2 r e) (ix2 (⟨r.val, by omega⟩ : Fin 256) e) fun a => ?_).trans (tile_apply 0 ⟨r.val, by omega⟩ r (by show r.val = 0 + r.val; omega) e _ _ _ _ _)
    match a with
    | ⟨0, _⟩ => show r.val = 0 + r.val; omega
    | ⟨1, _⟩ => show e.val = 0 + e.val; omega

end Tile

/-! ## The host operations -/

variable (m : (ℓ : Loc nD τ sig) → Buf (Elt Ideal) ℓ)

/-- An array of rows, its batches one after another. -/
def flatV (x : FVec Ideal S4x4096x2048 .f32) : FVec Ideal S16384x2048 .bf16 := truncf .bf16 (shapeCast S16384x2048 x shapeCasts_S4x4096x2048_S16384x2048) bitsLt_bf16_f32
/-- The same without a cast. -/
def flatF (x : FVec Ideal S4x4096x2048 .f32) : FVec Ideal S16384x2048 .f32 := shapeCast S16384x2048 x shapeCasts_S4x4096x2048_S16384x2048
/-- A vector as a row. -/
def rowF (x : FVec Ideal S2048 .f32) : FVec Ideal S1x2048 .f32 := shapeCast S1x2048 x shapeCasts_S2048_S1x2048
def castG (x : FVec Ideal S4x512x512 .f32) : FVec Ideal S4x512x512 .bf16 := truncf .bf16 x bitsLt_bf16_f32
def castO (x : FVec Ideal S2048x2048 .f32) : FVec Ideal S2048x2048 .bf16 := truncf .bf16 x bitsLt_bf16_f32

theorem V_v0 (c : Dev nD) : V (F := Ideal) m c main_v0 = castG (m ((c : Thread nD τ).loc main_arg3)) := by
  unfold_abbrev_sides
  after_reads_simp
  rfl
theorem V_v1 (c : Dev nD) : V (F := Ideal) m c main_v1 = castO (m ((c : Thread nD τ).loc main_arg5)) := by
  unfold_abbrev_sides
  after_reads_simp
  rfl
theorem V_v3 (c : Dev nD) : V (F := Ideal) m c main_v3 = flatV (m ((c : Thread nD τ).loc main_arg0)) := by
  unfold_abbrev_sides
  after_reads_simp
  rfl
theorem V_v5 (c : Dev nD) : V (F := Ideal) m c main_v5 = flatV (m ((c : Thread nD τ).loc main_arg1)) := by
  unfold_abbrev_sides
  after_reads_simp
  rfl
theorem V_v6 (c : Dev nD) : V (F := Ideal) m c main_v6 = flatF (m ((c : Thread nD τ).loc main_arg2)) := by
  unfold_abbrev_sides
  after_reads_simp
  rfl
theorem V_v7 (c : Dev nD) : V (F := Ideal) m c main_v7 = rowF (m ((c : Thread nD τ).loc main_arg4)) := by
  unfold_abbrev_sides
  after_reads_simp
  rfl
theorem V_v8 (c : Dev nD) : V (F := Ideal) m c main_v8 = rowF (m ((c : Thread nD τ).loc main_arg6)) := by
  unfold_abbrev_sides
  after_reads_simp
  rfl
theorem V_v9 (c : Dev nD) : V (F := Ideal) m c main_v9 = rowF (m ((c : Thread nD τ).loc main_arg7)) := by
  unfold_abbrev_sides
  after_reads_simp
  rfl

theorem flatF_apply (x : FVec Ideal S4x4096x2048 .f32) (b : Fin 4) (t : Fin 4096) (e : Fin 2048) (n : Fin 16384) (hn : n.val = b.val * 4096 + t.val) :
    flatF x (ix2 n e) = x (ix3 b t e) :=
  shapeCast_apply x shapeCasts_S4x4096x2048_S16384x2048 (ix2 n e) (ix3 b t e) (by
    rw [Shape.rowMajor_val_two, Shape.rowMajor_val_three]
    show (b.val * 4096 + t.val) * 2048 + e.val = n.val * 2048 + e.val
    rw [hn])
theorem flatV_apply (x : FVec Ideal S4x4096x2048 .f32) (b : Fin 4) (t : Fin 4096) (e : Fin 2048) (n : Fin 16384) (hn : n.val = b.val * 4096 + t.val) :
    flatV x (ix2 n e) = x (ix3 b t e) := flatF_apply x b t e n hn
theorem rowF_apply (x : FVec Ideal S2048 .f32) (e : Fin 2048) : rowF x (ix2 (0 : Fin 1) e) = x (ix1 e) :=
  shapeCast_a_1a_apply x shapeCasts_S2048_S1x2048 0 e

/-! ## The windows -/

theorem index_facts : ∀ t : Fin cfg0.N, win0_0.index t = ![t.val, 0] ∧ win0_1.index t = ![t.val, 0] ∧ win0_2.index t = ![t.val, 0] ∧ win0_3.index t = ![0, 0, 0]
    ∧ win0_4.index t = ![0, 0] ∧ win0_5.index t = ![0, 0] ∧ win0_6.index t = ![0, 0] ∧ win0_7.index t = ![0, 0] ∧ win0_8.index t = ![t.val, 0] :=
  (by decide +kernel : ∀ t : Fin grid0.N, win0_0.index t = ![t.val, 0] ∧ win0_1.index t = ![t.val, 0] ∧ win0_2.index t = ![t.val, 0] ∧ win0_3.index t = ![0, 0, 0]
    ∧ win0_4.index t = ![0, 0] ∧ win0_5.index t = ![0, 0] ∧ win0_6.index t = ![0, 0] ∧ win0_7.index t = ![0, 0] ∧ win0_8.index t = ![t.val, 0])

theorem flush_facts : ∀ t : Fin cfg0.N, (cfg0.win 8).flush t = true := (by decide +kernel : ∀ t : Fin grid0.N, win0_8.flush t = true)

theorem iblk0 (c : Dev nD) (t : Fin cfg0.N) (r : Fin 512) (e : Fin 2048) (n : Fin 16384) (hn : n.val = t.val * 512 + r.val) :
    iblk (F := Ideal) m c 0 t (ix2 r e) = V (F := Ideal) m c main_v3 (ix2 n e) := by
  show V (F := Ideal) m c main_v3 ((win0_0.rect t).emb (ix2 r e)) = _
  congr 1
  funext a
  refine Fin.ext ?_
  show win0_0.index t a * S512x2048.size a + 1 * (ix2 r e a).val = _
  rw [(index_facts t).1]
  match a with
  | ⟨0, _⟩ => show t.val * 512 + 1 * r.val = n.val; omega
  | ⟨1, _⟩ => show 0 * 2048 + 1 * e.val = e.val; omega
theorem iblk1 (c : Dev nD) (t : Fin cfg0.N) (r : Fin 512) (e : Fin 2048) (n : Fin 16384) (hn : n.val = t.val * 512 + r.val) :
    iblk (F := Ideal) m c 1 t (ix2 r e) = V (F := Ideal) m c main_v5 (ix2 n e) := by
  show V (F := Ideal) m c main_v5 ((win0_1.rect t).emb (ix2 r e)) = _
  congr 1
  funext a
  refine Fin.ext ?_
  show win0_1.index t a * S512x2048.size a + 1 * (ix2 r e a).val = _
  rw [(index_facts t).2.1]
  match a with
  | ⟨0, _⟩ => show t.val * 512 + 1 * r.val = n.val; omega
  | ⟨1, _⟩ => show 0 * 2048 + 1 * e.val = e.val; omega
theorem iblk2 (c : Dev nD) (t : Fin cfg0.N) (r : Fin 512) (e : Fin 2048) (n : Fin 16384) (hn : n.val = t.val * 512 + r.val) :
    iblk (F := Ideal) m c 2 t (ix2 r e) = V (F := Ideal) m c main_v6 (ix2 n e) := by
  show V (F := Ideal) m c main_v6 ((win0_2.rect t).emb (ix2 r e)) = _
  congr 1
  funext a
  refine Fin.ext ?_
  show win0_2.index t a * S512x2048.size a + 1 * (ix2 r e a).val = _
  rw [(index_facts t).2.2.1]
  match a with
  | ⟨0, _⟩ => show t.val * 512 + 1 * r.val = n.val; omega
  | ⟨1, _⟩ => show 0 * 2048 + 1 * e.val = e.val; omega
theorem iblk3 (c : Dev nD) (t : Fin cfg0.N) (i : S4x512x512.Idx) : iblk (F := Ideal) m c 3 t i = V (F := Ideal) m c main_v0 i := by
  show V (F := Ideal) m c main_v0 ((win0_3.rect t).emb i) = _
  congr 1
  funext a
  refine Fin.ext ?_
  show win0_3.index t a * S4x512x512.size a + 1 * (i a).val = _
  rw [(index_facts t).2.2.2.1]
  match a with
  | ⟨0, _⟩ => show 0 * 4 + 1 * (i 0).val = (i 0).val; omega
  | ⟨1, _⟩ => show 0 * 512 + 1 * (i 1).val = (i 1).val; omega
  | ⟨2, _⟩ => show 0 * 512 + 1 * (i 2).val = (i 2).val; omega
theorem iblk4 (c : Dev nD) (t : Fin cfg0.N) (i : S1x2048.Idx) : iblk (F := Ideal) m c 4 t i = V (F := Ideal) m c main_v7 i := by
  show V (F := Ideal) m c main_v7 ((win0_4.rect t).emb i) = _
  congr 1
  funext a
  refine Fin.ext ?_
  show win0_4.index t a * S1x2048.size a + 1 * (i a).val = _
  rw [(index_facts t).2.2.2.2.1]
  match a with
  | ⟨0, _⟩ => show 0 * 1 + 1 * (i 0).val = (i 0).val; omega
  | ⟨1, _⟩ => show 0 * 2048 + 1 * (i 1).val = (i 1).val; omega
theorem iblk5 (c : Dev nD) (t : Fin cfg0.N) (i : S2048x2048.Idx) : iblk (F := Ideal) m c 5 t i = V (F := Ideal) m c main_v1 i := by
  show V (F := Ideal) m c main_v1 ((win0_5.rect t).emb i) = _
  congr 1
  funext a
  refine Fin.ext ?_
  show win0_5.index t a * S2048x2048.size a + 1 * (i a).val = _
  rw [(index_facts t).2.2.2.2.2.1]
  match a with
  | ⟨0, _⟩ => show 0 * 2048 + 1 * (i 0).val = (i 0).val; omega
  | ⟨1, _⟩ => show 0 * 2048 + 1 * (i 1).val = (i 1).val; omega
theorem iblk6 (c : Dev nD) (t : Fin cfg0.N) (i : S1x2048.Idx) : iblk (F := Ideal) m c 6 t i = V (F := Ideal) m c main_v8 i := by
  show V (F := Ideal) m c main_v8 ((win0_6.rect t).emb i) = _
  congr 1
  funext a
  refine Fin.ext ?_
  show win0_6.index t a * S1x2048.size a + 1 * (i a).val = _
  rw [(index_facts t).2.2.2.2.2.2.1]
  match a with
  | ⟨0, _⟩ => show 0 * 1 + 1 * (i 0).val = (i 0).val; omega
  | ⟨1, _⟩ => show 0 * 2048 + 1 * (i 1).val = (i 1).val; omega
theorem iblk7 (c : Dev nD) (t : Fin cfg0.N) (i : S1x2048.Idx) : iblk (F := Ideal) m c 7 t i = V (F := Ideal) m c main_v9 i := by
  show V (F := Ideal) m c main_v9 ((win0_7.rect t).emb i) = _
  congr 1
  funext a
  refine Fin.ext ?_
  show win0_7.index t a * S1x2048.size a + 1 * (i a).val = _
  rw [(index_facts t).2.2.2.2.2.2.2.1]
  match a with
  | ⟨0, _⟩ => show 0 * 1 + 1 * (i 0).val = (i 0).val; omega
  | ⟨1, _⟩ => show 0 * 2048 + 1 * (i 1).val = (i 1).val; omega

/-! ## The result -/

/-- The row of token `t` of batch `b`, from the arrays a memory holds as arguments. -/
def resRow (x0 x1 x2 : S4x4096x2048.Idx → EReal) (x3 : S4x512x512.Idx → EReal) (x4 : S2048.Idx → EReal) (x5 : S2048x2048.Idx → EReal) (x6 x7 : S2048.Idx → EReal)
    (b : Fin 4) (t : Fin 4096) : Fin 2048 → EReal :=
  tailRow (fun c => x0 (ix3 b t c)) (fun c => x1 (ix3 b t c)) (fun c => x2 (ix3 b t c)) (fun q k c => x3 (ix3 q k c)) (fun c => x4 (ix1 c)) (fun c n => x5 (ix2 c n))
    (fun c => x6 (ix1 c)) (fun c => x7 (ix1 c))

theorem row_eq (c : Dev nD) (p : Fin cfg0.N) (r : Fin 512) (b : Fin 4) (t : Fin 4096) (hp : b.val * 4096 + t.val = p.val * 512 + r.val) :
    row (iblk (F := Ideal) m c 0 p) (iblk (F := Ideal) m c 1 p) (iblk (F := Ideal) m c 2 p) (iblk (F := Ideal) m c 3 p) (iblk (F := Ideal) m c 4 p) (iblk (F := Ideal) m c 5 p) (iblk (F := Ideal) m c 6 p) (iblk (F := Ideal) m c 7 p) r
      = resRow (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) b t := by
  have hn : b.val * 4096 + t.val < 16384 := by omega
  unfold row resRow
  congr 1
  · funext k
    rw [iblk0 m c p r k ⟨_, hn⟩ hp, V_v3, flatV_apply _ b t k _ rfl]
  · funext k
    rw [iblk1 m c p r k ⟨_, hn⟩ hp, V_v5, flatV_apply _ b t k _ rfl]
  · funext k
    rw [iblk2 m c p r k ⟨_, hn⟩ hp, V_v6, flatF_apply _ b t k _ rfl]
  · funext q k l
    rw [iblk3, V_v0]; rfl
  · funext k
    rw [iblk4, V_v7, rowF_apply]
  · funext k n
    rw [iblk5, V_v1]; rfl
  · funext k
    rw [iblk6, V_v8, rowF_apply]
  · funext k
    rw [iblk7, V_v9, rowF_apply]

/-- The result of the call at an index. -/
theorem result_at (c : Dev nD) (b : Fin 4) (t : Fin 4096) (e : Fin 2048) (n : Fin 16384) (hn : n.val = b.val * 4096 + t.val) :
    (dats (F := Ideal) m 0 c).arrAt 8 cfg0.N (ix2 n e)
      = resRow (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) b t e := by
  obtain ⟨p, hp⟩ : ∃ p : Fin cfg0.N, p.val = n.val / 512 := ⟨⟨n.val / 512, by show _ < 32; omega⟩, rfl⟩
  obtain ⟨r, hr⟩ : ∃ r : Fin 512, r.val = n.val % 512 := ⟨⟨n.val % 512, Nat.mod_lt _ (by decide)⟩, rfl⟩
  have hb := congrFun (Value.blocks8 (F := Ideal) m c p (flush_facts _)) (ix2 r e)
  have he' : (win0_8.rect p).emb (ix2 r e) = (ix2 n e : S16384x2048.Idx) := by
    funext a
    refine Fin.ext ?_
    show win0_8.index p a * S512x2048.size a + 1 * (ix2 r e a).val = _
    rw [(index_facts p).2.2.2.2.2.2.2.2]
    match a with
    | ⟨0, _⟩ => show p.val * 512 + 1 * r.val = n.val; omega
    | ⟨1, _⟩ => show 0 * 2048 + 1 * e.val = e.val; omega
  have h1 : (dats (F := Ideal) m 0 c).arrAt 8 cfg0.N ((win0_8.rect p).emb (ix2 r e)) = (dats (F := Ideal) m 0 c).flushed 8 p (ix2 r e) := hb
  rw [he'] at h1
  rw [h1, Value.flushed8]
  refine (out_apply r e).trans ?_
  rw [row_eq m c p r b t (by omega)]

end Cert.Kernel3Ideal.Hand

end
-- ==== Proof.TailRef.lean ====
/-
  THE LAST CALL'S REFERENCE: its result at an index is the row the kernel computes, so both programs end with equal results.
-/
module
public import proofs.«01_k».proof.Defs
public import proofs.«01_k».proof.Proof.Tail
public import proofs.«01_k».proof.Proof.Gen.Reference3Ideal.Read
public import proofs.«01_k».proof.Proof.Gen.Kernel3.Frame
public import proofs.«01_k».proof.Proof.Gen.Kernel3Ideal.Frame
public import Idealize.ShloMosaic.Lib.KernelVsHost
public import Idealize.ShloMosaic.Adequacy
public import Idealize.ShloMosaic.Init
@[expose] public section
set_option maxRecDepth 16384

noncomputable section

namespace Cert.Reference3Ideal.Hand

open Idealize.ShloMosaic
open Cert.Reference3Ideal Cert.Reference3Ideal.Gen Cert.Reference3Ideal.Read Cert.Rows Idealize.ShloMosaic.TcCoe Idealize.SL.Sem Idealize.ShloMosaic.ValueIdx
open Cert.Kernel3Ideal.Hand (resRow)

variable (x0 x1 x2 : (⟨S4x4096x2048, .f32⟩ : BufTy).Contents (Elt Ideal)) (x3 : (⟨S4x512x512, .f32⟩ : BufTy).Contents (Elt Ideal)) (x4 : (⟨S2048, .f32⟩ : BufTy).Contents (Elt Ideal))
  (x5 : (⟨S2048x2048, .f32⟩ : BufTy).Contents (Elt Ideal)) (x6 x7 : (⟨S2048, .f32⟩ : BufTy).Contents (Elt Ideal))

/-! ## The gated values -/

theorem v3_at (b : Fin 4) (t : Fin 4096) (c : Fin 2048) :
    val_main_v3 (F := Ideal) x0 x3 (ix3 b t c)
      = ∑ k : Fin 512, x0 (ix3 b t ⟨512 * (c.val / 512) + k.val, by omega⟩) * x3 (ix3 ⟨c.val / 512, by omega⟩ k ⟨c.val % 512, Nat.mod_lt _ (by decide)⟩) := by
  rw [val_main_v3_apply, val_main_v2_apply, val_main_v1_apply]
  refine Finset.sum_congr rfl fun k _ => ?_
  rw [val_main_v0_apply, mul_comm]
  refine congr (congrArg HMul.hMul (congrArg x0 (funext fun a => Fin.ext ?_))) (congrArg x3 (funext fun a => Fin.ext ?_))
  · match a with
    | ⟨0, _⟩ =>
      show (((((b.val * 4096 + t.val) * 2048 + c.val) / 8388608 * 4096 + ((b.val * 4096 + t.val) * 2048 + c.val) / 2048 % 4096) * 4 + ((b.val * 4096 + t.val) * 2048 + c.val) / 512 % 4) * 512 + k.val) / 8388608 = b.val
      omega
    | ⟨1, _⟩ =>
      show (((((b.val * 4096 + t.val) * 2048 + c.val) / 8388608 * 4096 + ((b.val * 4096 + t.val) * 2048 + c.val) / 2048 % 4096) * 4 + ((b.val * 4096 + t.val) * 2048 + c.val) / 512 % 4) * 512 + k.val) / 2048 % 4096 = t.val
      omega
    | ⟨2, _⟩ =>
      show (((((b.val * 4096 + t.val) * 2048 + c.val) / 8388608 * 4096 + ((b.val * 4096 + t.val) * 2048 + c.val) / 2048 % 4096) * 4 + ((b.val * 4096 + t.val) * 2048 + c.val) / 512 % 4) * 512 + k.val) % 2048 = 512 * (c.val / 512) + k.val
      omega
  · match a with
    | ⟨0, _⟩ => show ((b.val * 4096 + t.val) * 2048 + c.val) / 512 % 4 = c.val / 512; omega
    | ⟨1, _⟩ => rfl
    | ⟨2, _⟩ => show ((b.val * 4096 + t.val) * 2048 + c.val) % 512 = c.val % 512; omega

theorem v5_at (b : Fin 4) (t : Fin 4096) (c : Fin 2048) : val_main_v5 (F := Ideal) x4 (ix3 b t c) = x4 (ix1 c) := by
  rw [val_main_v5_apply, val_main_v4_apply]
  exact congrArg x4 (funext fun a => by match a with | ⟨0, _⟩ => rfl)

theorem call0_at (i : S4x4096x2048.Idx) : val_main_call0_v5 (F := Ideal) x1 i = Ideal.logistic (x1 i) := by
  rw [val_main_call0_v5_apply, val_main_call0_v4_apply, val_main_call0_v3_apply, val_main_call0_v2_apply, val_main_call0_v1_apply, val_main_call0_v0_apply]
  show Ideal.div (Ideal.ofBits .f32 0x3F800000#32) (Ideal.ofBits .f32 0x3F800000#32 + Ideal.exp (-(x1 i))) = _
  rw [Ideal.ofBits_one_f32]
  rfl

theorem v8_at (b : Fin 4) (t : Fin 4096) (c : Fin 2048) :
    val_main_v8 (F := Ideal) x0 x1 x3 x4 (ix3 b t c) = gated (fun c => x0 (ix3 b t c)) (fun c => x1 (ix3 b t c)) (fun q k c => x3 (ix3 q k c)) (fun c => x4 (ix1 c)) c := by
  rw [val_main_v8_apply, val_main_v6_apply, val_main_v7_apply, v3_at, v5_at, call0_at]
  rfl

theorem v12_at (b : Fin 4) (t : Fin 4096) (n : Fin 2048) :
    val_main_v12 (F := Ideal) x0 x1 x2 x3 x4 x5 (ix3 b t n)
      = alpha * x2 (ix3 b t n) + ∑ c, gated (fun c => x0 (ix3 b t c)) (fun c => x1 (ix3 b t c)) (fun q k c => x3 (ix3 q k c)) (fun c => x4 (ix1 c)) c * x5 (ix2 c n) := by
  rw [val_main_v12_apply, val_main_v11_apply, val_main_v10_apply, val_main_v9_apply]
  refine congrArg (alpha * x2 (ix3 b t n) + ·) (Finset.sum_congr rfl fun c _ => ?_)
  rw [← v8_at]
  refine congr (congrArg HMul.hMul (congrArg (val_main_v8 (F := Ideal) x0 x1 x3 x4) (funext fun a => ?_))) (congrArg x5 (funext fun a => ?_))
  · match a with
    | ⟨0, _⟩ => rfl
    | ⟨1, _⟩ => rfl
    | ⟨2, _⟩ => rfl
  · match a with
    | ⟨0, _⟩ => rfl
    | ⟨1, _⟩ => rfl

/-! ## The layer norm -/

theorem v16_at (b : Fin 4) (t : Fin 4096) (i : S4x4096x1.Idx) (h0 : i 0 = b) (h1 : i 1 = t) :
    val_main_v16 (F := Ideal) x0 x1 x2 x3 x4 x5 i = mean (fun n => val_main_v12 (F := Ideal) x0 x1 x2 x3 x4 x5 (ix3 b t n)) := by
  rw [val_main_v16_apply, val_main_v14_apply, val_main_v13_apply, val_main_v15_apply]
  show Ideal.div (Ideal.ofBits .f32 0x00000000#32 + _) len = Ideal.div _ len
  rw [Ideal.ofBits_zero_f32, zero_add]
  refine congrArg (Ideal.div · len) (Finset.sum_congr rfl fun n _ => congrArg (val_main_v12 (F := Ideal) x0 x1 x2 x3 x4 x5) (funext fun a => ?_))
  match a with
  | ⟨0, _⟩ => exact h0
  | ⟨1, _⟩ => exact h1
  | ⟨2, _⟩ => rfl

theorem v18_at (b : Fin 4) (t : Fin 4096) (i : S4x4096x2048.Idx) (n : Fin 2048) (hi : i = ix3 b t n) :
    val_main_v18 (F := Ideal) x0 x1 x2 x3 x4 x5 i = val_main_v12 (F := Ideal) x0 x1 x2 x3 x4 x5 (ix3 b t n) - mean (fun n => val_main_v12 (F := Ideal) x0 x1 x2 x3 x4 x5 (ix3 b t n)) := by
  subst hi
  rw [val_main_v18_apply, val_main_v17_apply, v16_at x0 x1 x2 x3 x4 x5 b t _ rfl rfl]
  rfl

theorem v23_at (b : Fin 4) (t : Fin 4096) (i : S4x4096x1.Idx) (h0 : i 0 = b) (h1 : i 1 = t) :
    val_main_v23 (F := Ideal) x0 x1 x2 x3 x4 x5 i = mean (fun k => (val_main_v12 (F := Ideal) x0 x1 x2 x3 x4 x5 (ix3 b t k) - mean (fun n => val_main_v12 (F := Ideal) x0 x1 x2 x3 x4 x5 (ix3 b t n)))
      * (val_main_v12 (F := Ideal) x0 x1 x2 x3 x4 x5 (ix3 b t k) - mean (fun n => val_main_v12 (F := Ideal) x0 x1 x2 x3 x4 x5 (ix3 b t n)))) := by
  rw [val_main_v23_apply, val_main_v21_apply, val_main_v20_apply, val_main_v22_apply]
  show Ideal.div (Ideal.ofBits .f32 0x00000000#32 + _) len = Ideal.div _ len
  rw [Ideal.ofBits_zero_f32, zero_add]
  refine congrArg (Ideal.div · len) (Finset.sum_congr rfl fun n _ => ?_)
  rw [val_main_v19_apply, v18_at x0 x1 x2 x3 x4 x5 b t _ n (funext fun a => by
    match a with
    | ⟨0, _⟩ => exact h0
    | ⟨1, _⟩ => exact h1
    | ⟨2, _⟩ => rfl)]
  rfl

theorem v36_at (b : Fin 4) (t : Fin 4096) (e : Fin 2048) :
    val_main_v36 (F := Ideal) x0 x1 x2 x3 x4 x5 x6 x7 (ix3 b t e)
      = ln (fun n => val_main_v12 (F := Ideal) x0 x1 x2 x3 x4 x5 (ix3 b t n)) (fun c => x6 (ix1 c)) (fun c => x7 (ix1 c)) e := by
  rw [val_main_v36_apply, val_main_v33_apply, val_main_v30_apply, val_main_v25_apply, val_main_v24_apply, v16_at x0 x1 x2 x3 x4 x5 b t _ rfl rfl,
    val_main_v29_apply, val_main_v28_apply, val_main_v27_apply, v23_at x0 x1 x2 x3 x4 x5 b t _ rfl rfl, val_main_v26_apply, val_main_v32_apply, val_main_v31_apply,
    val_main_v35_apply, val_main_v34_apply]
  have hi : ∀ i : S2048.Idx, (i 0).val = e.val → i = ix1 e := fun i h => funext fun a => by match a with | ⟨0, _⟩ => exact Fin.ext h
  rw [hi (idx_main_v31 _) rfl, hi (idx_main_v34 _) rfl]
  rfl

/-- The result of the reference at an index. -/
theorem result_at (b : Fin 4) (t : Fin 4096) (e : Fin 2048) (n : Fin 16384) (hn : n.val = b.val * 4096 + t.val) :
    val_main_v37 (F := Ideal) x0 x1 x2 x3 x4 x5 x6 x7 (ix2 n e) = resRow x0 x1 x2 x3 x4 x5 x6 x7 b t e := by
  have hi : idx_main_v37 (ix2 n e) = ix3 b t e := funext fun a => Fin.ext (by
    match a with
    | ⟨0, _⟩ => show (n.val * 2048 + e.val) / 8388608 = b.val; omega
    | ⟨1, _⟩ => show (n.val * 2048 + e.val) / 2048 % 4096 = t.val; omega
    | ⟨2, _⟩ => show (n.val * 2048 + e.val) % 2048 = e.val; omega)
  rw [val_main_v37_apply, hi, v36_at]
  exact congrArg (fun r => ln r (fun c => x6 (ix1 c)) (fun c => x7 (ix1 c)) e) (funext fun n => v12_at x0 x1 x2 x3 x4 x5 b t n)

end Cert.Reference3Ideal.Hand

/-! ## The claims -/

namespace Cert.Proof.Tail

open Idealize.ShloMosaic
open Idealize.ShloMosaic.TcCoe Idealize.SL.Sem Idealize.ShloMosaic.ValueIdx

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)
theorem preserves : Cert.preserves_Kernel3_Kernel3Ideal := trivial

theorem algebraic : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨(h c).1.trans ?_, (h c).2⟩) (Cert.Reference3Ideal.Value.run (F := Ideal) m' ρ')
  refine (Cert.Reference3Ideal.Read.val_main_v37_eq (F := Ideal) m' c).trans ?_
  obtain ⟨e0, e1, e2, e3, e4, e5, e6, e7⟩ := hagree c
  rw [e0, e1, e2, e3, e4, e5, e6, e7]
  funext i
  have hi : (i : Cert.Reference3Ideal.S16384x2048.Idx) = ix2 (i 0) (i 1) := eq_ix2 i
  have h0 : (i 0).val < 16384 := (i 0).isLt
  have hn : (i 0).val = (⟨(i 0).val / 4096, by omega⟩ : Fin 4).val * 4096 + (⟨(i 0).val % 4096, Nat.mod_lt _ (by decide)⟩ : Fin 4096).val := by
    show (i 0).val = (i 0).val / 4096 * 4096 + (i 0).val % 4096
    omega
  rw [hi]
  exact (Cert.Reference3Ideal.Hand.result_at _ _ _ _ _ _ _ _ _ _ (i 1) (i 0) hn).trans (Cert.Kernel3Ideal.Hand.result_at m c _ _ (i 1) (i 0) hn).symm

end Cert.Proof.Tail

end
-- ==== Proof.Boundary.lean ====
/-
  THE CALL BETWEEN THE MIXERS, point by point: what a grid point leaves in its output blocks and in its two scratch buffers,
  as functions of the blocks it reads and of what the point before left.
-/
module
public import proofs.«01_k».proof.Proof.Rows
public import proofs.«01_k».proof.Proof.Gen.Kernel4Ideal.Value
public import Idealize.ShloMosaic.Lib.StableHlo.RunRead
@[expose] public section
set_option maxRecDepth 16384

noncomputable section

namespace Cert.Kernel4Ideal.Hand

open Idealize.ShloMosaic
open Cert.Kernel4Ideal Cert.Kernel4Ideal.Gen Cert.Rows Idealize.ShloMosaic.TcCoe Idealize.SL.Sem Idealize.ShloMosaic.ValueIdx
open Idealize.ShloMosaic.Pipeline (Dat)

/-! ## A point's values -/

/-- The product of a block of the attention's result, which the next point uses. -/
def yB (x0 : Vec Ideal S256x2048 .bf16) (x1 : Vec Ideal S2048x2048 .bf16) : Vec Ideal S256x2048 .f32 :=
  View.canon [⟨Rect.unit ![0, 0] ![256, 2048] inb_S256x2048_S256x2048_0_0,
    k0_pay11 (View.ld x0 (Rect.unit ![0, 0] ![256, 2048] inb_S256x2048_S256x2048_0_0)) (View.ld x1 (Rect.unit ![0, 0] ![2048, 2048] inb_S2048x2048_S2048x2048_0_0))⟩]

/-- The layer norm of a block of rows. -/
def hB (x2 y : Vec Ideal S256x2048 .f32) (x3 x4 : Vec Ideal S1x2048 .f32) : FVec Ideal S256x2048 .f32 :=
  k0_pay10 (k0_pay6 (View.ld x2 (Rect.unit ![0, 0] ![256, 2048] inb_S256x2048_S256x2048_0_0)) (View.ld y (Rect.unit ![0, 0] ![256, 2048] inb_S256x2048_S256x2048_0_0)))
    (k0_pay7 (View.ld x3 (Rect.unit ![0, 0] ![1, 2048] inb_S1x2048_S1x2048_0_0))) (k0_pay8 (View.ld x4 (Rect.unit ![0, 0] ![1, 2048] inb_S1x2048_S1x2048_0_0)))
    (k0_pay9 (View.ld x2 (Rect.unit ![0, 0] ![256, 2048] inb_S256x2048_S256x2048_0_0)) (View.ld y (Rect.unit ![0, 0] ![256, 2048] inb_S256x2048_S256x2048_0_0)))

/-- The left half of the input projection of a block of rows, -/
def uB (x2 y : Vec Ideal S256x2048 .f32) (x3 x4 : Vec Ideal S1x2048 .f32) (x5 : Vec Ideal S2048x4096 .bf16) : FVec Ideal S256x2048 .f32 :=
  k0_pay13 (k0_pay6 (View.ld x2 (Rect.unit ![0, 0] ![256, 2048] inb_S256x2048_S256x2048_0_0)) (View.ld y (Rect.unit ![0, 0] ![256, 2048] inb_S256x2048_S256x2048_0_0)))
    (k0_pay7 (View.ld x3 (Rect.unit ![0, 0] ![1, 2048] inb_S1x2048_S1x2048_0_0))) (k0_pay8 (View.ld x4 (Rect.unit ![0, 0] ![1, 2048] inb_S1x2048_S1x2048_0_0)))
    (k0_pay9 (View.ld x2 (Rect.unit ![0, 0] ![256, 2048] inb_S256x2048_S256x2048_0_0)) (View.ld y (Rect.unit ![0, 0] ![256, 2048] inb_S256x2048_S256x2048_0_0)))
    (View.ld x5 (Rect.unit ![0, 0] ![2048, 2048] inb_S2048x4096_S2048x2048_0_0))

/-- and the right half. -/
def zB (x2 y : Vec Ideal S256x2048 .f32) (x3 x4 : Vec Ideal S1x2048 .f32) (x5 : Vec Ideal S2048x4096 .bf16) : FVec Ideal S256x2048 .bf16 :=
  k0_pay15 (k0_pay12 (k0_pay6 (View.ld x2 (Rect.unit ![0, 0] ![256, 2048] inb_S256x2048_S256x2048_0_0)) (View.ld y (Rect.unit ![0, 0] ![256, 2048] inb_S256x2048_S256x2048_0_0)))
    (k0_pay7 (View.ld x3 (Rect.unit ![0, 0] ![1, 2048] inb_S1x2048_S1x2048_0_0))) (k0_pay8 (View.ld x4 (Rect.unit ![0, 0] ![1, 2048] inb_S1x2048_S1x2048_0_0)))
    (k0_pay9 (View.ld x2 (Rect.unit ![0, 0] ![256, 2048] inb_S256x2048_S256x2048_0_0)) (View.ld y (Rect.unit ![0, 0] ![256, 2048] inb_S256x2048_S256x2048_0_0))))
    (k0_pay14 (View.ld x5 (Rect.unit ![0, 2048] ![2048, 2048] inb_S2048x4096_S2048x2048_0_2048)))

/-- The window buffer: 16 rows from before the block, and the block's 256. -/
def extL (u : FVec Ideal S256x2048 .f32) (top : FVec Ideal S16x2048 .f32) : List (View.Piece (Elt Ideal) S272x2048 .f32) :=
  [⟨Rect.unit ![16, 0] ![256, 2048] inb_S272x2048_S256x2048_16_0, u⟩, ⟨Rect.unit ![0, 0] ![16, 2048] inb_S272x2048_S16x2048_0_0, top⟩]

/-- The pooled means of the block, a group of 512 columns at a time. -/
def dB (u : FVec Ideal S256x2048 .f32) (top : FVec Ideal S16x2048 .f32) : Vec Ideal S256x2048 .bf16 :=
  View.canon [
    ⟨Rect.unit ![0, 1536] ![256, 512] inb_S256x2048_S256x512_0_1536, k0_pay2 ((View.whole cc0_scratch0).readCov (extL u top) (Rect.unit ![0, 1536] ![272, 512] inb_S272x2048_S272x512_0_1536).toLoadRect)⟩,
    ⟨Rect.unit ![0, 1024] ![256, 512] inb_S256x2048_S256x512_0_1024, k0_pay1 ((View.whole cc0_scratch0).readCov (extL u top) (Rect.unit ![0, 1024] ![272, 512] inb_S272x2048_S272x512_0_1024).toLoadRect)
      (k0_pay18 ((View.whole cc0_scratch0).readCov (extL u top) (Rect.unit ![0, 1024] ![272, 512] inb_S272x2048_S272x512_0_1024).toLoadRect))⟩,
    ⟨Rect.unit ![0, 512] ![256, 512] inb_S256x2048_S256x512_0_512, k0_pay17 ((View.whole cc0_scratch0).readCov (extL u top) (Rect.unit ![0, 512] ![272, 512] inb_S272x2048_S272x512_0_512).toLoadRect)⟩,
    ⟨Rect.unit ![0, 0] ![256, 512] inb_S256x2048_S256x512_0_0, k0_pay16 ((View.whole cc0_scratch0).readCov (extL u top) (Rect.unit ![0, 0] ![272, 512] inb_S272x2048_S272x512_0_0).toLoadRect)⟩]

/-- A whole block stored at once. -/
def wholeF (x : FVec Ideal S256x2048 .f32) : Vec Ideal S256x2048 .f32 := View.canon [⟨Rect.unit ![0, 0] ![256, 2048] inb_S256x2048_S256x2048_0_0, x⟩]
def wholeB (x : FVec Ideal S256x2048 .bf16) : Vec Ideal S256x2048 .bf16 := View.canon [⟨Rect.unit ![0, 0] ![256, 2048] inb_S256x2048_S256x2048_0_0, x⟩]

variable (m : (ℓ : Loc nD τ sig) → Buf (Elt Ideal) ℓ)

/-! ## The first point -/

section A
variable (c : Dev nD) (t : Fin cfg0.N) (h0 : t.val % 65 = 0) (h1 : (t.val % 65 = 0 ∨ t.val % 65 = 1 ∨ t.val % 65 = 17 ∨ t.val % 65 = 33 ∨ t.val % 65 = 49))
  (h2 : ¬¬(t.val % 65 = 0 ∨ t.val % 65 = 1 ∨ t.val % 65 = 17 ∨ t.val % 65 = 33 ∨ t.val % 65 = 49))
include h0 h1 h2

set_option maxHeartbeats 4000000 in
theorem A_y : (outsAt0 m c t.val t.isLt).2.2.2.2 = yB (iblk m c 0 t) (iblk m c 1 t) := by
  rw [outsAt0_A m c t h0 h1 h2]
  dsimp only
  unfold sout0_A_1
  rw [View.read_writes_eq_canon _ _ _ (by apply scover0_A_1)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread]
  have hx : ∀ (i : S256x2048.Idx) (a : Fin S256x2048.rank), (i a).val = (![0, 0] : Fin 2 → Nat) a + (i a).val := fun i a => by
    match a with
    | ⟨0, _⟩ => exact (Nat.zero_add _).symm
    | ⟨1, _⟩ => exact (Nat.zero_add _).symm
  unfold yB
  funext i
  refine (canon_hit _ _ _ i i (hx i)).trans (Eq.symm ?_)
  exact canon_hit _ _ _ i i (hx i)

end A

/-! ## A point at the start of a sequence -/

section B
variable (c : Dev nD) (t : Fin cfg0.N) (h0 : ¬t.val % 65 = 0) (h1 : (t.val % 65 = 0 ∨ t.val % 65 = 1 ∨ t.val % 65 = 17 ∨ t.val % 65 = 33 ∨ t.val % 65 = 49))
  (h2 : ¬¬(t.val % 65 = 0 ∨ t.val % 65 = 1 ∨ t.val % 65 = 17 ∨ t.val % 65 = 33 ∨ t.val % 65 = 49))
include h0 h1 h2

set_option maxHeartbeats 4000000 in
theorem B_h : (outsAt0 m c t.val t.isLt).1 = wholeF (hB (iblk m c 2 t) (outsAt0 m c (t.val - 1) (lt_of_le_of_lt (Nat.sub_le _ _) t.isLt)).2.2.2.2 (iblk m c 3 t) (iblk m c 4 t)) := by
  rw [outsAt0_B m c t h0 h1 h2]
  dsimp only
  generalize (outsAt0 m c (t.val - 1) _) = p
  unfold out0_B_7
  rw [View.read_writes_eq_canon _ _ _ (by apply cover0_B_7)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread]
  rfl
set_option maxHeartbeats 4000000 in
theorem B_d : (outsAt0 m c t.val t.isLt).2.1 = dB (uB (iblk m c 2 t) (outsAt0 m c (t.val - 1) (lt_of_le_of_lt (Nat.sub_le _ _) t.isLt)).2.2.2.2 (iblk m c 3 t) (iblk m c 4 t) (iblk m c 5 t))
      (k0_pay4 (View.ld (iblk m c 6 t) (Rect.unit ![0, 0] ![16, 2048] inb_S16x2048_S16x2048_0_0))) := by
  rw [outsAt0_B m c t h0 h1 h2]
  dsimp only
  generalize (outsAt0 m c (t.val - 1) _) = p
  unfold out0_B_8
  rw [View.read_writes_eq_canon _ _ _ (by apply cover0_B_8)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread]
  rfl
set_option maxHeartbeats 4000000 in
theorem B_z : (outsAt0 m c t.val t.isLt).2.2.1 = wholeB (zB (iblk m c 2 t) (outsAt0 m c (t.val - 1) (lt_of_le_of_lt (Nat.sub_le _ _) t.isLt)).2.2.2.2 (iblk m c 3 t) (iblk m c 4 t) (iblk m c 5 t)) := by
  rw [outsAt0_B m c t h0 h1 h2]
  dsimp only
  generalize (outsAt0 m c (t.val - 1) _) = p
  unfold out0_B_9
  rw [View.read_writes_eq_canon _ _ _ (by apply cover0_B_9)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread]
  rfl
set_option maxHeartbeats 4000000 in
theorem B_ext : (outsAt0 m c t.val t.isLt).2.2.2.1 = View.canon (extL (uB (iblk m c 2 t) (outsAt0 m c (t.val - 1) (lt_of_le_of_lt (Nat.sub_le _ _) t.isLt)).2.2.2.2 (iblk m c 3 t) (iblk m c 4 t) (iblk m c 5 t))
      (k0_pay4 (View.ld (iblk m c 6 t) (Rect.unit ![0, 0] ![16, 2048] inb_S16x2048_S16x2048_0_0)))) := by
  rw [outsAt0_B m c t h0 h1 h2]
  dsimp only
  generalize (outsAt0 m c (t.val - 1) _) = p
  unfold sout0_B_0
  rw [View.read_writes_eq_canon _ _ _ (by apply scover0_B_0)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread]
  rfl
set_option maxHeartbeats 4000000 in
theorem B_y : (outsAt0 m c t.val t.isLt).2.2.2.2 = yB (iblk m c 0 t) (iblk m c 1 t) := by
  rw [outsAt0_B m c t h0 h1 h2]
  dsimp only
  generalize (outsAt0 m c (t.val - 1) _) = p
  unfold sout0_B_1
  rw [View.read_writes_eq_canon _ _ _ (by apply scover0_B_1)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread]
  rfl

end B

/-! ## Any other point -/

section C
variable (c : Dev nD) (t : Fin cfg0.N) (h0 : ¬t.val % 65 = 0) (h1 : ¬(t.val % 65 = 0 ∨ t.val % 65 = 1 ∨ t.val % 65 = 17 ∨ t.val % 65 = 33 ∨ t.val % 65 = 49))
  (h2 : ¬(t.val % 65 = 0 ∨ t.val % 65 = 1 ∨ t.val % 65 = 17 ∨ t.val % 65 = 33 ∨ t.val % 65 = 49))
include h0 h1 h2

set_option maxHeartbeats 4000000 in
theorem C_h : (outsAt0 m c t.val t.isLt).1 = wholeF (hB (iblk m c 2 t) (outsAt0 m c (t.val - 1) (lt_of_le_of_lt (Nat.sub_le _ _) t.isLt)).2.2.2.2 (iblk m c 3 t) (iblk m c 4 t)) := by
  rw [outsAt0_C m c t h0 h1 h2]
  dsimp only
  generalize (outsAt0 m c (t.val - 1) _) = p
  unfold out0_C_7
  rw [View.read_writes_eq_canon _ _ _ (by apply cover0_C_7)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread]
  rfl
set_option maxHeartbeats 4000000 in
theorem C_d : (outsAt0 m c t.val t.isLt).2.1 = dB (uB (iblk m c 2 t) (outsAt0 m c (t.val - 1) (lt_of_le_of_lt (Nat.sub_le _ _) t.isLt)).2.2.2.2 (iblk m c 3 t) (iblk m c 4 t) (iblk m c 5 t))
      (k0_pay5 (View.ld (outsAt0 m c (t.val - 1) (lt_of_le_of_lt (Nat.sub_le _ _) t.isLt)).2.2.2.1 (Rect.unit ![256, 0] ![16, 2048] inb_S272x2048_S16x2048_256_0))) := by
  rw [outsAt0_C m c t h0 h1 h2]
  dsimp only
  generalize (outsAt0 m c (t.val - 1) _) = p
  unfold out0_C_8
  rw [View.read_writes_eq_canon _ _ _ (by apply cover0_C_8)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread]
  rfl
set_option maxHeartbeats 4000000 in
theorem C_z : (outsAt0 m c t.val t.isLt).2.2.1 = wholeB (zB (iblk m c 2 t) (outsAt0 m c (t.val - 1) (lt_of_le_of_lt (Nat.sub_le _ _) t.isLt)).2.2.2.2 (iblk m c 3 t) (iblk m c 4 t) (iblk m c 5 t)) := by
  rw [outsAt0_C m c t h0 h1 h2]
  dsimp only
  generalize (outsAt0 m c (t.val - 1) _) = p
  unfold out0_C_9
  rw [View.read_writes_eq_canon _ _ _ (by apply cover0_C_9)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread]
  rfl
set_option maxHeartbeats 4000000 in
theorem C_ext : (outsAt0 m c t.val t.isLt).2.2.2.1 = View.canon (extL (uB (iblk m c 2 t) (outsAt0 m c (t.val - 1) (lt_of_le_of_lt (Nat.sub_le _ _) t.isLt)).2.2.2.2 (iblk m c 3 t) (iblk m c 4 t) (iblk m c 5 t))
      (k0_pay5 (View.ld (outsAt0 m c (t.val - 1) (lt_of_le_of_lt (Nat.sub_le _ _) t.isLt)).2.2.2.1 (Rect.unit ![256, 0] ![16, 2048] inb_S272x2048_S16x2048_256_0)))) := by
  rw [outsAt0_C m c t h0 h1 h2]
  dsimp only
  generalize (outsAt0 m c (t.val - 1) _) = p
  unfold sout0_C_0
  rw [View.read_writes_eq_canon _ _ _ (by apply scover0_C_0)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread]
  rfl
set_option maxHeartbeats 4000000 in
theorem C_y : (outsAt0 m c t.val t.isLt).2.2.2.2 = yB (iblk m c 0 t) (iblk m c 1 t) := by
  rw [outsAt0_C m c t h0 h1 h2]
  dsimp only
  generalize (outsAt0 m c (t.val - 1) _) = p
  unfold sout0_C_1
  rw [View.read_writes_eq_canon _ _ _ (by apply scover0_C_1)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread]
  rfl

end C

end Cert.Kernel4Ideal.Hand

end
-- ==== Proof.BoundaryAt.lean ====
/-
  THE CALL BETWEEN THE MIXERS, at an index: the numbers its three results hold, row by row, from the arrays the host
  operations prepare.
-/
module
public import proofs.«01_k».proof.Proof.Boundary
public import Idealize.ShloMosaic.Lib.KernelVsHost
@[expose] public section
set_option maxRecDepth 16384

noncomputable section

namespace Cert.Rows

open Idealize.ShloMosaic

/-- The length of the window of group `q`, and the factor that makes its sum a mean. -/
def wlen (q : Fin 4) : Nat := match q with
  | ⟨0, _⟩ => 2
  | ⟨1, _⟩ => 4
  | ⟨2, _⟩ => 8
  | ⟨3, _⟩ => 16
def winv (q : Fin 4) : EReal := match q with
  | ⟨0, _⟩ => Ideal.ofBits .f32 0x3F000000#32
  | ⟨1, _⟩ => Ideal.ofBits .f32 0x3E800000#32
  | ⟨2, _⟩ => Ideal.ofBits .f32 0x3E000000#32
  | ⟨3, _⟩ => Ideal.ofBits .f32 0x3D800000#32

/-- The group of a column. -/
def grp (e : Fin 2048) : Fin 4 := ⟨e.val / 512, by omega⟩

/-- The mean of the window that ends at row `j`, less the row itself. -/
def pooled (f : Nat → EReal) (q : Fin 4) (j : Nat) : EReal := (∑ s ∈ Finset.range (wlen q), f (j - s)) * winv q - f j

end Cert.Rows

namespace Cert.Kernel4Ideal.Hand

open Idealize.ShloMosaic
open Cert.Kernel4Ideal Cert.Kernel4Ideal.Gen Cert.Rows Idealize.ShloMosaic.TcCoe Idealize.SL.Sem Idealize.ShloMosaic.ValueIdx
open Idealize.ShloMosaic.Pipeline (Dat)

/-! ## Windows: sums of rows doubled by rolling -/

/-- A buffer added to itself rolled down `n` rows. -/
def dbl (n : BitVec 32) (x : FVec Ideal S272x512 .f32) : FVec Ideal S272x512 .f32 := addf x (dynamicRotate 0 n none x rotates_S272x512_d0)

/-- Rows that hold the sums of `n` rows, doubled, hold the sums of `n + n`, where the rolled row has not come round. -/
theorem dbl_apply (sb : BitVec 32) (n : Nat) (hsb : sb.toNat = n) (hn : n ≤ 8) (x : FVec Ideal S272x512 .f32) (f : Nat → EReal) (k : Fin 512)
    (hx : ∀ r : Fin 272, n ≤ r.val + 1 → x (ix2 r k) = ∑ s ∈ Finset.range n, f (r.val - s)) (r : Fin 272) (hr : n + n ≤ r.val + 1) :
    dbl sb x (ix2 r k) = ∑ s ∈ Finset.range (n + n), f (r.val - s) := by
  by_cases h0 : n = 0
  · subst h0
    have e : dynamicRotate 0 sb none x rotates_S272x512_d0 (ix2 r k) = x (ix2 r k) := dynamicRotate_apply 0 sb x rotates_S272x512_d0 (ix2 r k) (ix2 r k) fun b => by
      match b with
      | ⟨0, _⟩ =>
        show r.val = (r.val + 272 - sb.toNat % 272) % 272
        rw [hsb]; omega
      | ⟨1, _⟩ => rfl
    show x (ix2 r k) + dynamicRotate 0 sb none x rotates_S272x512_d0 (ix2 r k) = _
    rw [e, hx r (by omega)]
    simp
  have e : dynamicRotate 0 sb none x rotates_S272x512_d0 (ix2 r k) = x (ix2 (⟨r.val - n, by omega⟩ : Fin 272) k) :=
    dynamicRotate_apply 0 sb x rotates_S272x512_d0 (ix2 r k) (ix2 (⟨r.val - n, by omega⟩ : Fin 272) k) fun b => by
      match b with
      | ⟨0, _⟩ =>
        show r.val - n = (r.val + 272 - sb.toNat % 272) % 272
        rw [hsb]; omega
      | ⟨1, _⟩ => rfl
  show x (ix2 r k) + dynamicRotate 0 sb none x rotates_S272x512_d0 (ix2 r k) = _
  rw [e, hx r (by omega), hx _ (by show n ≤ r.val - n + 1; omega), Finset.sum_range_add]
  refine congrArg _ (Finset.sum_congr rfl fun s _ => ?_)
  show f (r.val - n - s) = f (r.val - (n + s))
  rw [Nat.sub_sub]

/-- The rows from the sixteenth on of sums scaled, less the rows themselves. -/
def poolV (w : BitVec 32) (T E : FVec Ideal S272x512 .f32) : FVec Ideal S256x512 .bf16 :=
  truncf .bf16 (subf (mulf (extractStridedSlice S256x512 ![16, 0] T slices_S272x512_o16_0_S256x512) (broadcast S256x512 (Scalar.ofBits .f32 w)))
    (extractStridedSlice S256x512 ![16, 0] E slices_S272x512_o16_0_S256x512)) bitsLt_bf16_f32

theorem cut_apply (T : FVec Ideal S272x512 .f32) (i : Fin 256) (k : Fin 512) :
    extractStridedSlice S256x512 ![16, 0] T slices_S272x512_o16_0_S256x512 (ix2 i k) = T (ix2 (⟨16 + i.val, by omega⟩ : Fin 272) k) :=
  extractStridedSlice_apply ![16, 0] T slices_S272x512_o16_0_S256x512 (ix2 i k) (ix2 (⟨16 + i.val, by omega⟩ : Fin 272) k) fun a => by
    match a with
    | ⟨0, _⟩ => rfl
    | ⟨1, _⟩ => show k.val = 0 + k.val; omega

theorem poolV_apply (w : BitVec 32) (T E : FVec Ideal S272x512 .f32) (i : Fin 256) (k : Fin 512) :
    poolV w T E (ix2 i k) = T (ix2 (⟨16 + i.val, by omega⟩ : Fin 272) k) * Ideal.ofBits .f32 w - E (ix2 (⟨16 + i.val, by omega⟩ : Fin 272) k) := by
  show extractStridedSlice S256x512 ![16, 0] T slices_S272x512_o16_0_S256x512 (ix2 i k) * Ideal.ofBits .f32 w - extractStridedSlice S256x512 ![16, 0] E slices_S272x512_o16_0_S256x512 (ix2 i k) = _
  rw [cut_apply, cut_apply]

theorem pay_2 (E : Vec Ideal S272x512 .f32) : k0_pay16 (F := Ideal) E = poolV 0x3F000000#32 (dbl 1#32 E) E := rfl
theorem pay_4 (E : Vec Ideal S272x512 .f32) : k0_pay17 (F := Ideal) E = poolV 0x3E800000#32 (dbl 2#32 (dbl 1#32 E)) E := rfl
theorem pay_8 (E : Vec Ideal S272x512 .f32) : k0_pay1 (F := Ideal) E (k0_pay18 E) = poolV 0x3E000000#32 (dbl 4#32 (dbl 2#32 (dbl 1#32 E))) E := rfl
theorem pay_16 (E : Vec Ideal S272x512 .f32) : k0_pay2 (F := Ideal) E = poolV 0x3D800000#32 (dbl 8#32 (dbl 4#32 (dbl 2#32 (dbl 1#32 E)))) E := rfl

section Win
variable (E : Vec Ideal S272x512 .f32) (f : Nat → EReal) (k : Fin 512) (hE : ∀ r : Fin 272, E (ix2 r k) = f r.val)
include hE

theorem sum1 (r : Fin 272) (_ : 1 ≤ r.val + 1) : E (ix2 r k) = ∑ s ∈ Finset.range 1, f (r.val - s) := by
  rw [Finset.sum_range_one, hE, Nat.sub_zero]
theorem sum2 (r : Fin 272) (h : 2 ≤ r.val + 1) : dbl 1#32 E (ix2 r k) = ∑ s ∈ Finset.range 2, f (r.val - s) := dbl_apply 1#32 1 rfl (by decide) E f k (sum1 E f k hE) r h
theorem sum4 (r : Fin 272) (h : 4 ≤ r.val + 1) : dbl 2#32 (dbl 1#32 E) (ix2 r k) = ∑ s ∈ Finset.range 4, f (r.val - s) := dbl_apply 2#32 2 rfl (by decide) _ f k (sum2 E f k hE) r h
theorem sum8 (r : Fin 272) (h : 8 ≤ r.val + 1) : dbl 4#32 (dbl 2#32 (dbl 1#32 E)) (ix2 r k) = ∑ s ∈ Finset.range 8, f (r.val - s) := dbl_apply 4#32 4 rfl (by decide) _ f k (sum4 E f k hE) r h
theorem sum16 (r : Fin 272) (h : 16 ≤ r.val + 1) : dbl 8#32 (dbl 4#32 (dbl 2#32 (dbl 1#32 E))) (ix2 r k) = ∑ s ∈ Finset.range 16, f (r.val - s) := dbl_apply 8#32 8 rfl (by decide) _ f k (sum8 E f k hE) r h

theorem pool_2 (i : Fin 256) : k0_pay16 (F := Ideal) E (ix2 i k) = pooled f 0 (16 + i.val) := by
  rw [pay_2, poolV_apply, sum2 E f k hE _ (by show 2 ≤ 16 + i.val + 1; omega), hE]; rfl
theorem pool_4 (i : Fin 256) : k0_pay17 (F := Ideal) E (ix2 i k) = pooled f 1 (16 + i.val) := by
  rw [pay_4, poolV_apply, sum4 E f k hE _ (by show 4 ≤ 16 + i.val + 1; omega), hE]; rfl
theorem pool_8 (i : Fin 256) : k0_pay1 (F := Ideal) E (k0_pay18 E) (ix2 i k) = pooled f 2 (16 + i.val) := by
  rw [pay_8, poolV_apply, sum8 E f k hE _ (by show 8 ≤ 16 + i.val + 1; omega), hE]; rfl
theorem pool_16 (i : Fin 256) : k0_pay2 (F := Ideal) E (ix2 i k) = pooled f 3 (16 + i.val) := by
  rw [pay_16, poolV_apply, sum16 E f k hE _ (by show 16 ≤ 16 + i.val + 1; omega), hE]; rfl

end Win

/-! ## The blocks at an index -/

/-- Column `e` of the window buffer. -/
def rowsOf (u : FVec Ideal S256x2048 .f32) (top : FVec Ideal S16x2048 .f32) (e : Fin 2048) (r : Nat) : EReal :=
  if h : r < 16 then top (ix2 (⟨r, h⟩ : Fin 16) e) else if h' : r < 272 then u (ix2 (⟨r - 16, by omega⟩ : Fin 256) e) else 0

theorem ext_apply (u : FVec Ideal S256x2048 .f32) (top : FVec Ideal S16x2048 .f32) (r : Fin 272) (e : Fin 2048) :
    View.canon (extL u top) (ix2 r e) = rowsOf u top e r.val := by
  unfold extL rowsOf
  by_cases h : r.val < 16
  · rw [dif_pos h]
    refine (canon_miss _ _ _ (ix2 r e) 0 (.inl h)).trans (canon_hit _ _ _ (ix2 r e) (ix2 (⟨r.val, h⟩ : Fin 16) e) fun a => ?_)
    match a with
    | ⟨0, _⟩ => show r.val = 0 + r.val; omega
    | ⟨1, _⟩ => show e.val = 0 + e.val; omega
  · rw [dif_neg h, dif_pos r.isLt]
    refine canon_hit _ _ _ (ix2 r e) (ix2 (⟨r.val - 16, by omega⟩ : Fin 256) e) fun a => ?_
    match a with
    | ⟨0, _⟩ => show r.val = 16 + (r.val - 16); omega
    | ⟨1, _⟩ => show e.val = 0 + e.val; omega

theorem load_apply (u : FVec Ideal S256x2048 .f32) (top : FVec Ideal S16x2048 .f32) (o : Nat) (inb : ∀ a, (![0, o] : Fin 2 → Nat) a + (![272, 512] : Fin 2 → Nat) a ≤ S272x2048.size a)
    (k : Fin 512) (e : Fin 2048) (he : e.val = o + k.val) (r : Fin 272) :
    (View.whole cc0_scratch0).readCov (extL u top) (Rect.unit (s := S272x2048) ![0, o] ![272, 512] inb).toLoadRect (ix2 r k) = rowsOf u top e r.val := by
  rw [View.readCov_eq_canon']
  refine Eq.trans (congrArg (View.canon (extL u top)) (funext fun a => Fin.ext ?_)) (ext_apply u top r e)
  match a with
  | ⟨0, _⟩ => show 0 + 1 * r.val = r.val; omega
  | ⟨1, _⟩ => show o + 1 * k.val = e.val; omega

theorem dB_apply (u : FVec Ideal S256x2048 .f32) (top : FVec Ideal S16x2048 .f32) (i : Fin 256) (e : Fin 2048) :
    dB u top (ix2 i e) = pooled (rowsOf u top e) (grp e) (16 + i.val) := by
  unfold dB
  by_cases h3 : 1536 ≤ e.val
  · have hk : e.val = 1536 + (⟨e.val - 1536, by omega⟩ : Fin 512).val := by show e.val = 1536 + (e.val - 1536); omega
    rw [show grp e = 3 from Fin.ext (by show e.val / 512 = 3; omega)]
    refine (canon_hit _ _ _ (ix2 i e) (ix2 i (⟨e.val - 1536, by omega⟩ : Fin 512)) fun a => ?_).trans (pool_16 _ _ _ (load_apply u top 1536 _ _ e hk) i)
    match a with
    | ⟨0, _⟩ => show i.val = 0 + i.val; omega
    | ⟨1, _⟩ => exact hk
  refine (canon_miss _ _ _ (ix2 i e) 1 (.inl (by show e.val < 1536; omega))).trans ?_
  by_cases h2 : 1024 ≤ e.val
  · have hk : e.val = 1024 + (⟨e.val - 1024, by omega⟩ : Fin 512).val := by show e.val = 1024 + (e.val - 1024); omega
    rw [show grp e = 2 from Fin.ext (by show e.val / 512 = 2; omega)]
    refine (canon_hit _ _ _ (ix2 i e) (ix2 i (⟨e.val - 1024, by omega⟩ : Fin 512)) fun a => ?_).trans (pool_8 _ _ _ (load_apply u top 1024 _ _ e hk) i)
    match a with
    | ⟨0, _⟩ => show i.val = 0 + i.val; omega
    | ⟨1, _⟩ => exact hk
  refine (canon_miss _ _ _ (ix2 i e) 1 (.inl (by show e.val < 1024; omega))).trans ?_
  by_cases h1 : 512 ≤ e.val
  · have hk : e.val = 512 + (⟨e.val - 512, by omega⟩ : Fin 512).val := by show e.val = 512 + (e.val - 512); omega
    rw [show grp e = 1 from Fin.ext (by show e.val / 512 = 1; omega)]
    refine (canon_hit _ _ _ (ix2 i e) (ix2 i (⟨e.val - 512, by omega⟩ : Fin 512)) fun a => ?_).trans (pool_4 _ _ _ (load_apply u top 512 _ _ e hk) i)
    match a with
    | ⟨0, _⟩ => show i.val = 0 + i.val; omega
    | ⟨1, _⟩ => exact hk
  refine (canon_miss _ _ _ (ix2 i e) 1 (.inl (by show e.val < 512; omega))).trans ?_
  have hk : e.val = 0 + (⟨e.val, by omega⟩ : Fin 512).val := by show e.val = 0 + e.val; omega
  rw [show grp e = 0 from Fin.ext (by show e.val / 512 = 0; omega)]
  refine (canon_hit _ _ _ (ix2 i e) (ix2 i (⟨e.val, by omega⟩ : Fin 512)) fun a => ?_).trans (pool_2 _ _ _ (load_apply u top 0 _ _ e hk) i)
  match a with
  | ⟨0, _⟩ => show i.val = 0 + i.val; omega
  | ⟨1, _⟩ => exact hk

theorem wholeF_apply (x : FVec Ideal S256x2048 .f32) (i : Fin 256) (e : Fin 2048) : wholeF x (ix2 i e) = x (ix2 i e) :=
  canon_hit _ _ _ (ix2 i e) (ix2 i e) fun a => by
    match a with
    | ⟨0, _⟩ => show i.val = 0 + i.val; omega
    | ⟨1, _⟩ => show e.val = 0 + e.val; omega
theorem wholeB_apply (x : FVec Ideal S256x2048 .bf16) (i : Fin 256) (e : Fin 2048) : wholeB x (ix2 i e) = x (ix2 i e) :=
  canon_hit _ _ _ (ix2 i e) (ix2 i e) fun a => by
    match a with
    | ⟨0, _⟩ => show i.val = 0 + i.val; omega
    | ⟨1, _⟩ => show e.val = 0 + e.val; omega

/-- A load at offset zero of two axes reads the entry itself. -/
theorem ld0 {a b a' b' : Nat} {ε : EltTy} (X : Vec Ideal ⟨2, ![a, b]⟩ ε) (inb : ∀ x, (![0, 0] : Fin 2 → Nat) x + (![a', b'] : Fin 2 → Nat) x ≤ (⟨2, ![a, b]⟩ : Shape).size x)
    (i : Fin a') (k : Fin b') (hi : i.val < a) (hk : k.val < b) :
    View.ld X (Rect.unit (s := ⟨2, ![a, b]⟩) ![0, 0] ![a', b'] inb) (ix2 i k) = X (ix2 ⟨i.val, hi⟩ ⟨k.val, hk⟩) :=
  ld_at X inb (ix2 i k) (ix2 ⟨i.val, hi⟩ ⟨k.val, hk⟩) fun x => by
    match x with
    | ⟨0, _⟩ => show i.val = 0 + i.val; omega
    | ⟨1, _⟩ => show k.val = 0 + k.val; omega

theorem yB_apply (x0 : Vec Ideal S256x2048 .bf16) (x1 : Vec Ideal S2048x2048 .bf16) (i : Fin 256) (e : Fin 2048) :
    yB x0 x1 (ix2 i e) = ∑ k : Fin 2048, x0 (ix2 i k) * x1 (ix2 k e) := by
  refine (wholeF_apply _ i e).trans ?_
  unfold k0_pay11
  simp only [shapeCast_self]
  refine (plain_zero (M := 256) (K := 2048) (N := 2048) (φ₁ := .bf16) (φ₂ := .bf16) _ _ i e).trans (Finset.sum_congr rfl fun k _ => ?_)
  exact congr (congrArg HMul.hMul (ld0 x0 _ i k i.isLt k.isLt)) (ld0 x1 _ k e k.isLt e.isLt)

theorem norm_eq (x2 y : Vec Ideal S256x2048 .f32) (g b : Vec Ideal S1x2048 .f32) :
    k0_pay10 (F := Ideal) (k0_pay6 x2 y) (k0_pay7 g) (k0_pay8 b) (k0_pay9 x2 y)
      = lnV reduces_S256x2048_S256 shapeCasts_S256_S256x1 broadcasts_S256x1_S256x2048 broadcasts_S1x2048_S256x2048
        (addf (mulf (broadcast S256x2048 (Scalar.ofBits .f32 0x3FB504F3#32)) (x2 : FVec Ideal S256x2048 .f32)) (y : FVec Ideal S256x2048 .f32)) g b := by
  unfold k0_pay10 k0_pay9 k0_pay8 k0_pay7 k0_pay6 lnV meanV
  simp only [shapeCast_self]

section Blocks
variable (x2 y : Vec Ideal S256x2048 .f32) (x3 x4 : Vec Ideal S1x2048 .f32) (x5 : Vec Ideal S2048x4096 .bf16) (i : Fin 256) (e : Fin 2048)

theorem hB_apply : hB x2 y x3 x4 (ix2 i e)
    = ln (fun k => alpha * x2 (ix2 i k) + y (ix2 i k)) (fun k => x3 (ix2 (0 : Fin 1) k)) (fun k => x4 (ix2 (0 : Fin 1) k)) e := by
  unfold hB
  rw [norm_eq]
  refine (lnV_apply _ _ _ _ _ _ _ i e).trans ?_
  refine congrFun (congr (congr (congrArg ln (funext fun k => ?_)) (funext fun k => ld0 x3 _ 0 k (by decide) k.isLt)) (funext fun k => ld0 x4 _ 0 k (by decide) k.isLt)) e
  exact congr (congrArg HAdd.hAdd (congrArg (alpha * ·) (ld0 x2 _ i k i.isLt k.isLt))) (ld0 y _ i k i.isLt k.isLt)

theorem uB_apply : uB x2 y x3 x4 x5 (ix2 i e) = ∑ k : Fin 2048, hB x2 y x3 x4 (ix2 i k) * x5 (ix2 k (⟨e.val, by omega⟩ : Fin 4096)) := by
  unfold uB k0_pay13
  simp only [shapeCast_self]
  refine (plain_zero (M := 256) (K := 2048) (N := 2048) (φ₁ := .bf16) (φ₂ := .bf16) _ _ i e).trans (Finset.sum_congr rfl fun k _ => ?_)
  exact congr (congrArg HMul.hMul rfl) (ld0 x5 _ k e k.isLt (by omega))

theorem zB_apply : zB x2 y x3 x4 x5 (ix2 i e) = ∑ k : Fin 2048, hB x2 y x3 x4 (ix2 i k) * x5 (ix2 k (⟨2048 + e.val, by omega⟩ : Fin 4096)) := by
  unfold zB k0_pay15 k0_pay14
  simp only [shapeCast_self]
  refine (plain_zero (M := 256) (K := 2048) (N := 2048) (φ₁ := .bf16) (φ₂ := .bf16) _ _ i e).trans (Finset.sum_congr rfl fun k _ => ?_)
  refine congr (congrArg HMul.hMul rfl) (ld_at x5 _ (ix2 k e) (ix2 k (⟨2048 + e.val, by omega⟩ : Fin 4096)) fun x => ?_)
  match x with
  | ⟨0, _⟩ => show k.val = 0 + k.val; omega
  | ⟨1, _⟩ => rfl

end Blocks

/-! ## The host operations -/

variable (m : (ℓ : Loc nD τ sig) → Buf (Elt Ideal) ℓ)

def flatV (x : FVec Ideal S4x4096x2048 .f32) : FVec Ideal S16384x2048 .bf16 := truncf .bf16 (shapeCast S16384x2048 x shapeCasts_S4x4096x2048_S16384x2048) bitsLt_bf16_f32
def flatF (x : FVec Ideal S4x4096x2048 .f32) : FVec Ideal S16384x2048 .f32 := shapeCast S16384x2048 x shapeCasts_S4x4096x2048_S16384x2048
def rowF (x : FVec Ideal S2048 .f32) : FVec Ideal S1x2048 .f32 := shapeCast S1x2048 x shapeCasts_S2048_S1x2048
def castO (x : FVec Ideal S2048x2048 .f32) : FVec Ideal S2048x2048 .bf16 := truncf .bf16 x bitsLt_bf16_f32
def castI (x : FVec Ideal S2048x4096 .f32) : FVec Ideal S2048x4096 .bf16 := truncf .bf16 x bitsLt_bf16_f32

theorem V_v1 (c : Dev nD) : V (F := Ideal) m c main_v1 = flatV (m ((c : Thread nD τ).loc main_arg0)) := by
  unfold_abbrev_sides
  after_reads_simp
  rfl
theorem V_v2 (c : Dev nD) : V (F := Ideal) m c main_v2 = castO (m ((c : Thread nD τ).loc main_arg1)) := by
  unfold_abbrev_sides
  after_reads_simp
  rfl
theorem V_v3 (c : Dev nD) : V (F := Ideal) m c main_v3 = flatF (m ((c : Thread nD τ).loc main_arg2)) := by
  unfold_abbrev_sides
  after_reads_simp
  rfl
theorem V_v4 (c : Dev nD) : V (F := Ideal) m c main_v4 = rowF (m ((c : Thread nD τ).loc main_arg3)) := by
  unfold_abbrev_sides
  after_reads_simp
  rfl
theorem V_v5 (c : Dev nD) : V (F := Ideal) m c main_v5 = rowF (m ((c : Thread nD τ).loc main_arg4)) := by
  unfold_abbrev_sides
  after_reads_simp
  rfl
theorem V_v6 (c : Dev nD) : V (F := Ideal) m c main_v6 = castI (m ((c : Thread nD τ).loc main_arg5)) := by
  unfold_abbrev_sides
  after_reads_simp
  rfl

theorem flatF_apply (x : FVec Ideal S4x4096x2048 .f32) (b : Fin 4) (t : Fin 4096) (e : Fin 2048) (n : Fin 16384) (hn : n.val = b.val * 4096 + t.val) :
    flatF x (ix2 n e) = x (ix3 b t e) :=
  shapeCast_apply x shapeCasts_S4x4096x2048_S16384x2048 (ix2 n e) (ix3 b t e) (by
    rw [Shape.rowMajor_val_two, Shape.rowMajor_val_three]
    show (b.val * 4096 + t.val) * 2048 + e.val = n.val * 2048 + e.val
    rw [hn])
theorem flatV_apply (x : FVec Ideal S4x4096x2048 .f32) (b : Fin 4) (t : Fin 4096) (e : Fin 2048) (n : Fin 16384) (hn : n.val = b.val * 4096 + t.val) :
    flatV x (ix2 n e) = x (ix3 b t e) := flatF_apply x b t e n hn
theorem rowF_apply (x : FVec Ideal S2048 .f32) (e : Fin 2048) : rowF x (ix2 (0 : Fin 1) e) = x (ix1 e) :=
  shapeCast_a_1a_apply x shapeCasts_S2048_S1x2048 0 e

/-! ## The windows -/

theorem index_facts : ∀ t : Fin cfg0.N, win0_0.index t = ![min t.val 63, 0] ∧ win0_1.index t = ![0, 0] ∧ win0_2.index t = ![t.val - 1, 0] ∧ win0_3.index t = ![0, 0]
    ∧ win0_4.index t = ![0, 0] ∧ win0_5.index t = ![0, 0] ∧ win0_6.index t = ![0, 0] ∧ win0_7.index t = ![t.val - 1, 0] ∧ win0_8.index t = ![t.val - 1, 0] ∧ win0_9.index t = ![t.val - 1, 0] :=
  (by decide +kernel : ∀ t : Fin grid0.N, win0_0.index t = ![min t.val 63, 0] ∧ win0_1.index t = ![0, 0] ∧ win0_2.index t = ![t.val - 1, 0] ∧ win0_3.index t = ![0, 0]
    ∧ win0_4.index t = ![0, 0] ∧ win0_5.index t = ![0, 0] ∧ win0_6.index t = ![0, 0] ∧ win0_7.index t = ![t.val - 1, 0] ∧ win0_8.index t = ![t.val - 1, 0] ∧ win0_9.index t = ![t.val - 1, 0])

theorem flush_facts : ∀ t : Fin cfg0.N, win0_7.flush t = decide (1 ≤ t.val) ∧ win0_8.flush t = decide (1 ≤ t.val) ∧ win0_9.flush t = decide (1 ≤ t.val) :=
  (by decide +kernel : ∀ t : Fin grid0.N, win0_7.flush t = decide (1 ≤ t.val) ∧ win0_8.flush t = decide (1 ≤ t.val) ∧ win0_9.flush t = decide (1 ≤ t.val))

theorem iblk0 (c : Dev nD) (t : Fin cfg0.N) (r : Fin 256) (e : Fin 2048) (n : Fin 16384) (hn : n.val = min t.val 63 * 256 + r.val) :
    iblk (F := Ideal) m c 0 t (ix2 r e) = V (F := Ideal) m c main_v1 (ix2 n e) := by
  show V (F := Ideal) m c main_v1 ((win0_0.rect t).emb (ix2 r e)) = _
  congr 1
  funext a
  refine Fin.ext ?_
  show win0_0.index t a * S256x2048.size a + 1 * (ix2 r e a).val = _
  rw [(index_facts t).1]
  match a with
  | ⟨0, _⟩ => show min t.val 63 * 256 + 1 * r.val = n.val; omega
  | ⟨1, _⟩ => show 0 * 2048 + 1 * e.val = e.val; omega
theorem iblk1 (c : Dev nD) (t : Fin cfg0.N) (i : S2048x2048.Idx) : iblk (F := Ideal) m c 1 t i = V (F := Ideal) m c main_v2 i := by
  show V (F := Ideal) m c main_v2 ((win0_1.rect t).emb i) = _
  congr 1
  funext a
  refine Fin.ext ?_
  show win0_1.index t a * S2048x2048.size a + 1 * (i a).val = _
  rw [(index_facts t).2.1]
  match a with
  | ⟨0, _⟩ => show 0 * 2048 + 1 * (i 0).val = (i 0).val; omega
  | ⟨1, _⟩ => show 0 * 2048 + 1 * (i 1).val = (i 1).val; omega
theorem iblk2 (c : Dev nD) (t : Fin cfg0.N) (r : Fin 256) (e : Fin 2048) (n : Fin 16384) (hn : n.val = (t.val - 1) * 256 + r.val) :
    iblk (F := Ideal) m c 2 t (ix2 r e) = V (F := Ideal) m c main_v3 (ix2 n e) := by
  show V (F := Ideal) m c main_v3 ((win0_2.rect t).emb (ix2 r e)) = _
  congr 1
  funext a
  refine Fin.ext ?_
  show win0_2.index t a * S256x2048.size a + 1 * (ix2 r e a).val = _
  rw [(index_facts t).2.2.1]
  match a with
  | ⟨0, _⟩ => show (t.val - 1) * 256 + 1 * r.val = n.val; omega
  | ⟨1, _⟩ => show 0 * 2048 + 1 * e.val = e.val; omega
theorem iblk3 (c : Dev nD) (t : Fin cfg0.N) (i : S1x2048.Idx) : iblk (F := Ideal) m c 3 t i = V (F := Ideal) m c main_v4 i := by
  show V (F := Ideal) m c main_v4 ((win0_3.rect t).emb i) = _
  congr 1
  funext a
  refine Fin.ext ?_
  show win0_3.index t a * S1x2048.size a + 1 * (i a).val = _
  rw [(index_facts t).2.2.2.1]
  match a with
  | ⟨0, _⟩ => show 0 * 1 + 1 * (i 0).val = (i 0).val; omega
  | ⟨1, _⟩ => show 0 * 2048 + 1 * (i 1).val = (i 1).val; omega
theorem iblk4 (c : Dev nD) (t : Fin cfg0.N) (i : S1x2048.Idx) : iblk (F := Ideal) m c 4 t i = V (F := Ideal) m c main_v5 i := by
  show V (F := Ideal) m c main_v5 ((win0_4.rect t).emb i) = _
  congr 1
  funext a
  refine Fin.ext ?_
  show win0_4.index t a * S1x2048.size a + 1 * (i a).val = _
  rw [(index_facts t).2.2.2.2.1]
  match a with
  | ⟨0, _⟩ => show 0 * 1 + 1 * (i 0).val = (i 0).val; omega
  | ⟨1, _⟩ => show 0 * 2048 + 1 * (i 1).val = (i 1).val; omega
theorem iblk5 (c : Dev nD) (t : Fin cfg0.N) (i : S2048x4096.Idx) : iblk (F := Ideal) m c 5 t i = V (F := Ideal) m c main_v6 i := by
  show V (F := Ideal) m c main_v6 ((win0_5.rect t).emb i) = _
  congr 1
  funext a
  refine Fin.ext ?_
  show win0_5.index t a * S2048x4096.size a + 1 * (i a).val = _
  rw [(index_facts t).2.2.2.2.2.1]
  match a with
  | ⟨0, _⟩ => show 0 * 2048 + 1 * (i 0).val = (i 0).val; omega
  | ⟨1, _⟩ => show 0 * 4096 + 1 * (i 1).val = (i 1).val; omega
theorem iblk6 (c : Dev nD) (t : Fin cfg0.N) (i : S16x2048.Idx) : iblk (F := Ideal) m c 6 t i = m ((c : Thread nD τ).loc main_arg6) i := by
  rw [← V_main_arg6 m c]
  show V (F := Ideal) m c main_arg6 ((win0_6.rect t).emb i) = _
  congr 1
  funext a
  refine Fin.ext ?_
  show win0_6.index t a * S16x2048.size a + 1 * (i a).val = _
  rw [(index_facts t).2.2.2.2.2.2.1]
  match a with
  | ⟨0, _⟩ => show 0 * 16 + 1 * (i 0).val = (i 0).val; omega
  | ⟨1, _⟩ => show 0 * 2048 + 1 * (i 1).val = (i 1).val; omega

end Cert.Kernel4Ideal.Hand

end
-- ==== Proof.BoundaryRes.lean ====
/-
  THE CALL BETWEEN THE MIXERS, its three results: the layer norm's rows, the pooled means and the pooling gate, in numbers of
  the arrays a memory holds as arguments.
-/
module
public import proofs.«01_k».proof.Proof.BoundaryAt
@[expose] public section
set_option maxRecDepth 16384

noncomputable section

namespace Cert.Rows

open Idealize.ShloMosaic

/-- Two windows that hold the same rows give the same pooled mean. -/
theorem pooled_congr {f g : Nat → EReal} {q : Fin 4} {j j' : Nat} (h : ∀ s, s < 16 → f (j - s) = g (j' - s)) : pooled f q j = pooled g q j' := by
  unfold pooled
  have hw : wlen q ≤ 16 := by
    match q with
    | ⟨0, _⟩ => show 2 ≤ 16; omega
    | ⟨1, _⟩ => show 4 ≤ 16; omega
    | ⟨2, _⟩ => show 8 ≤ 16; omega
    | ⟨3, _⟩ => show 16 ≤ 16; omega
  have h0 : f j = g j' := h 0 (by decide)
  rw [h0]
  refine congrArg (· * winv q - g j') (Finset.sum_congr rfl fun s hs => h s ?_)
  have := Finset.mem_range.mp hs
  omega

/-- A row of the layer norm of the residual and the output projection of the attention's row. -/
def hRow (a r : Fin 2048 → EReal) (wo : Fin 2048 → Fin 2048 → EReal) (g b : Fin 2048 → EReal) : Fin 2048 → EReal :=
  ln (fun e => alpha * r e + ∑ k, a k * wo k e) g b

/-- A row of the pooling mixer's input projection. -/
def inRow (h : Fin 2048 → EReal) (wi : Fin 2048 → Fin 4096 → EReal) (e : Fin 4096) : EReal := ∑ k, h k * wi k e

end Cert.Rows

namespace Cert.Kernel4Ideal.Hand

open Idealize.ShloMosaic
open Cert.Kernel4Ideal Cert.Kernel4Ideal.Gen Cert.Rows Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-! ## Rows, counted through all batches -/

/-- Row `n` of the attention's result, and the output projection's weights. -/
def AN (n : Fin 16384) (k : Fin 2048) : EReal := V (F := Ideal) m c main_v1 (ix2 n k)
def WN (k e : Fin 2048) : EReal := V (F := Ideal) m c main_v2 (ix2 k e)
/-- Row `n` of the first result, -/
def HN (n : Fin 16384) : Fin 2048 → EReal :=
  hRow (fun k => V (F := Ideal) m c main_v1 (ix2 n k)) (fun k => V (F := Ideal) m c main_v3 (ix2 n k)) (fun k e => V (F := Ideal) m c main_v2 (ix2 k e))
    (fun k => V (F := Ideal) m c main_v4 (ix2 (0 : Fin 1) k)) (fun k => V (F := Ideal) m c main_v5 (ix2 (0 : Fin 1) k))
/-- and of its projection. -/
def PN (n : Fin 16384) : Fin 4096 → EReal := inRow (HN m c n) fun k e => V (F := Ideal) m c main_v6 (ix2 k e)
/-- Column `e` of what the pooling mixer averages in batch `b`: the rows before the first token, and the tokens'. -/
def XN (b : Fin 4) (e : Fin 2048) (j : Nat) : EReal :=
  if h : j < 16 then m ((c : Thread nD τ).loc main_arg6) (ix2 (⟨j, h⟩ : Fin 16) e)
  else if h' : j < 4112 then PN m c ⟨b.val * 4096 + (j - 16), by omega⟩ ⟨e.val, by omega⟩ else 0

section Point
variable (t : Fin cfg0.N)

/-- What a point keeps for the next. -/
theorem y_at (i : Fin 256) (e : Fin 2048) (n : Fin 16384) (hn : n.val = min t.val 63 * 256 + i.val) :
    (outsAt0 m c t.val t.isLt).2.2.2.2 (ix2 i e) = ∑ k : Fin 2048, AN m c n k * WN m c k e := by
  have hy : (outsAt0 m c t.val t.isLt).2.2.2.2 = yB (iblk m c 0 t) (iblk m c 1 t) := by
    by_cases h0 : t.val % 65 = 0
    · exact A_y m c t h0 (.inl h0) (not_not.mpr (.inl h0))
    · by_cases h1 : (t.val % 65 = 0 ∨ t.val % 65 = 1 ∨ t.val % 65 = 17 ∨ t.val % 65 = 33 ∨ t.val % 65 = 49)
      · exact B_y m c t h0 h1 (not_not.mpr h1)
      · exact C_y m c t h0 h1 h1
  rw [hy, yB_apply]
  refine Finset.sum_congr rfl fun k _ => ?_
  rw [iblk0 m c t i k n hn, iblk1]
  rfl

variable (ht : 1 ≤ t.val)

section
include ht
theorem h_block (i : Fin 256) (e : Fin 2048) (n : Fin 16384) (hn : n.val = (t.val - 1) * 256 + i.val) :
    hB (iblk m c 2 t) (outsAt0 m c (t.val - 1) (lt_of_le_of_lt (Nat.sub_le _ _) t.isLt)).2.2.2.2 (iblk m c 3 t) (iblk m c 4 t) (ix2 i e) = HN m c n e := by
  have hN : t.val < 65 := lt_of_lt_of_eq t.isLt (show cfg0.N = 65 from N_0)
  rw [hB_apply]
  unfold HN hRow
  refine congrFun (congr (congr (congrArg ln (funext fun k => ?_)) (funext fun k => ?_)) (funext fun k => ?_)) e
  · rw [iblk2 m c t i k n hn]
    exact congrArg (alpha * V (F := Ideal) m c main_v3 (ix2 n k) + ·) (y_at m c ⟨t.val - 1, lt_of_le_of_lt (Nat.sub_le _ _) t.isLt⟩ i k n (by show n.val = min (t.val - 1) 63 * 256 + i.val; omega))
  · rw [iblk3]
  · rw [iblk4]

theorem u_block (i : Fin 256) (e : Fin 2048) (n : Fin 16384) (hn : n.val = (t.val - 1) * 256 + i.val) :
    uB (iblk m c 2 t) (outsAt0 m c (t.val - 1) (lt_of_le_of_lt (Nat.sub_le _ _) t.isLt)).2.2.2.2 (iblk m c 3 t) (iblk m c 4 t) (iblk m c 5 t) (ix2 i e) = PN m c n ⟨e.val, by omega⟩ := by
  rw [uB_apply]
  unfold PN inRow
  refine Finset.sum_congr rfl fun k _ => ?_
  rw [h_block m c t ht i k n hn, iblk5]

theorem z_block (i : Fin 256) (e : Fin 2048) (n : Fin 16384) (hn : n.val = (t.val - 1) * 256 + i.val) :
    zB (iblk m c 2 t) (outsAt0 m c (t.val - 1) (lt_of_le_of_lt (Nat.sub_le _ _) t.isLt)).2.2.2.2 (iblk m c 3 t) (iblk m c 4 t) (iblk m c 5 t) (ix2 i e) = PN m c n ⟨2048 + e.val, by omega⟩ := by
  rw [zB_apply]
  unfold PN inRow
  refine Finset.sum_congr rfl fun k _ => ?_
  rw [h_block m c t ht i k n hn, iblk5]

theorem h_at (i : Fin 256) (e : Fin 2048) (n : Fin 16384) (hn : n.val = (t.val - 1) * 256 + i.val) :
    (outsAt0 m c t.val t.isLt).1 (ix2 i e) = HN m c n e := by
  have hN : t.val < 65 := lt_of_lt_of_eq t.isLt (show cfg0.N = 65 from N_0)
  have h0 : ¬t.val % 65 = 0 := by omega
  refine Eq.trans ?_ ((wholeF_apply _ i e).trans (h_block m c t ht i e n hn))
  by_cases h1 : (t.val % 65 = 0 ∨ t.val % 65 = 1 ∨ t.val % 65 = 17 ∨ t.val % 65 = 33 ∨ t.val % 65 = 49)
  · exact congrFun (B_h m c t h0 h1 (not_not.mpr h1)) (ix2 i e)
  · exact congrFun (C_h m c t h0 h1 h1) (ix2 i e)

theorem z_at (i : Fin 256) (e : Fin 2048) (n : Fin 16384) (hn : n.val = (t.val - 1) * 256 + i.val) :
    (outsAt0 m c t.val t.isLt).2.2.1 (ix2 i e) = PN m c n ⟨2048 + e.val, by omega⟩ := by
  have hN : t.val < 65 := lt_of_lt_of_eq t.isLt (show cfg0.N = 65 from N_0)
  have h0 : ¬t.val % 65 = 0 := by omega
  refine Eq.trans ?_ ((wholeB_apply _ i e).trans (z_block m c t ht i e n hn))
  by_cases h1 : (t.val % 65 = 0 ∨ t.val % 65 = 1 ∨ t.val % 65 = 17 ∨ t.val % 65 = 33 ∨ t.val % 65 = 49)
  · exact congrFun (B_z m c t h0 h1 (not_not.mpr h1)) (ix2 i e)
  · exact congrFun (C_z m c t h0 h1 h1) (ix2 i e)

/-- The window buffer's last 256 rows. -/
theorem ext_at (i : Fin 256) (e : Fin 2048) (n : Fin 16384) (hn : n.val = (t.val - 1) * 256 + i.val) (r : Fin 272) (hr : r.val = 16 + i.val) :
    (outsAt0 m c t.val t.isLt).2.2.2.1 (ix2 r e) = PN m c n ⟨e.val, by omega⟩ := by
  have hN : t.val < 65 := lt_of_lt_of_eq t.isLt (show cfg0.N = 65 from N_0)
  have h0 : ¬t.val % 65 = 0 := by omega
  have hi : (⟨r.val - 16, by omega⟩ : Fin 256) = i := Fin.ext (by show r.val - 16 = i.val; omega)
  refine Eq.trans ?_ (u_block m c t ht i e n hn)
  by_cases h1 : (t.val % 65 = 0 ∨ t.val % 65 = 1 ∨ t.val % 65 = 17 ∨ t.val % 65 = 33 ∨ t.val % 65 = 49)
  · rw [B_ext m c t h0 h1 (not_not.mpr h1), ext_apply]
    unfold rowsOf
    rw [dif_neg (by omega), dif_pos r.isLt, hi]
  · rw [C_ext m c t h0 h1 h1, ext_apply]
    unfold rowsOf
    rw [dif_neg (by omega), dif_pos r.isLt, hi]

theorem d_at (i : Fin 256) (e : Fin 2048) (b : Fin 4) (q : Nat) (hq : q < 16) (hb : t.val - 1 = b.val * 16 + q) :
    (outsAt0 m c t.val t.isLt).2.1 (ix2 i e) = pooled (XN m c b e) (grp e) (256 * q + (16 + i.val)) := by
  have hN : t.val < 65 := lt_of_lt_of_eq t.isLt (show cfg0.N = 65 from N_0)
  have h0 : ¬t.val % 65 = 0 := by omega
  have hu : ∀ r : Nat, 16 ≤ r → (hr : r < 272) → uB (iblk m c 2 t) (outsAt0 m c (t.val - 1) (lt_of_le_of_lt (Nat.sub_le _ _) t.isLt)).2.2.2.2 (iblk m c 3 t) (iblk m c 4 t) (iblk m c 5 t) (ix2 (⟨r - 16, by omega⟩ : Fin 256) e)
      = XN m c b e (256 * q + r) := fun r h16 hr => by
    unfold XN
    rw [dif_neg (by omega), dif_pos (by omega)]
    exact u_block m c t ht _ e _ (by show b.val * 4096 + (256 * q + r - 16) = (t.val - 1) * 256 + (r - 16); omega)
  by_cases h1 : (t.val % 65 = 0 ∨ t.val % 65 = 1 ∨ t.val % 65 = 17 ∨ t.val % 65 = 33 ∨ t.val % 65 = 49)
  · rw [B_d m c t h0 h1 (not_not.mpr h1), dB_apply]
    refine pooled_congr fun s hs => ?_
    rw [show 256 * q + (16 + i.val) - s = 256 * q + (16 + i.val - s) by omega]
    generalize hr : 16 + i.val - s = r
    have hr' : r < 272 := by omega
    unfold rowsOf
    by_cases h16 : r < 16
    · rw [dif_pos h16]
      have hq0 : q = 0 := by omega
      subst hq0
      unfold XN
      rw [dif_pos (by omega)]
      unfold k0_pay4
      rw [shapeCast_self]
      refine (ld0 (iblk m c 6 t) _ ⟨r, h16⟩ e h16 e.isLt).trans ((iblk6 m c t _).trans (congrArg _ ?_))
      refine congrArg (fun x : Fin 16 => ix2 x e) (Fin.ext ?_)
      show r = 256 * 0 + r
      omega
    · rw [dif_neg h16, dif_pos hr']
      exact hu r (by omega) hr'
  · rw [C_d m c t h0 h1 h1, dB_apply]
    refine pooled_congr fun s hs => ?_
    rw [show 256 * q + (16 + i.val) - s = 256 * q + (16 + i.val - s) by omega]
    generalize hr : 16 + i.val - s = r
    have hr' : r < 272 := by omega
    unfold rowsOf
    by_cases h16 : r < 16
    · rw [dif_pos h16]
      have hq0 : 1 ≤ q := by
        have hb4 : b.val = 0 ∨ b.val = 1 ∨ b.val = 2 ∨ b.val = 3 := by omega
        rcases hb4 with h | h | h | h <;> omega
      unfold XN
      rw [dif_neg (by omega), dif_pos (by omega)]
      unfold k0_pay5
      rw [shapeCast_self]
      refine (ld_at _ _ (ix2 (⟨r, h16⟩ : Fin 16) e) (ix2 (⟨256 + r, by omega⟩ : Fin 272) e) fun a => ?_).trans
        (ext_at m c ⟨t.val - 1, lt_of_le_of_lt (Nat.sub_le _ _) t.isLt⟩ (by show 1 ≤ t.val - 1; omega) ⟨240 + r, by omega⟩ e _
          (by show b.val * 4096 + (256 * q + r - 16) = (t.val - 1 - 1) * 256 + (240 + r); omega) ⟨256 + r, by omega⟩ (by show 256 + r = 16 + (240 + r); omega))
      match a with
      | ⟨0, _⟩ => rfl
      | ⟨1, _⟩ => show e.val = 0 + e.val; omega
    · rw [dif_neg h16, dif_pos hr']
      exact hu r (by omega) hr'

end
end Point

/-! ## The results -/

theorem disjoint7 : ∀ t t' : Fin cfg0.N, (cfg0.win 7).flush t = true → (cfg0.win 7).flush t' = true → t ≠ t' → Disjoint ((cfg0.win 7).blk t).view.set ((cfg0.win 7).blk t').view.set :=
  fun t t' hf hf' hne => (cfg0.win 7).disjoint_blk fun he => hne <| by
    have h1 : 1 ≤ t.val := of_decide_eq_true ((flush_facts t).1.symm.trans hf)
    have h2 : 1 ≤ t'.val := of_decide_eq_true ((flush_facts t').1.symm.trans hf')
    have h3 : t.val - 1 = t'.val - 1 := congrFun ((index_facts t).2.2.2.2.2.2.2.1.symm.trans (he.trans (index_facts t').2.2.2.2.2.2.2.1)) 0
    exact Fin.ext (by omega)
theorem disjoint8 : ∀ t t' : Fin cfg0.N, (cfg0.win 8).flush t = true → (cfg0.win 8).flush t' = true → t ≠ t' → Disjoint ((cfg0.win 8).blk t).view.set ((cfg0.win 8).blk t').view.set :=
  fun t t' hf hf' hne => (cfg0.win 8).disjoint_blk fun he => hne <| by
    have h1 : 1 ≤ t.val := of_decide_eq_true ((flush_facts t).2.1.symm.trans hf)
    have h2 : 1 ≤ t'.val := of_decide_eq_true ((flush_facts t').2.1.symm.trans hf')
    have h3 : t.val - 1 = t'.val - 1 := congrFun ((index_facts t).2.2.2.2.2.2.2.2.1.symm.trans (he.trans (index_facts t').2.2.2.2.2.2.2.2.1)) 0
    exact Fin.ext (by omega)
theorem disjoint9 : ∀ t t' : Fin cfg0.N, (cfg0.win 9).flush t = true → (cfg0.win 9).flush t' = true → t ≠ t' → Disjoint ((cfg0.win 9).blk t).view.set ((cfg0.win 9).blk t').view.set :=
  fun t t' hf hf' hne => (cfg0.win 9).disjoint_blk fun he => hne <| by
    have h1 : 1 ≤ t.val := of_decide_eq_true ((flush_facts t).2.2.symm.trans hf)
    have h2 : 1 ≤ t'.val := of_decide_eq_true ((flush_facts t').2.2.symm.trans hf')
    have h3 : t.val - 1 = t'.val - 1 := congrFun ((index_facts t).2.2.2.2.2.2.2.2.2.symm.trans (he.trans (index_facts t').2.2.2.2.2.2.2.2.2)) 0
    exact Fin.ext (by omega)

/-- The point that writes row `n`, and the row in its block. -/
theorem point (n : Fin 16384) : ∃ (t : Fin cfg0.N) (i : Fin 256), 1 ≤ t.val ∧ n.val = (t.val - 1) * 256 + i.val :=
  ⟨⟨n.val / 256 + 1, by show _ < 65; omega⟩, ⟨n.val % 256, Nat.mod_lt _ (by decide)⟩, by show 1 ≤ n.val / 256 + 1; omega, by
    show n.val = (n.val / 256 + 1 - 1) * 256 + n.val % 256
    omega⟩

theorem result7 (n : Fin 16384) (e : Fin 2048) : (dats (F := Ideal) m 0 c).arrAt 7 cfg0.N (ix2 n e) = HN m c n e := by
  obtain ⟨t, i, ht, hn⟩ := point n
  have hb := congrFun ((dats (F := Ideal) m 0 c).read_blk_arrAt_eq_flushed 7 disjoint7 cfg0.N t t.isLt ((flush_facts t).1.trans (decide_eq_true ht))) (ix2 i e)
  have he' : (win0_7.rect t).emb (ix2 i e) = (ix2 n e : S16384x2048.Idx) := by
    funext a
    refine Fin.ext ?_
    show win0_7.index t a * S256x2048.size a + 1 * (ix2 i e a).val = _
    rw [(index_facts t).2.2.2.2.2.2.2.1]
    match a with
    | ⟨0, _⟩ => show (t.val - 1) * 256 + 1 * i.val = n.val; omega
    | ⟨1, _⟩ => show 0 * 2048 + 1 * e.val = e.val; omega
  have h1 : (dats (F := Ideal) m 0 c).arrAt 7 cfg0.N ((win0_7.rect t).emb (ix2 i e)) = (dats (F := Ideal) m 0 c).flushed 7 t (ix2 i e) := hb
  rw [he'] at h1
  rw [h1, Value.flushed7]
  exact h_at m c t ht i e n hn
theorem result9 (n : Fin 16384) (e : Fin 2048) : (dats (F := Ideal) m 0 c).arrAt 9 cfg0.N (ix2 n e) = PN m c n ⟨2048 + e.val, by omega⟩ := by
  obtain ⟨t, i, ht, hn⟩ := point n
  have hb := congrFun ((dats (F := Ideal) m 0 c).read_blk_arrAt_eq_flushed 9 disjoint9 cfg0.N t t.isLt ((flush_facts t).2.2.trans (decide_eq_true ht))) (ix2 i e)
  have he' : (win0_9.rect t).emb (ix2 i e) = (ix2 n e : S16384x2048.Idx) := by
    funext a
    refine Fin.ext ?_
    show win0_9.index t a * S256x2048.size a + 1 * (ix2 i e a).val = _
    rw [(index_facts t).2.2.2.2.2.2.2.2.2]
    match a with
    | ⟨0, _⟩ => show (t.val - 1) * 256 + 1 * i.val = n.val; omega
    | ⟨1, _⟩ => show 0 * 2048 + 1 * e.val = e.val; omega
  have h1 : (dats (F := Ideal) m 0 c).arrAt 9 cfg0.N ((win0_9.rect t).emb (ix2 i e)) = (dats (F := Ideal) m 0 c).flushed 9 t (ix2 i e) := hb
  rw [he'] at h1
  rw [h1, Value.flushed9]
  exact z_at m c t ht i e n hn
theorem result8 (b : Fin 4) (s : Fin 4096) (n : Fin 16384) (hs : n.val = b.val * 4096 + s.val) (e : Fin 2048) :
    (dats (F := Ideal) m 0 c).arrAt 8 cfg0.N (ix2 n e) = pooled (XN m c b e) (grp e) (16 + s.val) := by
  obtain ⟨t, i, ht, hn⟩ := point n
  have hb := congrFun ((dats (F := Ideal) m 0 c).read_blk_arrAt_eq_flushed 8 disjoint8 cfg0.N t t.isLt ((flush_facts t).2.1.trans (decide_eq_true ht))) (ix2 i e)
  have he' : (win0_8.rect t).emb (ix2 i e) = (ix2 n e : S16384x2048.Idx) := by
    funext a
    refine Fin.ext ?_
    show win0_8.index t a * S256x2048.size a + 1 * (ix2 i e a).val = _
    rw [(index_facts t).2.2.2.2.2.2.2.2.1]
    match a with
    | ⟨0, _⟩ => show (t.val - 1) * 256 + 1 * i.val = n.val; omega
    | ⟨1, _⟩ => show 0 * 2048 + 1 * e.val = e.val; omega
  have h1 : (dats (F := Ideal) m 0 c).arrAt 8 cfg0.N ((win0_8.rect t).emb (ix2 i e)) = (dats (F := Ideal) m 0 c).flushed 8 t (ix2 i e) := hb
  rw [he'] at h1
  rw [h1, Value.flushed8]
  refine (d_at m c t ht i e b (s.val / 256) (by omega) (by omega)).trans (congrArg (pooled _ _) ?_)
  omega

/-! ## In the arguments -/

theorem HN_eq (b : Fin 4) (s : Fin 4096) (n : Fin 16384) (hn : n.val = b.val * 4096 + s.val) :
    HN m c n = hRow (fun k => m ((c : Thread nD τ).loc main_arg0) (ix3 b s k)) (fun k => m ((c : Thread nD τ).loc main_arg2) (ix3 b s k))
      (fun k e => m ((c : Thread nD τ).loc main_arg1) (ix2 k e)) (fun k => m ((c : Thread nD τ).loc main_arg3) (ix1 k)) (fun k => m ((c : Thread nD τ).loc main_arg4) (ix1 k)) := by
  unfold HN
  refine congr (congr (congr (congr (congrArg hRow (funext fun k => ?_)) (funext fun k => ?_)) (funext fun k => funext fun e => ?_)) (funext fun k => ?_)) (funext fun k => ?_)
  · rw [V_v1, flatV_apply _ b s k n hn]
  · rw [V_v3, flatF_apply _ b s k n hn]
  · rw [V_v2]; rfl
  · rw [V_v4, rowF_apply]
  · rw [V_v5, rowF_apply]

theorem PN_eq (n : Fin 16384) : PN m c n = inRow (HN m c n) fun k e => m ((c : Thread nD τ).loc main_arg5) (ix2 k e) := by
  unfold PN
  congr 1

end Cert.Kernel4Ideal.Hand

end
-- ==== Proof.BoundarySum.lean ====
/-
  RUNNING SUMS AND WINDOWS: a running sum over the rows at an index, a row-shifted copy of it, and the difference of the
  two as a sum over the window's rows, for finite numbers.
-/
module
public import proofs.«01_k».proof.Proof.Reals
public import proofs.«01_k».proof.Proof.BoundaryAt
public import Idealize.ShloMosaic.Lib.KernelVsHost
@[expose] public section
set_option maxRecDepth 16384

noncomputable section

namespace Cert.Rows

open Idealize.ShloMosaic Idealize.ShloMosaic.TcCoe Idealize.SL.Sem Idealize.ShloMosaic.ValueIdx

/-! ## A running sum -/

theorem foldl_add {ι : Type} (l : List ι) (g : ι → EReal) (a : EReal) : l.foldl (fun r n => r + g n) a = a + (l.map g).sum := by
  induction l generalizing a with
  | nil => simp
  | cons n l ih => rw [List.foldl_cons, ih, List.map_cons, List.sum_cons, add_assoc]

/-- The positions of a window one wide but along the rows. -/
def winE : (⟨3, ![1, 4112, 1]⟩ : Shape).Idx ≃ Fin 4112 where
  toFun i := i 1
  invFun n := ix3 (0 : Fin 1) n (0 : Fin 1)
  left_inv i := funext fun a => by
    match a with
    | ⟨0, _⟩ => exact Subsingleton.elim (α := Fin 1) _ _
    | ⟨1, _⟩ => rfl
    | ⟨2, _⟩ => exact Subsingleton.elim (α := Fin 1) _ _
  right_inv _ := rfl

/-- What a window that ends at row `j` and begins before the first row sums. -/
theorem sum_tail (F : Nat → EReal) (M j : Nat) (hj : j ≤ M) :
    ∑ w : Fin (M + 1), (if M ≤ j + w.val then F (j + w.val - M) else 0) = ∑ i ∈ Finset.range (j + 1), F i := by
  rw [Fin.sum_univ_eq_sum_range (fun w => if M ≤ j + w then F (j + w - M) else 0) (M + 1), show M + 1 = (M - j) + (j + 1) by omega, Finset.sum_range_add]
  rw [Finset.sum_eq_zero (fun w hw => if_neg (by have := Finset.mem_range.1 hw; omega)), zero_add]
  refine Finset.sum_congr rfl fun w _ => ?_
  rw [if_pos (by omega)]
  exact congrArg F (by omega)

theorem cumsum_at (x : (⟨3, ![4, 4112, 512]⟩ : Shape).Idx → EReal) (v : (⟨0, ![]⟩ : Shape).Idx → EReal) (hv : ∀ i, v i = 0)
    (h : (⟨3, ![4, 4112, 512]⟩ : Shape).ReduceWindows ![1, 4112, 1] ![1, 1, 1] ![0, 4111, 0] ![0, 0, 0] ⟨3, ![4, 4112, 512]⟩) (hu : 0 < (⟨0, ![]⟩ : Shape).numel)
    (b : Fin 4) (j : Fin 4112) (k : Fin 512) (F : Nat → EReal) (hF : ∀ i : Fin 4112, x (ix3 b i k) = F i.val) :
    Host.reduceWindowAdd (F := Ideal) (φ := .f32) ![1, 4112, 1] ![1, 1, 1] ![0, 4111, 0] ![0, 0, 0] x v h hu (ix3 b j k) = ∑ i ∈ Finset.range (j.val + 1), F i := by
  have hj := j.isLt
  unfold Host.reduceWindowAdd
  rw [Ideal.hostReduceWindowAdd_def, hv]
  unfold Ideal.hostReduceWindowAdd Host.reduceWindow
  refine (foldl_add _ _ _).trans ((zero_add _).trans ?_)
  rw [← List.ofFn_eq_map, List.sum_ofFn]
  refine Eq.trans ?_ (sum_tail F 4111 j.val (by omega))
  refine Fintype.sum_equiv ((Shape.rowMajor ⟨3, ![1, 4112, 1]⟩).symm.trans winE) _ _ fun n => ?_
  have p0 : ((Shape.rowMajor ⟨3, ![1, 4112, 1]⟩).symm n 0).val < 1 := ((Shape.rowMajor ⟨3, ![1, 4112, 1]⟩).symm n 0).isLt
  have p1 : ((Shape.rowMajor ⟨3, ![1, 4112, 1]⟩).symm n 1).val < 4112 := ((Shape.rowMajor ⟨3, ![1, 4112, 1]⟩).symm n 1).isLt
  have p2 : ((Shape.rowMajor ⟨3, ![1, 4112, 1]⟩).symm n 2).val < 1 := ((Shape.rowMajor ⟨3, ![1, 4112, 1]⟩).symm n 2).isLt
  have hb := b.isLt
  have hk := k.isLt
  by_cases hc : 4111 ≤ j.val + ((Shape.rowMajor ⟨3, ![1, 4112, 1]⟩).symm n 1).val
  · refine Eq.trans (dif_pos fun a => ?_) (Eq.trans ?_ (if_pos hc).symm)
    · match a with
      | ⟨0, _⟩ => show 0 ≤ b.val * 1 + ((Shape.rowMajor ⟨3, ![1, 4112, 1]⟩).symm n 0).val ∧ b.val * 1 + ((Shape.rowMajor ⟨3, ![1, 4112, 1]⟩).symm n 0).val - 0 < 4; omega
      | ⟨1, _⟩ => show 4111 ≤ j.val * 1 + ((Shape.rowMajor ⟨3, ![1, 4112, 1]⟩).symm n 1).val ∧ j.val * 1 + ((Shape.rowMajor ⟨3, ![1, 4112, 1]⟩).symm n 1).val - 4111 < 4112; omega
      | ⟨2, _⟩ => show 0 ≤ k.val * 1 + ((Shape.rowMajor ⟨3, ![1, 4112, 1]⟩).symm n 2).val ∧ k.val * 1 + ((Shape.rowMajor ⟨3, ![1, 4112, 1]⟩).symm n 2).val - 0 < 512; omega
    · refine Eq.trans (congrArg x (funext fun a => Fin.ext ?_)) (hF ⟨j.val + ((Shape.rowMajor ⟨3, ![1, 4112, 1]⟩).symm n 1).val - 4111, by omega⟩)
      match a with
      | ⟨0, _⟩ => show b.val * 1 + ((Shape.rowMajor ⟨3, ![1, 4112, 1]⟩).symm n 0).val - 0 = b.val; omega
      | ⟨1, _⟩ => show j.val * 1 + ((Shape.rowMajor ⟨3, ![1, 4112, 1]⟩).symm n 1).val - 4111 = j.val + ((Shape.rowMajor ⟨3, ![1, 4112, 1]⟩).symm n 1).val - 4111; omega
      | ⟨2, _⟩ => show k.val * 1 + ((Shape.rowMajor ⟨3, ![1, 4112, 1]⟩).symm n 2).val - 0 = k.val; omega
  · refine Eq.trans (dif_neg fun hin => hc ?_) (if_neg hc).symm
    have := (hin 1).1
    change 4111 ≤ j.val * 1 + ((Shape.rowMajor ⟨3, ![1, 4112, 1]⟩).symm n 1).val at this
    omega

/-- A copy of the rows with rows put before them. -/
theorem shifted {P w : Nat} (Y : (⟨3, ![4, 4112, 512]⟩ : Shape).Idx → EReal) (v : (⟨0, ![]⟩ : Shape).Idx → EReal)
    (h : (⟨3, ![4, 4112, 512]⟩ : Shape).Pads ![0, w, 0] ![0, 0, 0] ![0, 0, 0] ⟨3, ![4, P, 512]⟩) (hu : 0 < (⟨0, ![]⟩ : Shape).numel)
    (i : (⟨3, ![4, P, 512]⟩ : Shape).Idx) (b : Fin 4) (j : Fin 4112) (k : Fin 512) (h0 : (i 0).val = b.val) (h1 : (i 1).val = w + j.val) (h2 : (i 2).val = k.val) :
    pad ⟨3, ![4, P, 512]⟩ ![0, w, 0] ![0, 0, 0] ![0, 0, 0] Y v h hu i = Y (ix3 b j k) :=
  pad_apply_of_inside _ _ _ Y v h hu i (ix3 b j k) fun a => by
    match a with
    | ⟨0, _⟩ => show (i 0).val = 0 + b.val * (0 + 1); omega
    | ⟨1, _⟩ => show (i 1).val = w + j.val * (0 + 1); omega
    | ⟨2, _⟩ => show (i 2).val = 0 + k.val * (0 + 1); omega

/-! ## Differences of running sums -/

theorem window_sub (f : Nat → ℝ) (w j : Nat) (hw : w ≤ j) :
    ∑ i ∈ Finset.range (j + 1), f i - ∑ i ∈ Finset.range (j - w + 1), f i = ∑ s ∈ Finset.range w, f (j - s) := by
  rw [show j + 1 = (j - w + 1) + w by omega, Finset.sum_range_add, add_sub_cancel_left, ← Finset.sum_range_reflect]
  refine Finset.sum_congr rfl fun s hs => congrArg f ?_
  have := Finset.mem_range.1 hs
  omega

/-- The group's window length as both programs write it. -/
theorem lit_2 : Ideal.ofBits .f32 0x40000000#32 = ((2 : ℝ) : EReal) := by
  simp [Ideal.ofBits, Ideal.ieee, -EReal.coe_mul]; norm_num
theorem lit_4 : Ideal.ofBits .f32 0x40800000#32 = ((4 : ℝ) : EReal) := by
  simp [Ideal.ofBits, Ideal.ieee, -EReal.coe_mul]; norm_num
theorem lit_8 : Ideal.ofBits .f32 0x41000000#32 = ((8 : ℝ) : EReal) := by
  simp [Ideal.ofBits, Ideal.ieee, -EReal.coe_mul]; norm_num
theorem lit_16 : Ideal.ofBits .f32 0x41800000#32 = ((16 : ℝ) : EReal) := by
  simp [Ideal.ofBits, Ideal.ieee, -EReal.coe_mul]; norm_num
theorem winv_coe (q : Fin 4) : winv q = ((1 / (wlen q : ℝ) : ℝ) : EReal) := by
  match q with
  | ⟨0, _⟩ => simp [winv, wlen, Ideal.ofBits, Ideal.ieee, -EReal.coe_mul]; norm_num
  | ⟨1, _⟩ => simp [winv, wlen, Ideal.ofBits, Ideal.ieee, -EReal.coe_mul]; norm_num
  | ⟨2, _⟩ => simp [winv, wlen, Ideal.ofBits, Ideal.ieee, -EReal.coe_mul]; norm_num
  | ⟨3, _⟩ => simp [winv, wlen, Ideal.ofBits, Ideal.ieee, -EReal.coe_mul]; norm_num

theorem wlen_pos (q : Fin 4) : 0 < wlen q := by revert q; decide
theorem wlen_le (q : Fin 4) : wlen q ≤ 16 := by revert q; decide

/-- The count of rows up to `j` in a group's window, from the sixteenth row on. -/
theorem count_at (q : Fin 4) (W : EReal) (hW : W = ((wlen q : ℝ) : EReal)) (j : Nat) (h16 : 16 ≤ j) (n : BitVec 32) (hn : n.toInt = (j : Int)) :
    min (Ideal.ofBits .f32 0x3F800000#32 + (FloatOps.sitofp (F := Ideal) .f32 n : EReal)) W = ((wlen q : ℝ) : EReal) := by
  have e : (FloatOps.sitofp (F := Ideal) .f32 n : EReal) = (((n.toInt : ℝ)) : EReal) := rfl
  rw [e, hn, hW, Ideal.ofBits_one_f32, ← EReal.coe_one, ← EReal.coe_add]
  refine min_eq_right (EReal.coe_le_coe_iff.2 ?_)
  have h1 : wlen q ≤ 1 + j := by have := wlen_le q; omega
  have h2 : ((wlen q : ℕ) : ℝ) ≤ ((1 + j : ℕ) : ℝ) := Nat.cast_le.2 h1
  push_cast at h2 ⊢
  exact h2

theorem pooled_of_sums (q : Fin 4) (F : Nat → EReal) (hF : ∀ i, ∃ r : ℝ, F i = r) (j : Nat) (h16 : 16 ≤ j) :
    Ideal.div (∑ i ∈ Finset.range (j + 1), F i - ∑ i ∈ Finset.range (j - wlen q + 1), F i) ((wlen q : ℝ) : EReal) - F j = pooled F q j := by
  obtain ⟨f, hf⟩ := Classical.axiom_of_choice hF
  obtain rfl : F = fun i => ((f i : ℝ) : EReal) := funext hf
  have hw := wlen_le q
  have hp : (0 : ℝ) < wlen q := Nat.cast_pos.2 (wlen_pos q)
  unfold pooled
  rw [← Cert.Hand.coe_sum, ← Cert.Hand.coe_sum, ← Cert.Hand.coe_sum, ← EReal.coe_sub, window_sub f _ _ (by omega), Cert.Hand.div_coe _ _ hp.ne', winv_coe, ← EReal.coe_mul]
  exact congrArg (fun r : ℝ => (r : EReal) - ((f j : ℝ) : EReal)) (by rw [div_eq_mul_one_div])

/-! ## Finite numbers -/

theorem add_real {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add _ _).symm⟩
theorem mul_real {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul _ _).symm⟩
theorem sum_real {ι : Type} (s : Finset ι) (f : ι → EReal) (hf : ∀ i, ∃ r : ℝ, f i = r) : ∃ r : ℝ, ∑ i ∈ s, f i = r := by
  obtain ⟨g, hg⟩ := Classical.axiom_of_choice hf
  exact ⟨∑ i ∈ s, g i, by rw [Cert.Hand.coe_sum]; exact Finset.sum_congr rfl fun i _ => hg i⟩

theorem len_coe : len = ((2048 : ℝ) : EReal) := by
  simp [len, Ideal.ofBits, Ideal.ieee, -EReal.coe_mul]; norm_num
theorem alpha_real : ∃ r : ℝ, alpha = r := ⟨_, by simp [alpha, Ideal.ofBits, Ideal.ieee, -EReal.coe_mul]; rfl⟩
theorem eps_pos : ∃ r : ℝ, 0 < r ∧ eps = r := ⟨10995116 / 1099511627776, by norm_num, by
  simp [eps, Ideal.ofBits, Ideal.ieee, -EReal.coe_mul]; norm_num⟩

/-- The layer norm of finite numbers is finite. -/
theorem ln_real (r g b : Fin 2048 → EReal) (hr : ∀ e, ∃ x : ℝ, r e = x) (hg : ∀ e, ∃ x : ℝ, g e = x) (hb : ∀ e, ∃ x : ℝ, b e = x) (e : Fin 2048) :
    ∃ x : ℝ, ln r g b e = x := by
  obtain ⟨f, hf⟩ := Classical.axiom_of_choice hr
  obtain rfl : r = fun i => ((f i : ℝ) : EReal) := funext hf
  obtain ⟨p, hp, he⟩ := eps_pos
  have hm : mean (fun i => ((f i : ℝ) : EReal)) = (((∑ k, f k) / 2048 : ℝ) : EReal) := by
    unfold mean
    rw [len_coe, ← Cert.Hand.coe_sum, Cert.Hand.div_coe _ _ (by norm_num)]
  have hv : mean (fun k => (((f k : ℝ) : EReal) - mean (fun i => ((f i : ℝ) : EReal))) * (((f k : ℝ) : EReal) - mean (fun i => ((f i : ℝ) : EReal))))
      = (((∑ k, (f k - (∑ k, f k) / 2048) * (f k - (∑ k, f k) / 2048)) / 2048 : ℝ) : EReal) := by
    rw [hm]
    unfold mean
    rw [len_coe, ← Cert.Hand.div_coe (∑ k, (f k - (∑ k, f k) / 2048) * (f k - (∑ k, f k) / 2048)) 2048 (by norm_num), Cert.Hand.coe_sum]
    refine congrArg (Ideal.div · ((2048 : ℝ) : EReal)) (Finset.sum_congr rfl fun k _ => ?_)
    rw [EReal.coe_mul, EReal.coe_sub]
  have h0 : 0 ≤ (∑ k, (f k - (∑ k, f k) / 2048) * (f k - (∑ k, f k) / 2048)) / 2048 := div_nonneg (Finset.sum_nonneg fun k _ => mul_self_nonneg _) (by norm_num)
  have hq : ∀ x : ℝ, 0 < x → Ideal.rsqrt (x : EReal) = (((Real.sqrt x)⁻¹ : ℝ) : EReal) := fun x hx => by
    show (if x < 0 then ⊥ else if x = 0 then ⊤ else (((Real.sqrt x)⁻¹ : ℝ) : EReal)) = _
    rw [if_neg (not_lt.2 hx.le), if_neg hx.ne']
  unfold ln
  rw [hv, hm, he, ← EReal.coe_add, hq _ (by linarith), ← EReal.coe_sub]
  exact add_real (mul_real (mul_real ⟨_, rfl⟩ ⟨_, rfl⟩) (hg e)) (hb e)

end Cert.Rows

end
-- ==== Proof.BoundaryRef.lean ====
/-
  THE FIRST LAYER NORM'S AND THE POOLING MIXER'S REFERENCE: its three results at an index. The layer norm and the input
  projection are the rows the kernel computes; the windows' means, written as differences of running sums, are the kernel's
  direct sums when the numbers are finite.
-/
module
public import proofs.«01_k».proof.Proof.BoundaryRes
public import proofs.«01_k».proof.Proof.BoundarySum
public import proofs.«01_k».proof.Proof.Gen.Reference4Ideal.Read
public import Idealize.ShloMosaic.Lib.Pipeline.ValueKit.Tiles
@[expose] public section
set_option maxRecDepth 16384

noncomputable section

namespace Cert.Reference4Ideal.Hand

open Idealize.ShloMosaic
open Cert.Reference4Ideal Cert.Reference4Ideal.Gen Cert.Reference4Ideal.Read Cert.Rows Idealize.ShloMosaic.TcCoe Idealize.SL.Sem Idealize.ShloMosaic.ValueIdx

variable (x0 : (⟨S4x4096x2048, .f32⟩ : BufTy).Contents (Elt Ideal)) (x1 : (⟨S2048x2048, .f32⟩ : BufTy).Contents (Elt Ideal)) (x2 : (⟨S4x4096x2048, .f32⟩ : BufTy).Contents (Elt Ideal))
  (x3 x4 : (⟨S2048, .f32⟩ : BufTy).Contents (Elt Ideal)) (x5 : (⟨S2048x4096, .f32⟩ : BufTy).Contents (Elt Ideal)) (x6 : (⟨S16x2048, .f32⟩ : BufTy).Contents (Elt Ideal))

/-! ## The layer norm -/

/-- A row before its layer norm. -/
def pre (b : Fin 4) (t : Fin 4096) (e : Fin 2048) : EReal := alpha * x2 (ix3 b t e) + ∑ k, x0 (ix3 b t k) * x1 (ix2 k e)

theorem v3_at (b : Fin 4) (t : Fin 4096) (e : Fin 2048) : val_main_v3 (F := Ideal) x0 x1 x2 (ix3 b t e) = pre x0 x1 x2 b t e := by
  rw [val_main_v3_apply, val_main_v1_apply, val_main_v0_apply, val_main_v2_apply]
  refine congrArg (alpha * x2 (ix3 b t e) + ·) (Finset.sum_congr rfl fun k _ => ?_)
  refine congr (congrArg HMul.hMul (congrArg x0 (funext fun a => ?_))) (congrArg x1 (funext fun a => ?_))
  · match a with
    | ⟨0, _⟩ => rfl
    | ⟨1, _⟩ => rfl
    | ⟨2, _⟩ => rfl
  · match a with
    | ⟨0, _⟩ => rfl
    | ⟨1, _⟩ => rfl

theorem v7_at (b : Fin 4) (t : Fin 4096) (i : S4x4096x1.Idx) (h0 : i 0 = b) (h1 : i 1 = t) :
    val_main_v7 (F := Ideal) x0 x1 x2 i = mean (pre x0 x1 x2 b t) := by
  rw [val_main_v7_apply, val_main_v5_apply, val_main_v4_apply, val_main_v6_apply]
  show Ideal.div (Ideal.ofBits .f32 0x00000000#32 + _) len = Ideal.div _ len
  rw [Ideal.ofBits_zero_f32, zero_add]
  refine congrArg (Ideal.div · len) (Finset.sum_congr rfl fun n _ => Eq.trans (congrArg (val_main_v3 (F := Ideal) x0 x1 x2) (funext fun a => ?_)) (v3_at x0 x1 x2 b t n))
  match a with
  | ⟨0, _⟩ => exact h0
  | ⟨1, _⟩ => exact h1
  | ⟨2, _⟩ => rfl

theorem v9_at (b : Fin 4) (t : Fin 4096) (i : S4x4096x2048.Idx) (n : Fin 2048) (hi : i = ix3 b t n) :
    val_main_v9 (F := Ideal) x0 x1 x2 i = pre x0 x1 x2 b t n - mean (pre x0 x1 x2 b t) := by
  subst hi
  rw [val_main_v9_apply, val_main_v8_apply, v7_at x0 x1 x2 b t _ rfl rfl, v3_at]
  rfl

theorem v14_at (b : Fin 4) (t : Fin 4096) (i : S4x4096x1.Idx) (h0 : i 0 = b) (h1 : i 1 = t) :
    val_main_v14 (F := Ideal) x0 x1 x2 i = mean (fun k => (pre x0 x1 x2 b t k - mean (pre x0 x1 x2 b t)) * (pre x0 x1 x2 b t k - mean (pre x0 x1 x2 b t))) := by
  rw [val_main_v14_apply, val_main_v12_apply, val_main_v11_apply, val_main_v13_apply]
  show Ideal.div (Ideal.ofBits .f32 0x00000000#32 + _) len = Ideal.div _ len
  rw [Ideal.ofBits_zero_f32, zero_add]
  refine congrArg (Ideal.div · len) (Finset.sum_congr rfl fun n _ => ?_)
  rw [val_main_v10_apply, v9_at x0 x1 x2 b t _ n (funext fun a => by
    match a with
    | ⟨0, _⟩ => exact h0
    | ⟨1, _⟩ => exact h1
    | ⟨2, _⟩ => rfl)]
  rfl

/-- The layer norm's row. -/
def hR (b : Fin 4) (t : Fin 4096) : Fin 2048 → EReal :=
  hRow (fun k => x0 (ix3 b t k)) (fun k => x2 (ix3 b t k)) (fun k e => x1 (ix2 k e)) (fun k => x3 (ix1 k)) fun k => x4 (ix1 k)

theorem v27_at (b : Fin 4) (t : Fin 4096) (e : Fin 2048) : val_main_v27 (F := Ideal) x0 x1 x2 x3 x4 (ix3 b t e) = hR x0 x1 x2 x3 x4 b t e := by
  rw [val_main_v27_apply, val_main_v24_apply, val_main_v21_apply, val_main_v16_apply, val_main_v15_apply, v7_at x0 x1 x2 b t _ rfl rfl, v3_at,
    val_main_v20_apply, val_main_v19_apply, val_main_v18_apply, v14_at x0 x1 x2 b t _ rfl rfl, val_main_v17_apply, val_main_v23_apply, val_main_v22_apply,
    val_main_v26_apply, val_main_v25_apply]
  have hi : ∀ i : S2048.Idx, (i 0).val = e.val → i = ix1 e := fun i h => funext fun a => by match a with | ⟨0, _⟩ => exact Fin.ext h
  rw [hi (idx_main_v22 _) rfl, hi (idx_main_v25 _) rfl]
  rfl

/-! ## The input projection and the rows the windows run over -/

/-- The input projection's row. -/
def uR (b : Fin 4) (t : Fin 4096) : Fin 4096 → EReal := inRow (hR x0 x1 x2 x3 x4 b t) fun k e => x5 (ix2 k e)

theorem v28_at (b : Fin 4) (t e : Fin 4096) : val_main_v28 (F := Ideal) x0 x1 x2 x3 x4 x5 (ix3 b t e) = uR x0 x1 x2 x3 x4 x5 b t e := by
  rw [val_main_v28_apply]
  show _ = ∑ k : Fin 2048, hR x0 x1 x2 x3 x4 b t k * x5 (ix2 k e)
  refine Finset.sum_congr rfl fun k _ => ?_
  rw [← v27_at]
  refine congr (congrArg HMul.hMul (congrArg (val_main_v27 (F := Ideal) x0 x1 x2 x3 x4) (funext fun a => ?_))) (congrArg x5 (funext fun a => ?_))
  · match a with
    | ⟨0, _⟩ => rfl
    | ⟨1, _⟩ => rfl
    | ⟨2, _⟩ => rfl
  · match a with
    | ⟨0, _⟩ => rfl
    | ⟨1, _⟩ => rfl

/-- A column of the sixteen given rows and the projection's rows after them. -/
def XR (b : Fin 4) (e : Fin 2048) (j : Nat) : EReal :=
  if h : j < 16 then x6 (ix2 (⟨j, h⟩ : Fin 16) e) else if h' : j < 4112 then uR x0 x1 x2 x3 x4 x5 b ⟨j - 16, by omega⟩ ⟨e.val, by omega⟩ else 0

theorem v33_at (b : Fin 4) (i : Fin 4112) (e : Fin 2048) : val_main_v33 (F := Ideal) x0 x1 x2 x3 x4 x5 x6 (ix3 b i e) = XR x0 x1 x2 x3 x4 x5 x6 b e i.val := by
  unfold val_main_v33 XR
  by_cases hi : i.val < 16
  · rw [dif_pos hi]
    refine (concatenate_pair_apply_left (t := S4x4112x2048) (1 : Fin 3) _ _ concatenates_S4x16x2048_S4x4096x2048_S4x4112x2048_d1 (ix3 b i e) rfl (ix3 b (⟨i.val, hi⟩ : Fin 16) e) (fun a => by
      match a with
      | ⟨0, _⟩ => rfl
      | ⟨1, _⟩ => rfl
      | ⟨2, _⟩ => rfl)).trans ?_
    rw [val_main_v32_apply, val_main_v31_apply]
    refine congrArg x6 (funext fun a => ?_)
    match a with
    | ⟨0, _⟩ => rfl
    | ⟨1, _⟩ => rfl
  · rw [dif_neg hi, dif_pos i.isLt]
    refine (concatenate_pair_apply_right (t := S4x4112x2048) (1 : Fin 3) _ _ concatenates_S4x16x2048_S4x4096x2048_S4x4112x2048_d1 (ix3 b i e) rfl rfl (ix3 b (⟨i.val - 16, by omega⟩ : Fin 4096) e) (fun a ha => by
      match a with
      | ⟨0, _⟩ => rfl
      | ⟨1, _⟩ => exact absurd rfl ha
      | ⟨2, _⟩ => rfl) (by show i.val - 16 + 16 = i.val; omega)).trans ?_
    rw [val_main_v29_apply, ← v28_at]
    refine congrArg (val_main_v28 (F := Ideal) x0 x1 x2 x3 x4 x5) (funext fun a => Fin.ext ?_)
    match a with
    | ⟨0, _⟩ => rfl
    | ⟨1, _⟩ => rfl
    | ⟨2, _⟩ => rfl

theorem v34_at (i : S4x4112x4x512.Idx) (b : Fin 4) (j : Fin 4112) (e : Fin 2048) (h0 : (i 0).val = b.val) (h1 : (i 1).val = j.val) (h2 : (i 2).val * 512 + (i 3).val = e.val) :
    val_main_v34 (F := Ideal) x0 x1 x2 x3 x4 x5 x6 i = XR x0 x1 x2 x3 x4 x5 x6 b e j.val := by
  rw [val_main_v34_apply, ← v33_at]
  have i3 : (i 3).val < 512 := (i 3).isLt
  refine congrArg (val_main_v33 (F := Ideal) x0 x1 x2 x3 x4 x5 x6) (funext fun a => Fin.ext ?_)
  match a with
  | ⟨0, _⟩ => show ((((i 0).val * 4112 + (i 1).val) * 4 + (i 2).val) * 512 + (i 3).val) / 8421376 = b.val; omega
  | ⟨1, _⟩ => show ((((i 0).val * 4112 + (i 1).val) * 4 + (i 2).val) * 512 + (i 3).val) / 2048 % 4112 = j.val; omega
  | ⟨2, _⟩ => show ((((i 0).val * 4112 + (i 1).val) * 4 + (i 2).val) * 512 + (i 3).val) % 2048 = e.val; omega

/-! ## The windows' means -/

theorem iota_at (i : S4112.Idx) (j : Nat) (h : (i 0).val = j) :
    ∃ n : BitVec 32, n.toInt = (j : Int) ∧ val_main_v37 (F := Ideal) i = Ideal.ofBits .f32 0x3F800000#32 + (FloatOps.sitofp (F := Ideal) .f32 n : EReal) := by
  have hi : (i 0).val < 4112 := (i 0).isLt
  refine ⟨BitVec.ofNat 32 j, ?_, ?_⟩
  · rw [BitVec.toInt_eq_toNat_of_lt (by rw [BitVec.toNat_ofNat]; omega), BitVec.toNat_ofNat]; omega
  · subst h
    rw [val_main_v37_apply, val_main_v36_apply]
    rfl

/-- A zero as the reference writes it for the rows before the first. -/
theorem pad_zero (z : (⟨0, ![]⟩ : Shape).Idx) : val_main_call0_call0_v0 (F := Ideal) z = (0 : EReal) := by
  rw [val_main_call0_call0_v0_apply]; exact Ideal.ofBits_zero_f32

variable (hX : ∀ b e j, ∃ r : ℝ, XR x0 x1 x2 x3 x4 x5 x6 b e j = r)
include hX

omit hX in
theorem v39_at (b : Fin 4) (i : Fin 4112) (k : Fin 512) : val_main_v39 (F := Ideal) x0 x1 x2 x3 x4 x5 x6 (ix3 b i k) = XR x0 x1 x2 x3 x4 x5 x6 b ⟨0 + k.val, by omega⟩ i.val := by
  rw [val_main_v39_apply, val_main_v38_apply]
  refine v34_at x0 x1 x2 x3 x4 x5 x6 _ b i _ ?_ ?_ ?_
  · show ((b.val * 4112 + i.val) * 512 + k.val) / 2105344 = b.val; omega
  · show ((b.val * 4112 + i.val) * 512 + k.val) / 512 % 4112 = i.val; omega
  · show 0 * 512 + ((b.val * 4112 + i.val) * 512 + k.val) % 512 = 0 + k.val; omega

omit hX in
theorem v40_at (b : Fin 4) (j : Fin 4112) (k : Fin 512) :
    val_main_v40 (F := Ideal) x0 x1 x2 x3 x4 x5 x6 (ix3 b j k) = ∑ i ∈ Finset.range (j.val + 1), XR x0 x1 x2 x3 x4 x5 x6 b ⟨0 + k.val, by omega⟩ i :=
  cumsum_at _ _ (fun z => by rw [val_main_call0_call0_v0_apply]; exact Ideal.ofBits_zero_f32) _ _ b j k _ fun i => v39_at x0 x1 x2 x3 x4 x5 x6 b i k

theorem v50_at (b : Fin 4) (j : Fin 4112) (k : Fin 512) (h16 : 16 ≤ j.val) :
    val_main_v50 (F := Ideal) x0 x1 x2 x3 x4 x5 x6 (ix3 b j k) = pooled (XR x0 x1 x2 x3 x4 x5 x6 b ⟨0 + k.val, by omega⟩) 0 j.val := by
  have e1 : val_main_v42 (F := Ideal) x0 x1 x2 x3 x4 x5 x6 (ix3 b j k) = ∑ i ∈ Finset.range (j.val + 1), XR x0 x1 x2 x3 x4 x5 x6 b ⟨0 + k.val, by omega⟩ i := by
    rw [val_main_v42_apply]
    exact (shifted _ _ _ _ _ b j k rfl rfl rfl).trans (v40_at x0 x1 x2 x3 x4 x5 x6 b j k)
  have e2 : val_main_v43 (F := Ideal) x0 x1 x2 x3 x4 x5 x6 (ix3 b j k) = ∑ i ∈ Finset.range (j.val - 2 + 1), XR x0 x1 x2 x3 x4 x5 x6 b ⟨0 + k.val, by omega⟩ i := by
    rw [val_main_v43_apply]
    exact (shifted _ _ _ _ _ b (⟨j.val - 2, by omega⟩ : Fin 4112) k rfl (by show j.val = 2 + (j.val - 2); omega) rfl).trans (v40_at x0 x1 x2 x3 x4 x5 x6 b ⟨j.val - 2, by omega⟩ k)
  obtain ⟨n, hn, hc⟩ := iota_at (idx_main_v47 (idx_main_v48 (ix3 b j k))) j.val rfl
  have e3 : val_main_v48 (F := Ideal) (ix3 b j k) = ((wlen 0 : ℝ) : EReal) := by
    rw [val_main_v48_apply, val_main_v47_apply, val_main_v46_apply, hc, val_main_v45_apply]
    exact count_at 0 _ lit_2 j.val h16 n hn
  rw [val_main_v50_apply, val_main_v49_apply, val_main_v44_apply, e1, e2, e3, v39_at]
  exact pooled_of_sums 0 _ (hX b _) j.val h16

omit hX in
theorem v52_at (b : Fin 4) (i : Fin 4112) (k : Fin 512) : val_main_v52 (F := Ideal) x0 x1 x2 x3 x4 x5 x6 (ix3 b i k) = XR x0 x1 x2 x3 x4 x5 x6 b ⟨512 + k.val, by omega⟩ i.val := by
  rw [val_main_v52_apply, val_main_v51_apply]
  refine v34_at x0 x1 x2 x3 x4 x5 x6 _ b i _ ?_ ?_ ?_
  · show ((b.val * 4112 + i.val) * 512 + k.val) / 2105344 = b.val; omega
  · show ((b.val * 4112 + i.val) * 512 + k.val) / 512 % 4112 = i.val; omega
  · show (1 + 0) * 512 + ((b.val * 4112 + i.val) * 512 + k.val) % 512 = 512 + k.val; omega

omit hX in
theorem v53_at (b : Fin 4) (j : Fin 4112) (k : Fin 512) :
    val_main_v53 (F := Ideal) x0 x1 x2 x3 x4 x5 x6 (ix3 b j k) = ∑ i ∈ Finset.range (j.val + 1), XR x0 x1 x2 x3 x4 x5 x6 b ⟨512 + k.val, by omega⟩ i :=
  cumsum_at _ _ (fun z => by rw [val_main_call2_call0_v0_apply]; exact Ideal.ofBits_zero_f32) _ _ b j k _ fun i => v52_at x0 x1 x2 x3 x4 x5 x6 b i k

theorem v63_at (b : Fin 4) (j : Fin 4112) (k : Fin 512) (h16 : 16 ≤ j.val) :
    val_main_v63 (F := Ideal) x0 x1 x2 x3 x4 x5 x6 (ix3 b j k) = pooled (XR x0 x1 x2 x3 x4 x5 x6 b ⟨512 + k.val, by omega⟩) 1 j.val := by
  have e1 : val_main_v55 (F := Ideal) x0 x1 x2 x3 x4 x5 x6 (ix3 b j k) = ∑ i ∈ Finset.range (j.val + 1), XR x0 x1 x2 x3 x4 x5 x6 b ⟨512 + k.val, by omega⟩ i := by
    rw [val_main_v55_apply]
    exact (shifted _ _ _ _ _ b j k rfl rfl rfl).trans (v53_at x0 x1 x2 x3 x4 x5 x6 b j k)
  have e2 : val_main_v56 (F := Ideal) x0 x1 x2 x3 x4 x5 x6 (ix3 b j k) = ∑ i ∈ Finset.range (j.val - 4 + 1), XR x0 x1 x2 x3 x4 x5 x6 b ⟨512 + k.val, by omega⟩ i := by
    rw [val_main_v56_apply]
    exact (shifted _ _ _ _ _ b (⟨j.val - 4, by omega⟩ : Fin 4112) k rfl (by show j.val = 4 + (j.val - 4); omega) rfl).trans (v53_at x0 x1 x2 x3 x4 x5 x6 b ⟨j.val - 4, by omega⟩ k)
  obtain ⟨n, hn, hc⟩ := iota_at (idx_main_v60 (idx_main_v61 (ix3 b j k))) j.val rfl
  have e3 : val_main_v61 (F := Ideal) (ix3 b j k) = ((wlen 1 : ℝ) : EReal) := by
    rw [val_main_v61_apply, val_main_v60_apply, val_main_v59_apply, hc, val_main_v58_apply]
    exact count_at 1 _ lit_4 j.val h16 n hn
  rw [val_main_v63_apply, val_main_v62_apply, val_main_v57_apply, e1, e2, e3, v52_at]
  exact pooled_of_sums 1 _ (hX b _) j.val h16

omit hX in
theorem v65_at (b : Fin 4) (i : Fin 4112) (k : Fin 512) : val_main_v65 (F := Ideal) x0 x1 x2 x3 x4 x5 x6 (ix3 b i k) = XR x0 x1 x2 x3 x4 x5 x6 b ⟨1024 + k.val, by omega⟩ i.val := by
  rw [val_main_v65_apply, val_main_v64_apply]
  refine v34_at x0 x1 x2 x3 x4 x5 x6 _ b i _ ?_ ?_ ?_
  · show ((b.val * 4112 + i.val) * 512 + k.val) / 2105344 = b.val; omega
  · show ((b.val * 4112 + i.val) * 512 + k.val) / 512 % 4112 = i.val; omega
  · show (2 + 0) * 512 + ((b.val * 4112 + i.val) * 512 + k.val) % 512 = 1024 + k.val; omega

omit hX in
theorem v66_at (b : Fin 4) (j : Fin 4112) (k : Fin 512) :
    val_main_v66 (F := Ideal) x0 x1 x2 x3 x4 x5 x6 (ix3 b j k) = ∑ i ∈ Finset.range (j.val + 1), XR x0 x1 x2 x3 x4 x5 x6 b ⟨1024 + k.val, by omega⟩ i :=
  cumsum_at _ _ (fun z => by rw [val_main_call4_call0_v0_apply]; exact Ideal.ofBits_zero_f32) _ _ b j k _ fun i => v65_at x0 x1 x2 x3 x4 x5 x6 b i k

theorem v76_at (b : Fin 4) (j : Fin 4112) (k : Fin 512) (h16 : 16 ≤ j.val) :
    val_main_v76 (F := Ideal) x0 x1 x2 x3 x4 x5 x6 (ix3 b j k) = pooled (XR x0 x1 x2 x3 x4 x5 x6 b ⟨1024 + k.val, by omega⟩) 2 j.val := by
  have e1 : val_main_v68 (F := Ideal) x0 x1 x2 x3 x4 x5 x6 (ix3 b j k) = ∑ i ∈ Finset.range (j.val + 1), XR x0 x1 x2 x3 x4 x5 x6 b ⟨1024 + k.val, by omega⟩ i := by
    rw [val_main_v68_apply]
    exact (shifted _ _ _ _ _ b j k rfl rfl rfl).trans (v66_at x0 x1 x2 x3 x4 x5 x6 b j k)
  have e2 : val_main_v69 (F := Ideal) x0 x1 x2 x3 x4 x5 x6 (ix3 b j k) = ∑ i ∈ Finset.range (j.val - 8 + 1), XR x0 x1 x2 x3 x4 x5 x6 b ⟨1024 + k.val, by omega⟩ i := by
    rw [val_main_v69_apply]
    exact (shifted _ _ _ _ _ b (⟨j.val - 8, by omega⟩ : Fin 4112) k rfl (by show j.val = 8 + (j.val - 8); omega) rfl).trans (v66_at x0 x1 x2 x3 x4 x5 x6 b ⟨j.val - 8, by omega⟩ k)
  obtain ⟨n, hn, hc⟩ := iota_at (idx_main_v73 (idx_main_v74 (ix3 b j k))) j.val rfl
  have e3 : val_main_v74 (F := Ideal) (ix3 b j k) = ((wlen 2 : ℝ) : EReal) := by
    rw [val_main_v74_apply, val_main_v73_apply, val_main_v72_apply, hc, val_main_v71_apply]
    exact count_at 2 _ lit_8 j.val h16 n hn
  rw [val_main_v76_apply, val_main_v75_apply, val_main_v70_apply, e1, e2, e3, v65_at]
  exact pooled_of_sums 2 _ (hX b _) j.val h16

omit hX in
theorem v78_at (b : Fin 4) (i : Fin 4112) (k : Fin 512) : val_main_v78 (F := Ideal) x0 x1 x2 x3 x4 x5 x6 (ix3 b i k) = XR x0 x1 x2 x3 x4 x5 x6 b ⟨1536 + k.val, by omega⟩ i.val := by
  rw [val_main_v78_apply, val_main_v77_apply]
  refine v34_at x0 x1 x2 x3 x4 x5 x6 _ b i _ ?_ ?_ ?_
  · show ((b.val * 4112 + i.val) * 512 + k.val) / 2105344 = b.val; omega
  · show ((b.val * 4112 + i.val) * 512 + k.val) / 512 % 4112 = i.val; omega
  · show (3 + 0) * 512 + ((b.val * 4112 + i.val) * 512 + k.val) % 512 = 1536 + k.val; omega

omit hX in
theorem v79_at (b : Fin 4) (j : Fin 4112) (k : Fin 512) :
    val_main_v79 (F := Ideal) x0 x1 x2 x3 x4 x5 x6 (ix3 b j k) = ∑ i ∈ Finset.range (j.val + 1), XR x0 x1 x2 x3 x4 x5 x6 b ⟨1536 + k.val, by omega⟩ i :=
  cumsum_at _ _ (fun z => by rw [val_main_call6_call0_v0_apply]; exact Ideal.ofBits_zero_f32) _ _ b j k _ fun i => v78_at x0 x1 x2 x3 x4 x5 x6 b i k

theorem v89_at (b : Fin 4) (j : Fin 4112) (k : Fin 512) (h16 : 16 ≤ j.val) :
    val_main_v89 (F := Ideal) x0 x1 x2 x3 x4 x5 x6 (ix3 b j k) = pooled (XR x0 x1 x2 x3 x4 x5 x6 b ⟨1536 + k.val, by omega⟩) 3 j.val := by
  have e1 : val_main_v81 (F := Ideal) x0 x1 x2 x3 x4 x5 x6 (ix3 b j k) = ∑ i ∈ Finset.range (j.val + 1), XR x0 x1 x2 x3 x4 x5 x6 b ⟨1536 + k.val, by omega⟩ i := by
    rw [val_main_v81_apply]
    exact (shifted _ _ _ _ _ b j k rfl rfl rfl).trans (v79_at x0 x1 x2 x3 x4 x5 x6 b j k)
  have e2 : val_main_v82 (F := Ideal) x0 x1 x2 x3 x4 x5 x6 (ix3 b j k) = ∑ i ∈ Finset.range (j.val - 16 + 1), XR x0 x1 x2 x3 x4 x5 x6 b ⟨1536 + k.val, by omega⟩ i := by
    rw [val_main_v82_apply]
    exact (shifted _ _ _ _ _ b (⟨j.val - 16, by omega⟩ : Fin 4112) k rfl (by show j.val = 16 + (j.val - 16); omega) rfl).trans (v79_at x0 x1 x2 x3 x4 x5 x6 b ⟨j.val - 16, by omega⟩ k)
  obtain ⟨n, hn, hc⟩ := iota_at (idx_main_v86 (idx_main_v87 (ix3 b j k))) j.val rfl
  have e3 : val_main_v87 (F := Ideal) (ix3 b j k) = ((wlen 3 : ℝ) : EReal) := by
    rw [val_main_v87_apply, val_main_v86_apply, val_main_v85_apply, hc, val_main_v84_apply]
    exact count_at 3 _ lit_16 j.val h16 n hn
  rw [val_main_v89_apply, val_main_v88_apply, val_main_v83_apply, e1, e2, e3, v78_at]
  exact pooled_of_sums 3 _ (hX b _) j.val h16

theorem v95_at (i : S4x4112x2048.Idx) (b : Fin 4) (j : Fin 4112) (e : Fin 2048) (hi : i = ix3 b j e) (h16 : 16 ≤ j.val) :
    val_main_v95 (F := Ideal) x0 x1 x2 x3 x4 x5 x6 i = pooled (XR x0 x1 x2 x3 x4 x5 x6 b e) (grp e) j.val := by
  subst hi
  have hb := b.isLt
  have hj := j.isLt
  have he := e.isLt
  have hx : idx_main_v95 (ix3 b j e) = ix4 b j (grp e) (⟨e.val % 512, Nat.mod_lt _ (by decide)⟩ : Fin 512) := funext fun a => Fin.ext (by
    match a with
    | ⟨0, _⟩ => show ((b.val * 4112 + j.val) * 2048 + e.val) / 8421376 = b.val; omega
    | ⟨1, _⟩ => show ((b.val * 4112 + j.val) * 2048 + e.val) / 2048 % 4112 = j.val; omega
    | ⟨2, _⟩ => show ((b.val * 4112 + j.val) * 2048 + e.val) / 512 % 4 = e.val / 512; omega
    | ⟨3, _⟩ => show ((b.val * 4112 + j.val) * 2048 + e.val) % 512 = e.val % 512; omega)
  rw [val_main_v95_apply, hx]
  unfold val_main_v94
  refine concatenate_unit_eq (t := S4x4112x4x512) (2 : Fin 4) _ _ _ _ rfl ⟨?_, ?_, ?_, ?_, trivial⟩
  · intro hq hr i _ hoff
    have hg : e.val / 512 = 0 := hq
    refine (val_main_v90_apply x0 x1 x2 x3 x4 x5 x6 i).trans ?_
    rw [show idx_main_v90 i = ix3 b j (⟨e.val % 512, Nat.mod_lt _ (by decide)⟩ : Fin 512) from funext fun a => Fin.ext (by
      match a with
      | ⟨0, _⟩ => exact hoff 0 (by decide)
      | ⟨1, _⟩ => exact hoff 1 (by decide)
      | ⟨2, _⟩ => exact hoff 3 (by decide)), v50_at x0 x1 x2 x3 x4 x5 x6 hX b j _ h16]
    refine congr (congr (congrArg pooled (congrArg (XR x0 x1 x2 x3 x4 x5 x6 b) (Fin.ext ?_))) (Fin.ext ?_)) rfl
    · show 0 + e.val % 512 = e.val; omega
    · show 0 = e.val / 512; omega
  · intro hq hr i _ hoff
    have hg : e.val / 512 = 1 := hq
    refine (val_main_v91_apply x0 x1 x2 x3 x4 x5 x6 i).trans ?_
    rw [show idx_main_v91 i = ix3 b j (⟨e.val % 512, Nat.mod_lt _ (by decide)⟩ : Fin 512) from funext fun a => Fin.ext (by
      match a with
      | ⟨0, _⟩ => exact hoff 0 (by decide)
      | ⟨1, _⟩ => exact hoff 1 (by decide)
      | ⟨2, _⟩ => exact hoff 3 (by decide)), v63_at x0 x1 x2 x3 x4 x5 x6 hX b j _ h16]
    refine congr (congr (congrArg pooled (congrArg (XR x0 x1 x2 x3 x4 x5 x6 b) (Fin.ext ?_))) (Fin.ext ?_)) rfl
    · show 512 + e.val % 512 = e.val; omega
    · show 1 = e.val / 512; omega
  · intro hq hr i _ hoff
    have hg : e.val / 512 = 2 := hq
    refine (val_main_v92_apply x0 x1 x2 x3 x4 x5 x6 i).trans ?_
    rw [show idx_main_v92 i = ix3 b j (⟨e.val % 512, Nat.mod_lt _ (by decide)⟩ : Fin 512) from funext fun a => Fin.ext (by
      match a with
      | ⟨0, _⟩ => exact hoff 0 (by decide)
      | ⟨1, _⟩ => exact hoff 1 (by decide)
      | ⟨2, _⟩ => exact hoff 3 (by decide)), v76_at x0 x1 x2 x3 x4 x5 x6 hX b j _ h16]
    refine congr (congr (congrArg pooled (congrArg (XR x0 x1 x2 x3 x4 x5 x6 b) (Fin.ext ?_))) (Fin.ext ?_)) rfl
    · show 1024 + e.val % 512 = e.val; omega
    · show 2 = e.val / 512; omega
  · intro hq hr i _ hoff
    have hg : e.val / 512 = 3 := hq
    refine (val_main_v93_apply x0 x1 x2 x3 x4 x5 x6 i).trans ?_
    rw [show idx_main_v93 i = ix3 b j (⟨e.val % 512, Nat.mod_lt _ (by decide)⟩ : Fin 512) from funext fun a => Fin.ext (by
      match a with
      | ⟨0, _⟩ => exact hoff 0 (by decide)
      | ⟨1, _⟩ => exact hoff 1 (by decide)
      | ⟨2, _⟩ => exact hoff 3 (by decide)), v89_at x0 x1 x2 x3 x4 x5 x6 hX b j _ h16]
    refine congr (congr (congrArg pooled (congrArg (XR x0 x1 x2 x3 x4 x5 x6 b) (Fin.ext ?_))) (Fin.ext ?_)) rfl
    · show 1536 + e.val % 512 = e.val; omega
    · show 3 = e.val / 512; omega

/-! ## The results -/

theorem result1_at (b : Fin 4) (s : Fin 4096) (e : Fin 2048) (n : Fin 16384) (hn : n.val = b.val * 4096 + s.val) :
    val_main_v99 (F := Ideal) x0 x1 x2 x3 x4 x5 x6 (ix2 n e) = pooled (XR x0 x1 x2 x3 x4 x5 x6 b e) (grp e) (16 + s.val) := by
  have hi : idx_main_v99 (ix2 n e) = ix3 b s e := funext fun a => Fin.ext (by
    match a with
    | ⟨0, _⟩ => show (n.val * 2048 + e.val) / 8388608 = b.val; omega
    | ⟨1, _⟩ => show (n.val * 2048 + e.val) / 2048 % 4096 = s.val; omega
    | ⟨2, _⟩ => show (n.val * 2048 + e.val) % 2048 = e.val; omega)
  rw [val_main_v99_apply, hi, val_main_v98_apply, val_main_v97_apply]
  exact v95_at x0 x1 x2 x3 x4 x5 x6 hX _ b ⟨16 + s.val, by omega⟩ e (funext fun a => by
    match a with
    | ⟨0, _⟩ => rfl
    | ⟨1, _⟩ => rfl
    | ⟨2, _⟩ => rfl) (Nat.le_add_right _ _)

omit hX

theorem result0_at (b : Fin 4) (s : Fin 4096) (e : Fin 2048) (n : Fin 16384) (hn : n.val = b.val * 4096 + s.val) :
    val_main_v96 (F := Ideal) x0 x1 x2 x3 x4 (ix2 n e) = hR x0 x1 x2 x3 x4 b s e := by
  have hi : idx_main_v96 (ix2 n e) = ix3 b s e := funext fun a => Fin.ext (by
    match a with
    | ⟨0, _⟩ => show (n.val * 2048 + e.val) / 8388608 = b.val; omega
    | ⟨1, _⟩ => show (n.val * 2048 + e.val) / 2048 % 4096 = s.val; omega
    | ⟨2, _⟩ => show (n.val * 2048 + e.val) % 2048 = e.val; omega)
  rw [val_main_v96_apply, hi, v27_at]

theorem result2_at (b : Fin 4) (s : Fin 4096) (e : Fin 2048) (n : Fin 16384) (hn : n.val = b.val * 4096 + s.val) :
    val_main_v101 (F := Ideal) x0 x1 x2 x3 x4 x5 (ix2 n e) = uR x0 x1 x2 x3 x4 x5 b s ⟨2048 + e.val, by omega⟩ := by
  have hi : idx_main_v101 (ix2 n e) = ix3 b s e := funext fun a => Fin.ext (by
    match a with
    | ⟨0, _⟩ => show (n.val * 2048 + e.val) / 8388608 = b.val; omega
    | ⟨1, _⟩ => show (n.val * 2048 + e.val) / 2048 % 4096 = s.val; omega
    | ⟨2, _⟩ => show (n.val * 2048 + e.val) % 2048 = e.val; omega)
  rw [val_main_v101_apply, hi, val_main_v100_apply, val_main_v30_apply, ← v28_at]
  refine congrArg (val_main_v28 (F := Ideal) x0 x1 x2 x3 x4 x5) (funext fun a => Fin.ext ?_)
  match a with
  | ⟨0, _⟩ => rfl
  | ⟨1, _⟩ => rfl
  | ⟨2, _⟩ => rfl

/-! ## Finite arguments -/

theorem XR_real (h0 : ∀ i, ∃ r : ℝ, x0 i = r) (h1 : ∀ i, ∃ r : ℝ, x1 i = r) (h2 : ∀ i, ∃ r : ℝ, x2 i = r) (h3 : ∀ i, ∃ r : ℝ, x3 i = r) (h4 : ∀ i, ∃ r : ℝ, x4 i = r)
    (h5 : ∀ i, ∃ r : ℝ, x5 i = r) (h6 : ∀ i, ∃ r : ℝ, x6 i = r) (b : Fin 4) (e : Fin 2048) (j : Nat) : ∃ r : ℝ, XR x0 x1 x2 x3 x4 x5 x6 b e j = r := by
  unfold XR
  split
  · exact h6 _
  split
  · show ∃ r : ℝ, (∑ k, hR x0 x1 x2 x3 x4 b ⟨j - 16, _⟩ k * x5 (ix2 k ⟨e.val, _⟩)) = r
    refine sum_real _ _ fun k => mul_real ?_ (h5 _)
    show ∃ r : ℝ, ln (fun e => alpha * x2 (ix3 b _ e) + ∑ k, x0 (ix3 b _ k) * x1 (ix2 k e)) (fun k => x3 (ix1 k)) (fun k => x4 (ix1 k)) k = r
    exact ln_real _ _ _ (fun e => add_real (mul_real alpha_real (h2 _)) (sum_real _ _ fun k => mul_real (h0 _) (h1 _))) (fun e => h3 _) (fun e => h4 _) k
  · exact ⟨0, rfl⟩

end Cert.Reference4Ideal.Hand

end
-- ==== Proof.BoundaryClaims.lean ====
/-
  THE CLAIMS OF THE CALL AFTER THE ATTENTION: it terminates without a fault, keeps its arguments and ends with the
  reference's results when every element of the arguments is finite.
-/
module
public import proofs.«01_k».proof.Defs
public import proofs.«01_k».proof.Proof.BoundaryRef
public import proofs.«01_k».proof.Proof.Attention
public import proofs.«01_k».proof.Proof.Gen.Kernel4.Frame
public import proofs.«01_k».proof.Proof.Gen.Kernel4Ideal.Frame
public import proofs.«01_k».proof.Proof.Gen.Pre_finite4
public import Idealize.ShloMosaic.Adequacy
public import Idealize.ShloMosaic.Init
@[expose] public section
set_option maxRecDepth 16384

noncomputable section

namespace Cert.Proof.Boundary

open Idealize.ShloMosaic hiding ix0 ix1 ix2 ix3 ix4 eq_ix1 eq_ix2 eq_ix3 eq_ix4
open Idealize.ShloMosaic.TcCoe Idealize.SL.Sem Idealize.ShloMosaic.ValueIdx Cert.Rows

theorem frame_p : Cert.quiescent_Kernel4 := fun m ρ _ => Cert.Kernel4.Gen.frame m ρ
theorem frame_pi : Cert.quiescent_Kernel4Ideal := fun m ρ _ => Cert.Kernel4Ideal.Gen.frame m ρ
theorem frame_pi_finite : Cert.quiescent_Kernel4Ideal_pre_finite4 := fun m ρ _ => Cert.Kernel4Ideal.Gen.frame m ρ
theorem frame_ri : Cert.quiescent_Reference4Ideal := fun m ρ _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m ρ)
theorem frame_ri_finite : Cert.quiescent_Reference4Ideal_pre_finite4 := fun m ρ _ => frame_ri m ρ trivial
theorem preserves : Cert.preserves_Kernel4_Kernel4Ideal := trivial

/-- What the precondition says of one element. -/
theorem real_of (x : EReal) (h : FloatOps.cmpf (F := Ideal) (φ := .f32) .olt (FloatOps.hostAbsf x) (FloatOps.ofBits .f32 0x7F800000#32) = 1#1) : ∃ r : ℝ, x = r :=
  ⟨_, Attention.real_of_lt x h⟩

/-- The batch and the token of a row. -/
theorem split_row (n : Fin 16384) : ∃ (b : Fin 4) (s : Fin 4096), n.val = b.val * 4096 + s.val := by
  have := n.isLt
  exact ⟨⟨n.val / 4096, by omega⟩, ⟨n.val % 4096, Nat.mod_lt _ (by decide)⟩, by show n.val = n.val / 4096 * 4096 + n.val % 4096; omega⟩

section Agree
variable (m : (ℓ : Loc Cert.Kernel4Ideal.nD Cert.Kernel4Ideal.τ Cert.Kernel4Ideal.sig) → Buf (Elt Ideal) ℓ) (c : Dev Cert.Kernel4Ideal.nD)

/-- The reference's rows of the kernel's arguments are the kernel's rows. -/
theorem h_eq (b : Fin 4) (s : Fin 4096) (n : Fin 16384) (hn : n.val = b.val * 4096 + s.val) :
    Cert.Reference4Ideal.Hand.hR (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)) b s = Cert.Kernel4Ideal.Hand.HN m c n :=
  (Cert.Kernel4Ideal.Hand.HN_eq m c b s n hn).symm

theorem u_eq (b : Fin 4) (s : Fin 4096) (n : Fin 16384) (hn : n.val = b.val * 4096 + s.val) :
    Cert.Reference4Ideal.Hand.uR (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) b s
      = Cert.Kernel4Ideal.Hand.PN m c n := by
  rw [Cert.Kernel4Ideal.Hand.PN_eq]
  unfold Cert.Reference4Ideal.Hand.uR
  rw [h_eq m c b s n hn]

theorem x_eq (b : Fin 4) (e : Fin 2048) :
    Cert.Reference4Ideal.Hand.XR (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))
      (m ((c.tc : Thread Cert.Kernel4Ideal.nD Cert.Kernel4Ideal.τ).loc Cert.Kernel4Ideal.main_arg6)) b e
      = Cert.Kernel4Ideal.Hand.XN m c b e := funext fun j => by
  unfold Cert.Reference4Ideal.Hand.XR Cert.Kernel4Ideal.Hand.XN
  by_cases h : j < 16
  · rw [dif_pos h, dif_pos h]
  by_cases h' : j < 4112
  · rw [dif_neg h, dif_neg h, dif_pos h', dif_pos h', u_eq m c b ⟨j - 16, by omega⟩ ⟨b.val * 4096 + (j - 16), by omega⟩ rfl]
  · rw [dif_neg h, dif_neg h, dif_neg h', dif_neg h']

/-! ## The results -/

theorem eq_0 : Cert.Reference4Ideal.Read.val_main_v96 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) = (Cert.Kernel4Ideal.Gen.dats (F := Ideal) m 0 c).arrAt 7 Cert.Kernel4Ideal.cfg0.N := by
  funext i
  have hi : (i : Cert.Reference4Ideal.S16384x2048.Idx) = ix2 (i 0) (i 1) := eq_ix2 i
  obtain ⟨b, s, hn⟩ := split_row (i 0)
  rw [hi]
  exact (Cert.Reference4Ideal.Hand.result0_at _ _ _ _ _ b s (i 1) (i 0) hn).trans
    ((congrFun (h_eq m c b s (i 0) hn) (i 1)).trans (Cert.Kernel4Ideal.Hand.result7 m c (i 0) (i 1)).symm)

theorem eq_1 (hp : Cert.Pre_Kernel4Ideal_finite4 m) :
    Cert.Reference4Ideal.Read.val_main_v99 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) = (Cert.Kernel4Ideal.Gen.dats (F := Ideal) m 0 c).arrAt 8 Cert.Kernel4Ideal.cfg0.N := by
  funext i
  have hi : (i : Cert.Reference4Ideal.S16384x2048.Idx) = ix2 (i 0) (i 1) := eq_ix2 i
  obtain ⟨b, s, hn⟩ := split_row (i 0)
  obtain ⟨p0, p1, p2, p3, p4, p5, p6⟩ := hp c
  rw [hi]
  refine (Cert.Reference4Ideal.Hand.result1_at _ _ _ _ _ _ _ (Cert.Reference4Ideal.Hand.XR_real _ _ _ _ _ _ _ (fun i => real_of _ (congrFun p0 i)) (fun i => real_of _ (congrFun p1 i))
    (fun i => real_of _ (congrFun p2 i)) (fun i => real_of _ (congrFun p3 i)) (fun i => real_of _ (congrFun p4 i)) (fun i => real_of _ (congrFun p5 i)) (fun i => real_of _ (congrFun p6 i)))
    b s (i 1) (i 0) hn).trans ?_
  exact (congrArg (fun f => pooled f (grp (i 1)) (16 + s.val)) (x_eq m c b (i 1))).trans (Cert.Kernel4Ideal.Hand.result8 m c b s (i 0) hn (i 1)).symm

theorem eq_2 : Cert.Reference4Ideal.Read.val_main_v101 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) = (Cert.Kernel4Ideal.Gen.dats (F := Ideal) m 0 c).arrAt 9 Cert.Kernel4Ideal.cfg0.N := by
  funext i
  have hi : (i : Cert.Reference4Ideal.S16384x2048.Idx) = ix2 (i 0) (i 1) := eq_ix2 i
  obtain ⟨b, s, hn⟩ := split_row (i 0)
  rw [hi]
  exact (Cert.Reference4Ideal.Hand.result2_at _ _ _ _ _ _ b s (i 1) (i 0) hn).trans
    ((congrFun (u_eq m c b s (i 0) hn) _).trans (Cert.Kernel4Ideal.Hand.result9 m c (i 0) (i 1)).symm)

end Agree

theorem algebraic : Cert.algebraic_Kernel4Ideal_Reference4Ideal_pre_finite4 := by
  intro m ρ m' ρ' hp hagree
  refine ⟨_, _, _, Cert.Kernel4Ideal.Value.run_blocks (F := Ideal) m ρ, ?_⟩
  refine (θ_run Cert.Reference4Ideal.defs _ _).mono (fun _ h c => ⟨(h c).1.trans ?_, (h c).2.1.trans ?_, (h c).2.2.1.trans ?_, (h c).2.2.2⟩) (Cert.Reference4Ideal.Value.run (F := Ideal) m' ρ')
  · refine (Cert.Reference4Ideal.Read.val_main_v96_eq (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))).trans ?_
    obtain ⟨e0, e1, e2, e3, e4, e5, e6⟩ := hagree c
    rw [e0, e1, e2, e3, e4]
    exact eq_0 m c
  · refine (Cert.Reference4Ideal.Read.val_main_v99_eq (F := Ideal) m' c).trans ?_
    obtain ⟨e0, e1, e2, e3, e4, e5, e6⟩ := hagree c
    rw [e0, e1, e2, e3, e4, e5, e6]
    exact eq_1 m c hp
  · refine (Cert.Reference4Ideal.Read.val_main_v101_eq (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5))).trans ?_
    obtain ⟨e0, e1, e2, e3, e4, e5, e6⟩ := hagree c
    rw [e0, e1, e2, e3, e4, e5]
    exact eq_2 m c

end Cert.Proof.Boundary

end
-- ==== Proof.lean ====
/-
  The proof of `Cert.Claim`: the claims of the attention (Proof/Attention.lean), of the input projection (Proof/InProjClaims.lean), of
  the last call (Proof/TailRef.lean) and of the call between the mixers (Proof/BoundaryClaims.lean), behind the witnesses of the
  programs' stated facts.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Pre_finite4
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Read
public import proofs.«01_k».proof.Proof.Attention
public import proofs.«01_k».proof.Proof.InProjClaims
public import proofs.«01_k».proof.Proof.TailRef
public import proofs.«01_k».proof.Proof.BoundaryClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts, Cert.Pre_finite4.Gen.facts,
  Attention.frame_p, Attention.frame_pi, Attention.frame_pi_finite, Attention.frame_ri, Attention.frame_ri_finite,
  InProj.frame_p, InProj.frame_pi, InProj.frame_ri,
  Tail.frame_p, Tail.frame_pi, Tail.frame_ri,
  Boundary.frame_p, Boundary.frame_pi, Boundary.frame_pi_finite, Boundary.frame_ri, Boundary.frame_ri_finite,
  Attention.preserves, Attention.algebraic, InProj.preserves, InProj.algebraic,
  Tail.preserves, Tail.algebraic, Boundary.preserves, Boundary.algebraic⟩

end Cert.Proof

end
